-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernelIdeal : Cert.KernelIdeal.Facts) (hReferenceIdeal : Cert.ReferenceIdeal.Facts) (hPre_finite_arguments : Cert.Pre_finite_arguments.Facts),
    quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S2x1024x4 : Shape := ⟨3, ![2, 1024, 4]⟩
abbrev S4x128 : Shape := ⟨2, ![4, 128]⟩
abbrev S4x32 : Shape := ⟨2, ![4, 32]⟩
abbrev S128x32 : Shape := ⟨2, ![128, 32]⟩
abbrev S32x1 : Shape := ⟨2, ![32, 1]⟩
abbrev S32x128 : Shape := ⟨2, ![32, 128]⟩
abbrev S_ : Shape := ⟨0, ![]⟩

class Facts : Prop where
  bcast_S_S2x1024x4 : S_.BroadcastsInDim S2x1024x4 (![] : Fin 0 → Fin S2x1024x4.rank)
  bcast_S_S4x128 : S_.BroadcastsInDim S4x128 (![] : Fin 0 → Fin S4x128.rank)
  bcast_S_S4x32 : S_.BroadcastsInDim S4x32 (![] : Fin 0 → Fin S4x32.rank)
  bcast_S_S128x32 : S_.BroadcastsInDim S128x32 (![] : Fin 0 → Fin S128x32.rank)
  bcast_S_S32x1 : S_.BroadcastsInDim S32x1 (![] : Fin 0 → Fin S32x1.rank)
  bcast_S_S32x128 : S_.BroadcastsInDim S32x128 (![] : Fin 0 → Fin S32x128.rank)

variable [Facts]

def fn_part2 {F : FTy → Type} [FloatOps F] (main_arg12 : FVec F S32x1 .f32) (main_v2 : IVec S2x1024x4 1) (main_v5 : IVec S4x128 1) (main_v8 : IVec S4x32 1) (main_v11 : IVec S128x32 1) (main_v14 : IVec S128x32 1) (main_v17 : IVec S128x32 1) (main_v20 : IVec S32x1 1) (main_v23 : IVec S32x128 1) (main_v26 : IVec S128x32 1) (main_v29 : IVec S128x32 1) (main_v32 : IVec S128x32 1) (main_v35 : IVec S128x32 1) : IVec S2x1024x4 1 × IVec S4x128 1 × IVec S4x32 1 × IVec S128x32 1 × IVec S128x32 1 × IVec S128x32 1 × IVec S32x1 1 × IVec S32x128 1 × IVec S128x32 1 × IVec S128x32 1 × IVec S128x32 1 × IVec S128x32 1 × IVec S32x1 1 :=
  let main_v36 : FVec F S32x1 .f32 := Host.absf main_arg12
  let main_cst_11 : FVec F S_ .f32 := constant S_ .f32 0x7F800000#32
  let main_v37 : FVec F S32x1 .f32 := broadcastInDim S32x1 ![] bcast_S_S32x1 main_cst_11
  let main_v38 : IVec S32x1 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S32x1 .f32) (main_arg7 : FVec F S32x128 .f32) (main_arg8 : FVec F S128x32 .f32) (main_arg9 : FVec F S128x32 .f32) (main_arg10 : FVec F S128x32 .f32) (main_arg11 : FVec F S128x32 .f32) (main_arg12 : FVec F S32x1 .f32) (main_v2 : IVec S2x1024x4 1) (main_v5 : IVec S4x128 1) (main_v8 : IVec S4x32 1) (main_v11 : IVec S128x32 1) (main_v14 : IVec S128x32 1) (main_v17 : IVec S128x32 1) : IVec S2x1024x4 1 × IVec S4x128 1 × IVec S4x32 1 × IVec S128x32 1 × IVec S128x32 1 × IVec S128x32 1 × IVec S32x1 1 × IVec S32x128 1 × IVec S128x32 1 × IVec S128x32 1 × IVec S128x32 1 × IVec S128x32 1 × IVec S32x1 1 :=
  let main_v18 : FVec F S32x1 .f32 := Host.absf main_arg6
  let main_cst_5 : FVec F S_ .f32 := constant S_ .f32 0x7F800000#32
  let main_v19 : FVec F S32x1 .f32 := broadcastInDim S32x1 ![] bcast_S_S32x1 main_cst_5
  let main_v20 : IVec S32x1 1 := cmpf .olt main_v18 main_v19
  let main_v21 : FVec F S32x128 .f32 := Host.absf main_arg7
  let main_cst_6 : FVec F S_ .f32 := constant S_ .f32 0x7F800000#32
  let main_v22 : FVec F S32x128 .f32 := broadcastInDim S32x128 ![] bcast_S_S32x128 main_cst_6
  let main_v23 : IVec S32x128 1 := cmpf .olt main_v21 main_v22
  let main_v24 : FVec F S128x32 .f32 := Host.absf main_arg8
  let main_cst_7 : FVec F S_ .f32 := constant S_ .f32 0x7F800000#32
  let main_v25 : FVec F S128x32 .f32 := broadcastInDim S128x32 ![] bcast_S_S128x32 main_cst_7
  let main_v26 : IVec S128x32 1 := cmpf .olt main_v24 main_v25
  let main_v27 : FVec F S128x32 .f32 := Host.absf main_arg9
  let main_cst_8 : FVec F S_ .f32 := constant S_ .f32 0x7F800000#32
  let main_v28 : FVec F S128x32 .f32 := broadcastInDim S128x32 ![] bcast_S_S128x32 main_cst_8
  let main_v29 : IVec S128x32 1 := cmpf .olt main_v27 main_v28
  let main_v30 : FVec F S128x32 .f32 := Host.absf main_arg10
  let main_cst_9 : FVec F S_ .f32 := constant S_ .f32 0x7F800000#32
  let main_v31 : FVec F S128x32 .f32 := broadcastInDim S128x32 ![] bcast_S_S128x32 main_cst_9
  let main_v32 : IVec S128x32 1 := cmpf .olt main_v30 main_v31
  let main_v33 : FVec F S128x32 .f32 := Host.absf main_arg11
  let main_cst_10 : FVec F S_ .f32 := constant S_ .f32 0x7F800000#32
  let main_v34 : FVec F S128x32 .f32 := broadcastInDim S128x32 ![] bcast_S_S128x32 main_cst_10
  let main_v35 : IVec S128x32 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S2x1024x4 .f32) (main_arg1 : FVec F S4x128 .f32) (main_arg2 : FVec F S4x32 .f32) (main_arg3 : FVec F S128x32 .f32) (main_arg4 : FVec F S128x32 .f32) (main_arg5 : FVec F S128x32 .f32) (main_arg6 : FVec F S32x1 .f32) (main_arg7 : FVec F S32x128 .f32) (main_arg8 : FVec F S128x32 .f32) (main_arg9 : FVec F S128x32 .f32) (main_arg10 : FVec F S128x32 .f32) (main_arg11 : FVec F S128x32 .f32) (main_arg12 : FVec F S32x1 .f32) (main_arg13 : FVec F S32x128 .f32) : IVec S2x1024x4 1 × IVec S4x128 1 × IVec S4x32 1 × IVec S128x32 1 × IVec S128x32 1 × IVec S128x32 1 × IVec S32x1 1 × IVec S32x128 1 × IVec S128x32 1 × IVec S128x32 1 × IVec S128x32 1 × IVec S128x32 1 × IVec S32x1 1 :=
  let main_v0 : FVec F S2x1024x4 .f32 := Host.absf main_arg0
  let main_cst : FVec F S_ .f32 := constant S_ .f32 0x7F800000#32
  let main_v1 : FVec F S2x1024x4 .f32 := broadcastInDim S2x1024x4 ![] bcast_S_S2x1024x4 main_cst
  let main_v2 : IVec S2x1024x4 1 := cmpf .olt main_v0 main_v1
  let main_v3 : FVec F S4x128 .f32 := Host.absf main_arg1
  let main_cst_0 : FVec F S_ .f32 := constant S_ .f32 0x7F800000#32
  let main_v4 : FVec F S4x128 .f32 := broadcastInDim S4x128 ![] bcast_S_S4x128 main_cst_0
  let main_v5 : IVec S4x128 1 := cmpf .olt main_v3 main_v4
  let main_v6 : FVec F S4x32 .f32 := Host.absf main_arg2
  let main_cst_1 : FVec F S_ .f32 := constant S_ .f32 0x7F800000#32
  let main_v7 : FVec F S4x32 .f32 := broadcastInDim S4x32 ![] bcast_S_S4x32 main_cst_1
  let main_v8 : IVec S4x32 1 := cmpf .olt main_v6 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_v12 : FVec F S128x32 .f32 := Host.absf main_arg4
  let main_cst_3 : FVec F S_ .f32 := constant S_ .f32 0x7F800000#32
  let main_v13 : FVec F S128x32 .f32 := broadcastInDim S128x32 ![] bcast_S_S128x32 main_cst_3
  let main_v14 : IVec S128x32 1 := cmpf .olt main_v12 main_v13
  let main_v15 : FVec F S128x32 .f32 := Host.absf main_arg5
  let main_cst_4 : FVec F S_ .f32 := constant S_ .f32 0x7F800000#32
  let main_v16 : FVec F S128x32 .f32 := broadcastInDim S128x32 ![] bcast_S_S128x32 main_cst_4
  let main_v17 : IVec S128x32 1 := cmpf .olt main_v15 main_v16
  fn_part1 (F := F) main_arg6 main_arg7 main_arg8 main_arg9 main_arg10 main_arg11 main_arg12 main_v2 main_v5 main_v8 main_v11 main_v14 main_v17
-- ==== KernelIdeal.lean ====
abbrev S2x1024x4 : Shape := ⟨3, ![2, 1024, 4]⟩
abbrev S4x128 : Shape := ⟨2, ![4, 128]⟩
abbrev S4x32 : Shape := ⟨2, ![4, 32]⟩
abbrev S128x32 : Shape := ⟨2, ![128, 32]⟩
abbrev S32x1 : Shape := ⟨2, ![32, 1]⟩
abbrev S32x128 : Shape := ⟨2, ![32, 128]⟩
abbrev S2x1024x128 : Shape := ⟨3, ![2, 1024, 128]⟩
abbrev S1x1024x4 : Shape := ⟨3, ![1, 1024, 4]⟩
abbrev S1x1024x128 : Shape := ⟨3, ![1, 1024, 128]⟩
abbrev S1024x128 : Shape := ⟨2, ![1024, 128]⟩
abbrev S1024x32 : Shape := ⟨2, ![1024, 32]⟩
abbrev S1024x4 : Shape := ⟨2, ![1024, 4]⟩
abbrev S1024x1 : Shape := ⟨2, ![1024, 1]⟩
abbrev S8x1 : Shape := ⟨2, ![8, 1]⟩
abbrev S7x1 : Shape := ⟨2, ![7, 1]⟩
abbrev S1039x1 : Shape := ⟨2, ![1039, 1]⟩
abbrev S1024x16 : Shape := ⟨2, ![1024, 16]⟩
abbrev S1024 : Shape := ⟨1, ![1024]⟩
abbrev S32 : Shape := ⟨1, ![32]⟩
abbrev S1x32 : Shape := ⟨2, ![1, 32]⟩
abbrev S1024x64 : Shape := ⟨2, ![1024, 64]⟩
abbrev S64 : Shape := ⟨1, ![64]⟩
abbrev S1x64 : Shape := ⟨2, ![1, 64]⟩
abbrev S16x64 : Shape := ⟨2, ![16, 64]⟩
abbrev S16x32 : Shape := ⟨2, ![16, 32]⟩
abbrev S128 : Shape := ⟨1, ![128]⟩
abbrev S1x128 : Shape := ⟨2, ![1, 128]⟩
abbrev S1x1024x1 : Shape := ⟨3, ![1, 1024, 1]⟩
abbrev S1 : Shape := ⟨1, ![1]⟩
abbrev S1x1x1 : Shape := ⟨3, ![1, 1, 1]⟩
abbrev S16x128 : Shape := ⟨2, ![16, 128]⟩
abbrev S16x1 : Shape := ⟨2, ![16, 1]⟩
abbrev S1x16x1 : Shape := ⟨3, ![1, 16, 1]⟩

abbrev nBuf : Space → Nat
  | .hbm => 15
  | .vmem => 18
  | .smem => 0
  | _ => 0

abbrev bufTy : (tb : Table) → Fin (tcTables nBuf tb) → BufTy
  | .hbm, ⟨0, _⟩ => ⟨S2x1024x4, .f32⟩
  | .hbm, ⟨1, _⟩ => ⟨S4x128, .f32⟩
  | .hbm, ⟨2, _⟩ => ⟨S4x32, .f32⟩
  | .hbm, ⟨3, _⟩ => ⟨S128x32, .f32⟩
  | .hbm, ⟨4, _⟩ => ⟨S128x32, .f32⟩
  | .hbm, ⟨5, _⟩ => ⟨S128x32, .f32⟩
  | .hbm, ⟨6, _⟩ => ⟨S32x1, .f32⟩
  | .hbm, ⟨7, _⟩ => ⟨S32x128, .f32⟩
  | .hbm, ⟨8, _⟩ => ⟨S128x32, .f32⟩
  | .hbm, ⟨9, _⟩ => ⟨S128x32, .f32⟩
  | .hbm, ⟨10, _⟩ => ⟨S128x32, .f32⟩
  | .hbm, ⟨11, _⟩ => ⟨S128x32, .f32⟩
  | .hbm, ⟨12, _⟩ => ⟨S32x1, .f32⟩
  | .hbm, ⟨13, _⟩ => ⟨S32x128, .f32⟩
  | .hbm, ⟨14, _⟩ => ⟨S2x1024x128, .f32⟩
  | .local _ .vmem, ⟨0, _⟩ => ⟨S1x1024x4, .f32⟩
  | .local _ .vmem, ⟨1, _⟩ => ⟨S1x1024x4, .f32⟩
  | .local _ .vmem, ⟨2, _⟩ => ⟨S4x128, .f32⟩
  | .local _ .vmem, ⟨3, _⟩ => ⟨S4x32, .f32⟩
  | .local _ .vmem, ⟨4, _⟩ => ⟨S128x32, .f32⟩
  | .local _ .vmem, ⟨5, _⟩ => ⟨S128x32, .f32⟩
  | .local _ .vmem, ⟨6, _⟩ => ⟨S32x1, .f32⟩
  | .local _ .vmem, ⟨7, _⟩ => ⟨S32x128, .f32⟩
  | .local _ .vmem, ⟨8, _⟩ => ⟨S128x32, .f32⟩
  | .local _ .vmem, ⟨9, _⟩ => ⟨S128x32, .f32⟩
  | .local _ .vmem, ⟨10, _⟩ => ⟨S128x32, .f32⟩
  | .local _ .vmem, ⟨11, _⟩ => ⟨S32x1, .f32⟩
  | .local _ .vmem, ⟨12, _⟩ => ⟨S32x128, .f32⟩
  | .local _ .vmem, ⟨13, _⟩ => ⟨S1x1024x128, .f32⟩
  | .local _ .vmem, ⟨14, _⟩ => ⟨S1x1024x128, .f32⟩
  | .local _ .vmem, ⟨15, _⟩ => ⟨S1024x128, .f32⟩
  | .local _ .vmem, ⟨16, _⟩ => ⟨S1024x32, .f32⟩
  | .local _ .vmem, ⟨17, _⟩ => ⟨S1024x32, .f32⟩
  | _, _ => ⟨S2x1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![2], ![false]⟩

def k0_off1 (v159 : BitVec 32) : Fin 2 → Nat :=
  let v187 : Index := Scalar.indexCast v159
  let c0_61 : Index := 0#32
  ![v187.toNat, 0]

def k0_chk1 (v159 : BitVec 32) : Prop :=
  (∀ a, (k0_off1 v159) a + S1x128.size a ≤ S1024x128.size a)
theorem k0_off1_inb : ∀ (v159 : BitVec 32) (k0_hw1 : k0_chk1 v159), ∀ a, (k0_off1 v159) a + S1x128.size a ≤ S1024x128.size a := fun v159 k0_hw1 => k0_hw1

def k0_off2 (v171 : BitVec 32) : Fin 2 → Nat :=
  let v189 : Index := Scalar.indexCast v171
  let c0_62 : Index := 0#32
  ![v189.toNat, 0]

def k0_chk2 (v171 : BitVec 32) : Prop :=
  (∀ a, (k0_off2 v171) a + S1x32.size a ≤ S1024x32.size a)
theorem k0_off2_inb : ∀ (v171 : BitVec 32) (k0_hw2 : k0_chk2 v171), ∀ a, (k0_off2 v171) a + S1x32.size a ≤ S1024x32.size a := fun v171 k0_hw2 => k0_hw2

def k0_off3 (v183 : BitVec 32) : Fin 2 → Nat :=
  let v191 : Index := Scalar.indexCast v183
  let c0_63 : Index := 0#32
  ![v191.toNat, 0]

def k0_chk3 (v183 : BitVec 32) : Prop :=
  (∀ a, (k0_off3 v183) a + S1x32.size a ≤ S1024x32.size a)
theorem k0_off3_inb : ∀ (v183 : BitVec 32) (k0_hw3 : k0_chk3 v183), ∀ a, (k0_off3 v183) a + S1x32.size a ≤ S1024x32.size a := fun v183 k0_hw3 => k0_hw3

def k0_off4 (v222 : BitVec 32) : Fin 2 → Nat :=
  let v247 : Index := Scalar.indexCast v222
  let c0_76 : Index := 0#32
  ![v247.toNat, 0]

def k0_chk4 (v222 : BitVec 32) : Prop :=
  (∀ a, (k0_off4 v222) a + S1x128.size a ≤ S1024x128.size a)
theorem k0_off4_inb : ∀ (v222 : BitVec 32) (k0_hw4 : k0_chk4 v222), ∀ a, (k0_off4 v222) a + S1x128.size a ≤ S1024x128.size a := fun v222 k0_hw4 => k0_hw4

def k0_off5 (v234 : BitVec 32) : Fin 2 → Nat :=
  let v249 : Index := Scalar.indexCast v234
  let c0_77 : Index := 0#32
  ![v249.toNat, 0]

def k0_chk5 (v234 : BitVec 32) : Prop :=
  (∀ a, (k0_off5 v234) a + S1x32.size a ≤ S1024x32.size a)
theorem k0_off5_inb : ∀ (v234 : BitVec 32) (k0_hw5 : k0_chk5 v234), ∀ a, (k0_off5 v234) a + S1x32.size a ≤ S1024x32.size a := fun v234 k0_hw5 => k0_hw5

def k0_off6 (v246 : BitVec 32) : Fin 2 → Nat :=
  let v251 : Index := Scalar.indexCast v246
  let c0_78 : Index := 0#32
  ![v251.toNat, 0]

def k0_chk6 (v246 : BitVec 32) : Prop :=
  (∀ a, (k0_off6 v246) a + S1x32.size a ≤ S1024x32.size a)
theorem k0_off6_inb : ∀ (v246 : BitVec 32) (k0_hw6 : k0_chk6 v246), ∀ a, (k0_off6 v246) a + S1x32.size a ≤ S1024x32.size a := fun v246 k0_hw6 => k0_hw6

def k0_off7 (v282 : BitVec 32) : Fin 2 → Nat :=
  let v307 : Index := Scalar.indexCast v282
  let c0_91 : Index := 0#32
  ![v307.toNat, 0]

def k0_chk7 (v282 : BitVec 32) : Prop :=
  (∀ a, (k0_off7 v282) a + S1x128.size a ≤ S1024x128.size a)
theorem k0_off7_inb : ∀ (v282 : BitVec 32) (k0_hw7 : k0_chk7 v282), ∀ a, (k0_off7 v282) a + S1x128.size a ≤ S1024x128.size a := fun v282 k0_hw7 => k0_hw7

def k0_off8 (v294 : BitVec 32) : Fin 2 → Nat :=
  let v309 : Index := Scalar.indexCast v294
  let c0_92 : Index := 0#32
  ![v309.toNat, 0]

def k0_chk8 (v294 : BitVec 32) : Prop :=
  (∀ a, (k0_off8 v294) a + S1x32.size a ≤ S1024x32.size a)
theorem k0_off8_inb : ∀ (v294 : BitVec 32) (k0_hw8 : k0_chk8 v294), ∀ a, (k0_off8 v294) a + S1x32.size a ≤ S1024x32.size a := fun v294 k0_hw8 => k0_hw8

def k0_off9 (v306 : BitVec 32) : Fin 2 → Nat :=
  let v311 : Index := Scalar.indexCast v306
  let c0_93 : Index := 0#32
  ![v311.toNat, 0]

def k0_chk9 (v306 : BitVec 32) : Prop :=
  (∀ a, (k0_off9 v306) a + S1x32.size a ≤ S1024x32.size a)
theorem k0_off9_inb : ∀ (v306 : BitVec 32) (k0_hw9 : k0_chk9 v306), ∀ a, (k0_off9 v306) a + S1x32.size a ≤ S1024x32.size a := fun v306 k0_hw9 => k0_hw9

def k0_off10 (v342 : BitVec 32) : Fin 2 → Nat :=
  let v367 : Index := Scalar.indexCast v342
  let c0_106 : Index := 0#32
  ![v367.toNat, 0]

def k0_chk10 (v342 : BitVec 32) : Prop :=
  (∀ a, (k0_off10 v342) a + S1x128.size a ≤ S1024x128.size a)
theorem k0_off10_inb : ∀ (v342 : BitVec 32) (k0_hw10 : k0_chk10 v342), ∀ a, (k0_off10 v342) a + S1x128.size a ≤ S1024x128.size a := fun v342 k0_hw10 => k0_hw10

def k0_off11 (v354 : BitVec 32) : Fin 2 → Nat :=
  let v369 : Index := Scalar.indexCast v354
  let c0_107 : Index := 0#32
  ![v369.toNat, 0]

def k0_chk11 (v354 : BitVec 32) : Prop :=
  (∀ a, (k0_off11 v354) a + S1x32.size a ≤ S1024x32.size a)
theorem k0_off11_inb : ∀ (v354 : BitVec 32) (k0_hw11 : k0_chk11 v354), ∀ a, (k0_off11 v354) a + S1x32.size a ≤ S1024x32.size a := fun v354 k0_hw11 => k0_hw11

def k0_off12 (v366 : BitVec 32) : Fin 2 → Nat :=
  let v371 : Index := Scalar.indexCast v366
  let c0_108 : Index := 0#32
  ![v371.toNat, 0]

def k0_chk12 (v366 : BitVec 32) : Prop :=
  (∀ a, (k0_off12 v366) a + S1x32.size a ≤ S1024x32.size a)
theorem k0_off12_inb : ∀ (v366 : BitVec 32) (k0_hw12 : k0_chk12 v366), ∀ a, (k0_off12 v366) a + S1x32.size a ≤ S1024x32.size a := fun v366 k0_hw12 => k0_hw12

def k0_off13 (v402 : BitVec 32) : Fin 2 → Nat :=
  let v427 : Index := Scalar.indexCast v402
  let c0_121 : Index := 0#32
  ![v427.toNat, 0]

def k0_chk13 (v402 : BitVec 32) : Prop :=
  (∀ a, (k0_off13 v402) a + S1x128.size a ≤ S1024x128.size a)
theorem k0_off13_inb : ∀ (v402 : BitVec 32) (k0_hw13 : k0_chk13 v402), ∀ a, (k0_off13 v402) a + S1x128.size a ≤ S1024x128.size a := fun v402 k0_hw13 => k0_hw13

def k0_off14 (v414 : BitVec 32) : Fin 2 → Nat :=
  let v429 : Index := Scalar.indexCast v414
  let c0_122 : Index := 0#32
  ![v429.toNat, 0]

def k0_chk14 (v414 : BitVec 32) : Prop :=
  (∀ a, (k0_off14 v414) a + S1x32.size a ≤ S1024x32.size a)
theorem k0_off14_inb : ∀ (v414 : BitVec 32) (k0_hw14 : k0_chk14 v414), ∀ a, (k0_off14 v414) a + S1x32.size a ≤ S1024x32.size a := fun v414 k0_hw14 => k0_hw14

def k0_off15 (v426 : BitVec 32) : Fin 2 → Nat :=
  let v431 : Index := Scalar.indexCast v426
  let c0_123 : Index := 0#32
  ![v431.toNat, 0]

def k0_chk15 (v426 : BitVec 32) : Prop :=
  (∀ a, (k0_off15 v426) a + S1x32.size a ≤ S1024x32.size a)
theorem k0_off15_inb : ∀ (v426 : BitVec 32) (k0_hw15 : k0_chk15 v426), ∀ a, (k0_off15 v426) a + S1x32.size a ≤ S1024x32.size a := fun v426 k0_hw15 => k0_hw15

def k0_off16 (v462 : BitVec 32) : Fin 2 → Nat :=
  let v487 : Index := Scalar.indexCast v462
  let c0_136 : Index := 0#32
  ![v487.toNat, 0]

def k0_chk16 (v462 : BitVec 32) : Prop :=
  (∀ a, (k0_off16 v462) a + S1x128.size a ≤ S1024x128.size a)
theorem k0_off16_inb : ∀ (v462 : BitVec 32) (k0_hw16 : k0_chk16 v462), ∀ a, (k0_off16 v462) a + S1x128.size a ≤ S1024x128.size a := fun v462 k0_hw16 => k0_hw16

def k0_off17 (v474 : BitVec 32) : Fin 2 → Nat :=
  let v489 : Index := Scalar.indexCast v474
  let c0_137 : Index := 0#32
  ![v489.toNat, 0]

def k0_chk17 (v474 : BitVec 32) : Prop :=
  (∀ a, (k0_off17 v474) a + S1x32.size a ≤ S1024x32.size a)
theorem k0_off17_inb : ∀ (v474 : BitVec 32) (k0_hw17 : k0_chk17 v474), ∀ a, (k0_off17 v474) a + S1x32.size a ≤ S1024x32.size a := fun v474 k0_hw17 => k0_hw17

def k0_off18 (v486 : BitVec 32) : Fin 2 → Nat :=
  let v491 : Index := Scalar.indexCast v486
  let c0_138 : Index := 0#32
  ![v491.toNat, 0]

def k0_chk18 (v486 : BitVec 32) : Prop :=
  (∀ a, (k0_off18 v486) a + S1x32.size a ≤ S1024x32.size a)
theorem k0_off18_inb : ∀ (v486 : BitVec 32) (k0_hw18 : k0_chk18 v486), ∀ a, (k0_off18 v486) a + S1x32.size a ≤ S1024x32.size a := fun v486 k0_hw18 => k0_hw18

def k0_off19 (v522 : BitVec 32) : Fin 2 → Nat :=
  let v547 : Index := Scalar.indexCast v522
  let c0_151 : Index := 0#32
  ![v547.toNat, 0]

def k0_chk19 (v522 : BitVec 32) : Prop :=
  (∀ a, (k0_off19 v522) a + S1x128.size a ≤ S1024x128.size a)
theorem k0_off19_inb : ∀ (v522 : BitVec 32) (k0_hw19 : k0_chk19 v522), ∀ a, (k0_off19 v522) a + S1x128.size a ≤ S1024x128.size a := fun v522 k0_hw19 => k0_hw19

def k0_off20 (v534 : BitVec 32) : Fin 2 → Nat :=
  let v549 : Index := Scalar.indexCast v534
  let c0_152 : Index := 0#32
  ![v549.toNat, 0]

def k0_chk20 (v534 : BitVec 32) : Prop :=
  (∀ a, (k0_off20 v534) a + S1x32.size a ≤ S1024x32.size a)
theorem k0_off20_inb : ∀ (v534 : BitVec 32) (k0_hw20 : k0_chk20 v534), ∀ a, (k0_off20 v534) a + S1x32.size a ≤ S1024x32.size a := fun v534 k0_hw20 => k0_hw20

def k0_off21 (v546 : BitVec 32) : Fin 2 → Nat :=
  let v551 : Index := Scalar.indexCast v546
  let c0_153 : Index := 0#32
  ![v551.toNat, 0]

def k0_chk21 (v546 : BitVec 32) : Prop :=
  (∀ a, (k0_off21 v546) a + S1x32.size a ≤ S1024x32.size a)
theorem k0_off21_inb : ∀ (v546 : BitVec 32) (k0_hw21 : k0_chk21 v546), ∀ a, (k0_off21 v546) a + S1x32.size a ≤ S1024x32.size a := fun v546 k0_hw21 => k0_hw21

def k0_off22 (v582 : BitVec 32) : Fin 2 → Nat :=
  let v607 : Index := Scalar.indexCast v582
  let c0_166 : Index := 0#32
  ![v607.toNat, 0]

def k0_chk22 (v582 : BitVec 32) : Prop :=
  (∀ a, (k0_off22 v582) a + S1x128.size a ≤ S1024x128.size a)
theorem k0_off22_inb : ∀ (v582 : BitVec 32) (k0_hw22 : k0_chk22 v582), ∀ a, (k0_off22 v582) a + S1x128.size a ≤ S1024x128.size a := fun v582 k0_hw22 => k0_hw22

def k0_off23 (v594 : BitVec 32) : Fin 2 → Nat :=
  let v609 : Index := Scalar.indexCast v594
  let c0_167 : Index := 0#32
  ![v609.toNat, 0]

def k0_chk23 (v594 : BitVec 32) : Prop :=
  (∀ a, (k0_off23 v594) a + S1x32.size a ≤ S1024x32.size a)
theorem k0_off23_inb : ∀ (v594 : BitVec 32) (k0_hw23 : k0_chk23 v594), ∀ a, (k0_off23 v594) a + S1x32.size a ≤ S1024x32.size a := fun v594 k0_hw23 => k0_hw23

def k0_off24 (v606 : BitVec 32) : Fin 2 → Nat :=
  let v611 : Index := Scalar.indexCast v606
  let c0_168 : Index := 0#32
  ![v611.toNat, 0]

def k0_chk24 (v606 : BitVec 32) : Prop :=
  (∀ a, (k0_off24 v606) a + S1x32.size a ≤ S1024x32.size a)
theorem k0_off24_inb : ∀ (v606 : BitVec 32) (k0_hw24 : k0_chk24 v606), ∀ a, (k0_off24 v606) a + S1x32.size a ≤ S1024x32.size a := fun v606 k0_hw24 => k0_hw24

def k0_off25 (v642 : BitVec 32) : Fin 2 → Nat :=
  let v667 : Index := Scalar.indexCast v642
  let c0_181 : Index := 0#32
  ![v667.toNat, 0]

def k0_chk25 (v642 : BitVec 32) : Prop :=
  (∀ a, (k0_off25 v642) a + S1x128.size a ≤ S1024x128.size a)
theorem k0_off25_inb : ∀ (v642 : BitVec 32) (k0_hw25 : k0_chk25 v642), ∀ a, (k0_off25 v642) a + S1x128.size a ≤ S1024x128.size a := fun v642 k0_hw25 => k0_hw25

def k0_off26 (v654 : BitVec 32) : Fin 2 → Nat :=
  let v669 : Index := Scalar.indexCast v654
  let c0_182 : Index := 0#32
  ![v669.toNat, 0]

def k0_chk26 (v654 : BitVec 32) : Prop :=
  (∀ a, (k0_off26 v654) a + S1x32.size a ≤ S1024x32.size a)
theorem k0_off26_inb : ∀ (v654 : BitVec 32) (k0_hw26 : k0_chk26 v654), ∀ a, (k0_off26 v654) a + S1x32.size a ≤ S1024x32.size a := fun v654 k0_hw26 => k0_hw26

def k0_off27 (v666 : BitVec 32) : Fin 2 → Nat :=
  let v671 : Index := Scalar.indexCast v666
  let c0_183 : Index := 0#32
  ![v671.toNat, 0]

def k0_chk27 (v666 : BitVec 32) : Prop :=
  (∀ a, (k0_off27 v666) a + S1x32.size a ≤ S1024x32.size a)
theorem k0_off27_inb : ∀ (v666 : BitVec 32) (k0_hw27 : k0_chk27 v666), ∀ a, (k0_off27 v666) a + S1x32.size a ≤ S1024x32.size a := fun v666 k0_hw27 => k0_hw27

def k0_off28 (v702 : BitVec 32) : Fin 2 → Nat :=
  let v727 : Index := Scalar.indexCast v702
  let c0_196 : Index := 0#32
  ![v727.toNat, 0]

def k0_chk28 (v702 : BitVec 32) : Prop :=
  (∀ a, (k0_off28 v702) a + S1x128.size a ≤ S1024x128.size a)
theorem k0_off28_inb : ∀ (v702 : BitVec 32) (k0_hw28 : k0_chk28 v702), ∀ a, (k0_off28 v702) a + S1x128.size a ≤ S1024x128.size a := fun v702 k0_hw28 => k0_hw28

def k0_off29 (v714 : BitVec 32) : Fin 2 → Nat :=
  let v729 : Index := Scalar.indexCast v714
  let c0_197 : Index := 0#32
  ![v729.toNat, 0]

def k0_chk29 (v714 : BitVec 32) : Prop :=
  (∀ a, (k0_off29 v714) a + S1x32.size a ≤ S1024x32.size a)
theorem k0_off29_inb : ∀ (v714 : BitVec 32) (k0_hw29 : k0_chk29 v714), ∀ a, (k0_off29 v714) a + S1x32.size a ≤ S1024x32.size a := fun v714 k0_hw29 => k0_hw29

def k0_off30 (v726 : BitVec 32) : Fin 2 → Nat :=
  let v731 : Index := Scalar.indexCast v726
  let c0_198 : Index := 0#32
  ![v731.toNat, 0]

def k0_chk30 (v726 : BitVec 32) : Prop :=
  (∀ a, (k0_off30 v726) a + S1x32.size a ≤ S1024x32.size a)
theorem k0_off30_inb : ∀ (v726 : BitVec 32) (k0_hw30 : k0_chk30 v726), ∀ a, (k0_off30 v726) a + S1x32.size a ≤ S1024x32.size a := fun v726 k0_hw30 => k0_hw30

def k0_off31 (v762 : BitVec 32) : Fin 2 → Nat :=
  let v787 : Index := Scalar.indexCast v762
  let c0_211 : Index := 0#32
  ![v787.toNat, 0]

def k0_chk31 (v762 : BitVec 32) : Prop :=
  (∀ a, (k0_off31 v762) a + S1x128.size a ≤ S1024x128.size a)
theorem k0_off31_inb : ∀ (v762 : BitVec 32) (k0_hw31 : k0_chk31 v762), ∀ a, (k0_off31 v762) a + S1x128.size a ≤ S1024x128.size a := fun v762 k0_hw31 => k0_hw31

def k0_off32 (v774 : BitVec 32) : Fin 2 → Nat :=
  let v789 : Index := Scalar.indexCast v774
  let c0_212 : Index := 0#32
  ![v789.toNat, 0]

def k0_chk32 (v774 : BitVec 32) : Prop :=
  (∀ a, (k0_off32 v774) a + S1x32.size a ≤ S1024x32.size a)
theorem k0_off32_inb : ∀ (v774 : BitVec 32) (k0_hw32 : k0_chk32 v774), ∀ a, (k0_off32 v774) a + S1x32.size a ≤ S1024x32.size a := fun v774 k0_hw32 => k0_hw32

def k0_off33 (v786 : BitVec 32) : Fin 2 → Nat :=
  let v791 : Index := Scalar.indexCast v786
  let c0_213 : Index := 0#32
  ![v791.toNat, 0]

def k0_chk33 (v786 : BitVec 32) : Prop :=
  (∀ a, (k0_off33 v786) a + S1x32.size a ≤ S1024x32.size a)
theorem k0_off33_inb : ∀ (v786 : BitVec 32) (k0_hw33 : k0_chk33 v786), ∀ a, (k0_off33 v786) a + S1x32.size a ≤ S1024x32.size a := fun v786 k0_hw33 => k0_hw33

def k0_off34 (v822 : BitVec 32) : Fin 2 → Nat :=
  let v847 : Index := Scalar.indexCast v822
  let c0_226 : Index := 0#32
  ![v847.toNat, 0]

def k0_chk34 (v822 : BitVec 32) : Prop :=
  (∀ a, (k0_off34 v822) a + S1x128.size a ≤ S1024x128.size a)
theorem k0_off34_inb : ∀ (v822 : BitVec 32) (k0_hw34 : k0_chk34 v822), ∀ a, (k0_off34 v822) a + S1x128.size a ≤ S1024x128.size a := fun v822 k0_hw34 => k0_hw34

def k0_off35 (v834 : BitVec 32) : Fin 2 → Nat :=
  let v849 : Index := Scalar.indexCast v834
  let c0_227 : Index := 0#32
  ![v849.toNat, 0]

def k0_chk35 (v834 : BitVec 32) : Prop :=
  (∀ a, (k0_off35 v834) a + S1x32.size a ≤ S1024x32.size a)
theorem k0_off35_inb : ∀ (v834 : BitVec 32) (k0_hw35 : k0_chk35 v834), ∀ a, (k0_off35 v834) a + S1x32.size a ≤ S1024x32.size a := fun v834 k0_hw35 => k0_hw35

def k0_off36 (v846 : BitVec 32) : Fin 2 → Nat :=
  let v851 : Index := Scalar.indexCast v846
  let c0_228 : Index := 0#32
  ![v851.toNat, 0]

def k0_chk36 (v846 : BitVec 32) : Prop :=
  (∀ a, (k0_off36 v846) a + S1x32.size a ≤ S1024x32.size a)
theorem k0_off36_inb : ∀ (v846 : BitVec 32) (k0_hw36 : k0_chk36 v846), ∀ a, (k0_off36 v846) a + S1x32.size a ≤ S1024x32.size a := fun v846 k0_hw36 => k0_hw36

def k0_off37 (v882 : BitVec 32) : Fin 2 → Nat :=
  let v907 : Index := Scalar.indexCast v882
  let c0_241 : Index := 0#32
  ![v907.toNat, 0]

def k0_chk37 (v882 : BitVec 32) : Prop :=
  (∀ a, (k0_off37 v882) a + S1x128.size a ≤ S1024x128.size a)
theorem k0_off37_inb : ∀ (v882 : BitVec 32) (k0_hw37 : k0_chk37 v882), ∀ a, (k0_off37 v882) a + S1x128.size a ≤ S1024x128.size a := fun v882 k0_hw37 => k0_hw37

def k0_off38 (v894 : BitVec 32) : Fin 2 → Nat :=
  let v909 : Index := Scalar.indexCast v894
  let c0_242 : Index := 0#32
  ![v909.toNat, 0]

def k0_chk38 (v894 : BitVec 32) : Prop :=
  (∀ a, (k0_off38 v894) a + S1x32.size a ≤ S1024x32.size a)
theorem k0_off38_inb : ∀ (v894 : BitVec 32) (k0_hw38 : k0_chk38 v894), ∀ a, (k0_off38 v894) a + S1x32.size a ≤ S1024x32.size a := fun v894 k0_hw38 => k0_hw38

def k0_off39 (v906 : BitVec 32) : Fin 2 → Nat :=
  let v911 : Index := Scalar.indexCast v906
  let c0_243 : Index := 0#32
  ![v911.toNat, 0]

def k0_chk39 (v906 : BitVec 32) : Prop :=
  (∀ a, (k0_off39 v906) a + S1x32.size a ≤ S1024x32.size a)
theorem k0_off39_inb : ∀ (v906 : BitVec 32) (k0_hw39 : k0_chk39 v906), ∀ a, (k0_off39 v906) a + S1x32.size a ≤ S1024x32.size a := fun v906 k0_hw39 => k0_hw39

def k0_off40 (v942 : BitVec 32) : Fin 2 → Nat :=
  let v967 : Index := Scalar.indexCast v942
  let c0_256 : Index := 0#32
  ![v967.toNat, 0]

def k0_chk40 (v942 : BitVec 32) : Prop :=
  (∀ a, (k0_off40 v942) a + S1x128.size a ≤ S1024x128.size a)
theorem k0_off40_inb : ∀ (v942 : BitVec 32) (k0_hw40 : k0_chk40 v942), ∀ a, (k0_off40 v942) a + S1x128.size a ≤ S1024x128.size a := fun v942 k0_hw40 => k0_hw40

def k0_off41 (v954 : BitVec 32) : Fin 2 → Nat :=
  let v969 : Index := Scalar.indexCast v954
  let c0_257 : Index := 0#32
  ![v969.toNat, 0]

def k0_chk41 (v954 : BitVec 32) : Prop :=
  (∀ a, (k0_off41 v954) a + S1x32.size a ≤ S1024x32.size a)
theorem k0_off41_inb : ∀ (v954 : BitVec 32) (k0_hw41 : k0_chk41 v954), ∀ a, (k0_off41 v954) a + S1x32.size a ≤ S1024x32.size a := fun v954 k0_hw41 => k0_hw41

def k0_off42 (v966 : BitVec 32) : Fin 2 → Nat :=
  let v971 : Index := Scalar.indexCast v966
  let c0_258 : Index := 0#32
  ![v971.toNat, 0]

def k0_chk42 (v966 : BitVec 32) : Prop :=
  (∀ a, (k0_off42 v966) a + S1x32.size a ≤ S1024x32.size a)
theorem k0_off42_inb : ∀ (v966 : BitVec 32) (k0_hw42 : k0_chk42 v966), ∀ a, (k0_off42 v966) a + S1x32.size a ≤ S1024x32.size a := fun v966 k0_hw42 => k0_hw42

def k0_off43 (v1002 : BitVec 32) : Fin 2 → Nat :=
  let v1027 : Index := Scalar.indexCast v1002
  let c0_271 : Index := 0#32
  ![v1027.toNat, 0]

def k0_chk43 (v1002 : BitVec 32) : Prop :=
  (∀ a, (k0_off43 v1002) a + S1x128.size a ≤ S1024x128.size a)
theorem k0_off43_inb : ∀ (v1002 : BitVec 32) (k0_hw43 : k0_chk43 v1002), ∀ a, (k0_off43 v1002) a + S1x128.size a ≤ S1024x128.size a := fun v1002 k0_hw43 => k0_hw43

def k0_off44 (v1014 : BitVec 32) : Fin 2 → Nat :=
  let v1029 : Index := Scalar.indexCast v1014
  let c0_272 : Index := 0#32
  ![v1029.toNat, 0]

def k0_chk44 (v1014 : BitVec 32) : Prop :=
  (∀ a, (k0_off44 v1014) a + S1x32.size a ≤ S1024x32.size a)
theorem k0_off44_inb : ∀ (v1014 : BitVec 32) (k0_hw44 : k0_chk44 v1014), ∀ a, (k0_off44 v1014) a + S1x32.size a ≤ S1024x32.size a := fun v1014 k0_hw44 => k0_hw44

def k0_off45 (v1026 : BitVec 32) : Fin 2 → Nat :=
  let v1031 : Index := Scalar.indexCast v1026
  let c0_273 : Index := 0#32
  ![v1031.toNat, 0]

def k0_chk45 (v1026 : BitVec 32) : Prop :=
  (∀ a, (k0_off45 v1026) a + S1x32.size a ≤ S1024x32.size a)
theorem k0_off45_inb : ∀ (v1026 : BitVec 32) (k0_hw45 : k0_chk45 v1026), ∀ a, (k0_off45 v1026) a + S1x32.size a ≤ S1024x32.size a := fun v1026 k0_hw45 => k0_hw45

def k0_off46 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1207 : BitVec 32 := Scalar.minsi v1177 v1193
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1223 : BitVec 32 := Scalar.minsi v1208 v1209
  let v1237 : BitVec 32 := Scalar.minsi v1207 v1223
  let v1238 : BitVec 32 := Scalar.maxsi v1207 v1223
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1239 : BitVec 32 := Scalar.minsi v1224 v1225
  let v1253 : BitVec 32 := Scalar.minsi v1238 v1239
  let v1267 : BitVec 32 := Scalar.minsi v1237 v1253
  let v1268 : BitVec 32 := Scalar.maxsi v1237 v1253
  let v1254 : BitVec 32 := Scalar.maxsi v1238 v1239
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1255 : BitVec 32 := Scalar.minsi v1240 v1241
  let v1269 : BitVec 32 := Scalar.minsi v1254 v1255
  let v1283 : BitVec 32 := Scalar.minsi v1268 v1269
  let v1297 : BitVec 32 := Scalar.minsi v1267 v1283
  let v1807 : Index := Scalar.indexCast v1297
  let c0_286 : Index := 0#32
  ![v1807.toNat, 0]

def k0_off47 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1207 : BitVec 32 := Scalar.minsi v1177 v1193
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1223 : BitVec 32 := Scalar.minsi v1208 v1209
  let v1237 : BitVec 32 := Scalar.minsi v1207 v1223
  let v1238 : BitVec 32 := Scalar.maxsi v1207 v1223
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1239 : BitVec 32 := Scalar.minsi v1224 v1225
  let v1253 : BitVec 32 := Scalar.minsi v1238 v1239
  let v1267 : BitVec 32 := Scalar.minsi v1237 v1253
  let v1268 : BitVec 32 := Scalar.maxsi v1237 v1253
  let v1254 : BitVec 32 := Scalar.maxsi v1238 v1239
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1255 : BitVec 32 := Scalar.minsi v1240 v1241
  let v1269 : BitVec 32 := Scalar.minsi v1254 v1255
  let v1283 : BitVec 32 := Scalar.minsi v1268 v1269
  let v1298 : BitVec 32 := Scalar.maxsi v1267 v1283
  let v1284 : BitVec 32 := Scalar.maxsi v1268 v1269
  let v1270 : BitVec 32 := Scalar.maxsi v1254 v1255
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1271 : BitVec 32 := Scalar.minsi v1256 v1257
  let v1285 : BitVec 32 := Scalar.minsi v1270 v1271
  let v1299 : BitVec 32 := Scalar.minsi v1284 v1285
  let v1313 : BitVec 32 := Scalar.minsi v1298 v1299
  let v1809 : Index := Scalar.indexCast v1313
  let c0_287 : Index := 0#32
  ![v1809.toNat, 0]
def k0_off48 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1207 : BitVec 32 := Scalar.minsi v1177 v1193
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1223 : BitVec 32 := Scalar.minsi v1208 v1209
  let v1237 : BitVec 32 := Scalar.minsi v1207 v1223
  let v1238 : BitVec 32 := Scalar.maxsi v1207 v1223
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1239 : BitVec 32 := Scalar.minsi v1224 v1225
  let v1253 : BitVec 32 := Scalar.minsi v1238 v1239
  let v1267 : BitVec 32 := Scalar.minsi v1237 v1253
  let v1268 : BitVec 32 := Scalar.maxsi v1237 v1253
  let v1254 : BitVec 32 := Scalar.maxsi v1238 v1239
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1255 : BitVec 32 := Scalar.minsi v1240 v1241
  let v1269 : BitVec 32 := Scalar.minsi v1254 v1255
  let v1283 : BitVec 32 := Scalar.minsi v1268 v1269
  let v1298 : BitVec 32 := Scalar.maxsi v1267 v1283
  let v1284 : BitVec 32 := Scalar.maxsi v1268 v1269
  let v1270 : BitVec 32 := Scalar.maxsi v1254 v1255
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1271 : BitVec 32 := Scalar.minsi v1256 v1257
  let v1285 : BitVec 32 := Scalar.minsi v1270 v1271
  let v1299 : BitVec 32 := Scalar.minsi v1284 v1285
  let v1314 : BitVec 32 := Scalar.maxsi v1298 v1299
  let v1811 : Index := Scalar.indexCast v1314
  let c0_288 : Index := 0#32
  ![v1811.toNat, 0]
def k0_off49 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1207 : BitVec 32 := Scalar.minsi v1177 v1193
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1223 : BitVec 32 := Scalar.minsi v1208 v1209
  let v1237 : BitVec 32 := Scalar.minsi v1207 v1223
  let v1238 : BitVec 32 := Scalar.maxsi v1207 v1223
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1239 : BitVec 32 := Scalar.minsi v1224 v1225
  let v1253 : BitVec 32 := Scalar.minsi v1238 v1239
  let v1268 : BitVec 32 := Scalar.maxsi v1237 v1253
  let v1254 : BitVec 32 := Scalar.maxsi v1238 v1239
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1255 : BitVec 32 := Scalar.minsi v1240 v1241
  let v1269 : BitVec 32 := Scalar.minsi v1254 v1255
  let v1284 : BitVec 32 := Scalar.maxsi v1268 v1269
  let v1270 : BitVec 32 := Scalar.maxsi v1254 v1255
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1271 : BitVec 32 := Scalar.minsi v1256 v1257
  let v1285 : BitVec 32 := Scalar.minsi v1270 v1271
  let v1300 : BitVec 32 := Scalar.maxsi v1284 v1285
  let v1286 : BitVec 32 := Scalar.maxsi v1270 v1271
  let v1272 : BitVec 32 := Scalar.maxsi v1256 v1257
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1273 : BitVec 32 := Scalar.minsi v1258 v1259
  let v1287 : BitVec 32 := Scalar.minsi v1272 v1273
  let v1301 : BitVec 32 := Scalar.minsi v1286 v1287
  let v1315 : BitVec 32 := Scalar.minsi v1300 v1301
  let v1813 : Index := Scalar.indexCast v1315
  let c0_289 : Index := 0#32
  ![v1813.toNat, 0]
def k0_off50 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1207 : BitVec 32 := Scalar.minsi v1177 v1193
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1223 : BitVec 32 := Scalar.minsi v1208 v1209
  let v1237 : BitVec 32 := Scalar.minsi v1207 v1223
  let v1238 : BitVec 32 := Scalar.maxsi v1207 v1223
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1239 : BitVec 32 := Scalar.minsi v1224 v1225
  let v1253 : BitVec 32 := Scalar.minsi v1238 v1239
  let v1268 : BitVec 32 := Scalar.maxsi v1237 v1253
  let v1254 : BitVec 32 := Scalar.maxsi v1238 v1239
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1255 : BitVec 32 := Scalar.minsi v1240 v1241
  let v1269 : BitVec 32 := Scalar.minsi v1254 v1255
  let v1284 : BitVec 32 := Scalar.maxsi v1268 v1269
  let v1270 : BitVec 32 := Scalar.maxsi v1254 v1255
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1271 : BitVec 32 := Scalar.minsi v1256 v1257
  let v1285 : BitVec 32 := Scalar.minsi v1270 v1271
  let v1300 : BitVec 32 := Scalar.maxsi v1284 v1285
  let v1286 : BitVec 32 := Scalar.maxsi v1270 v1271
  let v1272 : BitVec 32 := Scalar.maxsi v1256 v1257
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1273 : BitVec 32 := Scalar.minsi v1258 v1259
  let v1287 : BitVec 32 := Scalar.minsi v1272 v1273
  let v1301 : BitVec 32 := Scalar.minsi v1286 v1287
  let v1316 : BitVec 32 := Scalar.maxsi v1300 v1301
  let v1815 : Index := Scalar.indexCast v1316
  let c0_290 : Index := 0#32
  ![v1815.toNat, 0]
def k0_off51 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1207 : BitVec 32 := Scalar.minsi v1177 v1193
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1223 : BitVec 32 := Scalar.minsi v1208 v1209
  let v1238 : BitVec 32 := Scalar.maxsi v1207 v1223
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1239 : BitVec 32 := Scalar.minsi v1224 v1225
  let v1254 : BitVec 32 := Scalar.maxsi v1238 v1239
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1255 : BitVec 32 := Scalar.minsi v1240 v1241
  let v1270 : BitVec 32 := Scalar.maxsi v1254 v1255
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1271 : BitVec 32 := Scalar.minsi v1256 v1257
  let v1286 : BitVec 32 := Scalar.maxsi v1270 v1271
  let v1272 : BitVec 32 := Scalar.maxsi v1256 v1257
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1273 : BitVec 32 := Scalar.minsi v1258 v1259
  let v1287 : BitVec 32 := Scalar.minsi v1272 v1273
  let v1302 : BitVec 32 := Scalar.maxsi v1286 v1287
  let v1288 : BitVec 32 := Scalar.maxsi v1272 v1273
  let v1274 : BitVec 32 := Scalar.maxsi v1258 v1259
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1275 : BitVec 32 := Scalar.minsi v1260 v1261
  let v1289 : BitVec 32 := Scalar.minsi v1274 v1275
  let v1303 : BitVec 32 := Scalar.minsi v1288 v1289
  let v1317 : BitVec 32 := Scalar.minsi v1302 v1303
  let v1817 : Index := Scalar.indexCast v1317
  let c0_291 : Index := 0#32
  ![v1817.toNat, 0]
def k0_off52 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1207 : BitVec 32 := Scalar.minsi v1177 v1193
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1223 : BitVec 32 := Scalar.minsi v1208 v1209
  let v1238 : BitVec 32 := Scalar.maxsi v1207 v1223
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1239 : BitVec 32 := Scalar.minsi v1224 v1225
  let v1254 : BitVec 32 := Scalar.maxsi v1238 v1239
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1255 : BitVec 32 := Scalar.minsi v1240 v1241
  let v1270 : BitVec 32 := Scalar.maxsi v1254 v1255
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1271 : BitVec 32 := Scalar.minsi v1256 v1257
  let v1286 : BitVec 32 := Scalar.maxsi v1270 v1271
  let v1272 : BitVec 32 := Scalar.maxsi v1256 v1257
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1273 : BitVec 32 := Scalar.minsi v1258 v1259
  let v1287 : BitVec 32 := Scalar.minsi v1272 v1273
  let v1302 : BitVec 32 := Scalar.maxsi v1286 v1287
  let v1288 : BitVec 32 := Scalar.maxsi v1272 v1273
  let v1274 : BitVec 32 := Scalar.maxsi v1258 v1259
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1275 : BitVec 32 := Scalar.minsi v1260 v1261
  let v1289 : BitVec 32 := Scalar.minsi v1274 v1275
  let v1303 : BitVec 32 := Scalar.minsi v1288 v1289
  let v1318 : BitVec 32 := Scalar.maxsi v1302 v1303
  let v1819 : Index := Scalar.indexCast v1318
  let c0_292 : Index := 0#32
  ![v1819.toNat, 0]
def k0_off53 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1272 : BitVec 32 := Scalar.maxsi v1256 v1257
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1273 : BitVec 32 := Scalar.minsi v1258 v1259
  let v1288 : BitVec 32 := Scalar.maxsi v1272 v1273
  let v1274 : BitVec 32 := Scalar.maxsi v1258 v1259
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1275 : BitVec 32 := Scalar.minsi v1260 v1261
  let v1289 : BitVec 32 := Scalar.minsi v1274 v1275
  let v1304 : BitVec 32 := Scalar.maxsi v1288 v1289
  let v1290 : BitVec 32 := Scalar.maxsi v1274 v1275
  let v1276 : BitVec 32 := Scalar.maxsi v1260 v1261
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1277 : BitVec 32 := Scalar.minsi v1262 v1263
  let v1291 : BitVec 32 := Scalar.minsi v1276 v1277
  let v1305 : BitVec 32 := Scalar.minsi v1290 v1291
  let v1319 : BitVec 32 := Scalar.minsi v1304 v1305
  let v1821 : Index := Scalar.indexCast v1319
  let c0_293 : Index := 0#32
  ![v1821.toNat, 0]
def k0_off54 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1177 : BitVec 32 := Scalar.minsi v1147 v1163
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1193 : BitVec 32 := Scalar.minsi v1178 v1179
  let v1208 : BitVec 32 := Scalar.maxsi v1177 v1193
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1209 : BitVec 32 := Scalar.minsi v1194 v1195
  let v1224 : BitVec 32 := Scalar.maxsi v1208 v1209
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1225 : BitVec 32 := Scalar.minsi v1210 v1211
  let v1240 : BitVec 32 := Scalar.maxsi v1224 v1225
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1241 : BitVec 32 := Scalar.minsi v1226 v1227
  let v1256 : BitVec 32 := Scalar.maxsi v1240 v1241
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1257 : BitVec 32 := Scalar.minsi v1242 v1243
  let v1272 : BitVec 32 := Scalar.maxsi v1256 v1257
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1273 : BitVec 32 := Scalar.minsi v1258 v1259
  let v1288 : BitVec 32 := Scalar.maxsi v1272 v1273
  let v1274 : BitVec 32 := Scalar.maxsi v1258 v1259
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1275 : BitVec 32 := Scalar.minsi v1260 v1261
  let v1289 : BitVec 32 := Scalar.minsi v1274 v1275
  let v1304 : BitVec 32 := Scalar.maxsi v1288 v1289
  let v1290 : BitVec 32 := Scalar.maxsi v1274 v1275
  let v1276 : BitVec 32 := Scalar.maxsi v1260 v1261
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1277 : BitVec 32 := Scalar.minsi v1262 v1263
  let v1291 : BitVec 32 := Scalar.minsi v1276 v1277
  let v1305 : BitVec 32 := Scalar.minsi v1290 v1291
  let v1320 : BitVec 32 := Scalar.maxsi v1304 v1305
  let v1823 : Index := Scalar.indexCast v1320
  let c0_294 : Index := 0#32
  ![v1823.toNat, 0]
def k0_off55 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1274 : BitVec 32 := Scalar.maxsi v1258 v1259
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1275 : BitVec 32 := Scalar.minsi v1260 v1261
  let v1290 : BitVec 32 := Scalar.maxsi v1274 v1275
  let v1276 : BitVec 32 := Scalar.maxsi v1260 v1261
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1277 : BitVec 32 := Scalar.minsi v1262 v1263
  let v1291 : BitVec 32 := Scalar.minsi v1276 v1277
  let v1306 : BitVec 32 := Scalar.maxsi v1290 v1291
  let v1292 : BitVec 32 := Scalar.maxsi v1276 v1277
  let v1278 : BitVec 32 := Scalar.maxsi v1262 v1263
  let v1264 : BitVec 32 := Scalar.maxsi v1248 v1249
  let v1250 : BitVec 32 := Scalar.maxsi v1234 v1235
  let v1236 : BitVec 32 := Scalar.maxsi v1220 v1221
  let v1222 : BitVec 32 := Scalar.maxsi v1206 v1192
  let v1251 : BitVec 32 := Scalar.minsi v1236 v1222
  let v1265 : BitVec 32 := Scalar.minsi v1250 v1251
  let v1279 : BitVec 32 := Scalar.minsi v1264 v1265
  let v1293 : BitVec 32 := Scalar.minsi v1278 v1279
  let v1307 : BitVec 32 := Scalar.minsi v1292 v1293
  let v1321 : BitVec 32 := Scalar.minsi v1306 v1307
  let v1825 : Index := Scalar.indexCast v1321
  let c0_295 : Index := 0#32
  ![v1825.toNat, 0]
def k0_off56 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1147 : BitVec 32 := Scalar.minsi v1117 v1133
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1163 : BitVec 32 := Scalar.minsi v1148 v1149
  let v1178 : BitVec 32 := Scalar.maxsi v1147 v1163
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1179 : BitVec 32 := Scalar.minsi v1164 v1165
  let v1194 : BitVec 32 := Scalar.maxsi v1178 v1179
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1195 : BitVec 32 := Scalar.minsi v1180 v1181
  let v1210 : BitVec 32 := Scalar.maxsi v1194 v1195
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1211 : BitVec 32 := Scalar.minsi v1196 v1197
  let v1226 : BitVec 32 := Scalar.maxsi v1210 v1211
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1227 : BitVec 32 := Scalar.minsi v1212 v1213
  let v1242 : BitVec 32 := Scalar.maxsi v1226 v1227
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1243 : BitVec 32 := Scalar.minsi v1228 v1229
  let v1258 : BitVec 32 := Scalar.maxsi v1242 v1243
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1259 : BitVec 32 := Scalar.minsi v1244 v1245
  let v1274 : BitVec 32 := Scalar.maxsi v1258 v1259
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1275 : BitVec 32 := Scalar.minsi v1260 v1261
  let v1290 : BitVec 32 := Scalar.maxsi v1274 v1275
  let v1276 : BitVec 32 := Scalar.maxsi v1260 v1261
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1277 : BitVec 32 := Scalar.minsi v1262 v1263
  let v1291 : BitVec 32 := Scalar.minsi v1276 v1277
  let v1306 : BitVec 32 := Scalar.maxsi v1290 v1291
  let v1292 : BitVec 32 := Scalar.maxsi v1276 v1277
  let v1278 : BitVec 32 := Scalar.maxsi v1262 v1263
  let v1264 : BitVec 32 := Scalar.maxsi v1248 v1249
  let v1250 : BitVec 32 := Scalar.maxsi v1234 v1235
  let v1236 : BitVec 32 := Scalar.maxsi v1220 v1221
  let v1222 : BitVec 32 := Scalar.maxsi v1206 v1192
  let v1251 : BitVec 32 := Scalar.minsi v1236 v1222
  let v1265 : BitVec 32 := Scalar.minsi v1250 v1251
  let v1279 : BitVec 32 := Scalar.minsi v1264 v1265
  let v1293 : BitVec 32 := Scalar.minsi v1278 v1279
  let v1307 : BitVec 32 := Scalar.minsi v1292 v1293
  let v1322 : BitVec 32 := Scalar.maxsi v1306 v1307
  let v1827 : Index := Scalar.indexCast v1322
  let c0_296 : Index := 0#32
  ![v1827.toNat, 0]
def k0_off57 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1276 : BitVec 32 := Scalar.maxsi v1260 v1261
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1277 : BitVec 32 := Scalar.minsi v1262 v1263
  let v1292 : BitVec 32 := Scalar.maxsi v1276 v1277
  let v1278 : BitVec 32 := Scalar.maxsi v1262 v1263
  let v1264 : BitVec 32 := Scalar.maxsi v1248 v1249
  let v1250 : BitVec 32 := Scalar.maxsi v1234 v1235
  let v1236 : BitVec 32 := Scalar.maxsi v1220 v1221
  let v1222 : BitVec 32 := Scalar.maxsi v1206 v1192
  let v1251 : BitVec 32 := Scalar.minsi v1236 v1222
  let v1265 : BitVec 32 := Scalar.minsi v1250 v1251
  let v1279 : BitVec 32 := Scalar.minsi v1264 v1265
  let v1293 : BitVec 32 := Scalar.minsi v1278 v1279
  let v1308 : BitVec 32 := Scalar.maxsi v1292 v1293
  let v1294 : BitVec 32 := Scalar.maxsi v1278 v1279
  let v1280 : BitVec 32 := Scalar.maxsi v1264 v1265
  let v1266 : BitVec 32 := Scalar.maxsi v1250 v1251
  let v1252 : BitVec 32 := Scalar.maxsi v1236 v1222
  let v1281 : BitVec 32 := Scalar.minsi v1266 v1252
  let v1295 : BitVec 32 := Scalar.minsi v1280 v1281
  let v1309 : BitVec 32 := Scalar.minsi v1294 v1295
  let v1323 : BitVec 32 := Scalar.minsi v1308 v1309
  let v1829 : Index := Scalar.indexCast v1323
  let c0_297 : Index := 0#32
  ![v1829.toNat, 0]
def k0_off58 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1117 : BitVec 32 := Scalar.minsi v1087 v1103
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1133 : BitVec 32 := Scalar.minsi v1118 v1119
  let v1148 : BitVec 32 := Scalar.maxsi v1117 v1133
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1149 : BitVec 32 := Scalar.minsi v1134 v1135
  let v1164 : BitVec 32 := Scalar.maxsi v1148 v1149
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1165 : BitVec 32 := Scalar.minsi v1150 v1151
  let v1180 : BitVec 32 := Scalar.maxsi v1164 v1165
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1181 : BitVec 32 := Scalar.minsi v1166 v1167
  let v1196 : BitVec 32 := Scalar.maxsi v1180 v1181
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1197 : BitVec 32 := Scalar.minsi v1182 v1183
  let v1212 : BitVec 32 := Scalar.maxsi v1196 v1197
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1213 : BitVec 32 := Scalar.minsi v1198 v1199
  let v1228 : BitVec 32 := Scalar.maxsi v1212 v1213
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1229 : BitVec 32 := Scalar.minsi v1214 v1215
  let v1244 : BitVec 32 := Scalar.maxsi v1228 v1229
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1245 : BitVec 32 := Scalar.minsi v1230 v1231
  let v1260 : BitVec 32 := Scalar.maxsi v1244 v1245
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1261 : BitVec 32 := Scalar.minsi v1246 v1247
  let v1276 : BitVec 32 := Scalar.maxsi v1260 v1261
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1277 : BitVec 32 := Scalar.minsi v1262 v1263
  let v1292 : BitVec 32 := Scalar.maxsi v1276 v1277
  let v1278 : BitVec 32 := Scalar.maxsi v1262 v1263
  let v1264 : BitVec 32 := Scalar.maxsi v1248 v1249
  let v1250 : BitVec 32 := Scalar.maxsi v1234 v1235
  let v1236 : BitVec 32 := Scalar.maxsi v1220 v1221
  let v1222 : BitVec 32 := Scalar.maxsi v1206 v1192
  let v1251 : BitVec 32 := Scalar.minsi v1236 v1222
  let v1265 : BitVec 32 := Scalar.minsi v1250 v1251
  let v1279 : BitVec 32 := Scalar.minsi v1264 v1265
  let v1293 : BitVec 32 := Scalar.minsi v1278 v1279
  let v1308 : BitVec 32 := Scalar.maxsi v1292 v1293
  let v1294 : BitVec 32 := Scalar.maxsi v1278 v1279
  let v1280 : BitVec 32 := Scalar.maxsi v1264 v1265
  let v1266 : BitVec 32 := Scalar.maxsi v1250 v1251
  let v1252 : BitVec 32 := Scalar.maxsi v1236 v1222
  let v1281 : BitVec 32 := Scalar.minsi v1266 v1252
  let v1295 : BitVec 32 := Scalar.minsi v1280 v1281
  let v1309 : BitVec 32 := Scalar.minsi v1294 v1295
  let v1324 : BitVec 32 := Scalar.maxsi v1308 v1309
  let v1831 : Index := Scalar.indexCast v1324
  let c0_298 : Index := 0#32
  ![v1831.toNat, 0]
def k0_off59 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1278 : BitVec 32 := Scalar.maxsi v1262 v1263
  let v1264 : BitVec 32 := Scalar.maxsi v1248 v1249
  let v1250 : BitVec 32 := Scalar.maxsi v1234 v1235
  let v1236 : BitVec 32 := Scalar.maxsi v1220 v1221
  let v1222 : BitVec 32 := Scalar.maxsi v1206 v1192
  let v1251 : BitVec 32 := Scalar.minsi v1236 v1222
  let v1265 : BitVec 32 := Scalar.minsi v1250 v1251
  let v1279 : BitVec 32 := Scalar.minsi v1264 v1265
  let v1294 : BitVec 32 := Scalar.maxsi v1278 v1279
  let v1280 : BitVec 32 := Scalar.maxsi v1264 v1265
  let v1266 : BitVec 32 := Scalar.maxsi v1250 v1251
  let v1252 : BitVec 32 := Scalar.maxsi v1236 v1222
  let v1281 : BitVec 32 := Scalar.minsi v1266 v1252
  let v1295 : BitVec 32 := Scalar.minsi v1280 v1281
  let v1310 : BitVec 32 := Scalar.maxsi v1294 v1295
  let v1296 : BitVec 32 := Scalar.maxsi v1280 v1281
  let v1282 : BitVec 32 := Scalar.maxsi v1266 v1252
  let v1311 : BitVec 32 := Scalar.minsi v1296 v1282
  let v1325 : BitVec 32 := Scalar.minsi v1310 v1311
  let v1833 : Index := Scalar.indexCast v1325
  let c0_299 : Index := 0#32
  ![v1833.toNat, 0]
def k0_off60 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1087 : BitVec 32 := Scalar.minsi v159 v222
  let v1088 : BitVec 32 := Scalar.maxsi v159 v222
  let v1089 : BitVec 32 := Scalar.minsi v282 v342
  let v1103 : BitVec 32 := Scalar.minsi v1088 v1089
  let v1118 : BitVec 32 := Scalar.maxsi v1087 v1103
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1119 : BitVec 32 := Scalar.minsi v1104 v1105
  let v1134 : BitVec 32 := Scalar.maxsi v1118 v1119
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1135 : BitVec 32 := Scalar.minsi v1120 v1121
  let v1150 : BitVec 32 := Scalar.maxsi v1134 v1135
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1151 : BitVec 32 := Scalar.minsi v1136 v1137
  let v1166 : BitVec 32 := Scalar.maxsi v1150 v1151
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1167 : BitVec 32 := Scalar.minsi v1152 v1153
  let v1182 : BitVec 32 := Scalar.maxsi v1166 v1167
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1183 : BitVec 32 := Scalar.minsi v1168 v1169
  let v1198 : BitVec 32 := Scalar.maxsi v1182 v1183
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1199 : BitVec 32 := Scalar.minsi v1184 v1185
  let v1214 : BitVec 32 := Scalar.maxsi v1198 v1199
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1215 : BitVec 32 := Scalar.minsi v1200 v1201
  let v1230 : BitVec 32 := Scalar.maxsi v1214 v1215
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1231 : BitVec 32 := Scalar.minsi v1216 v1217
  let v1246 : BitVec 32 := Scalar.maxsi v1230 v1231
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1247 : BitVec 32 := Scalar.minsi v1232 v1233
  let v1262 : BitVec 32 := Scalar.maxsi v1246 v1247
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1263 : BitVec 32 := Scalar.minsi v1248 v1249
  let v1278 : BitVec 32 := Scalar.maxsi v1262 v1263
  let v1264 : BitVec 32 := Scalar.maxsi v1248 v1249
  let v1250 : BitVec 32 := Scalar.maxsi v1234 v1235
  let v1236 : BitVec 32 := Scalar.maxsi v1220 v1221
  let v1222 : BitVec 32 := Scalar.maxsi v1206 v1192
  let v1251 : BitVec 32 := Scalar.minsi v1236 v1222
  let v1265 : BitVec 32 := Scalar.minsi v1250 v1251
  let v1279 : BitVec 32 := Scalar.minsi v1264 v1265
  let v1294 : BitVec 32 := Scalar.maxsi v1278 v1279
  let v1280 : BitVec 32 := Scalar.maxsi v1264 v1265
  let v1266 : BitVec 32 := Scalar.maxsi v1250 v1251
  let v1252 : BitVec 32 := Scalar.maxsi v1236 v1222
  let v1281 : BitVec 32 := Scalar.minsi v1266 v1252
  let v1295 : BitVec 32 := Scalar.minsi v1280 v1281
  let v1310 : BitVec 32 := Scalar.maxsi v1294 v1295
  let v1296 : BitVec 32 := Scalar.maxsi v1280 v1281
  let v1282 : BitVec 32 := Scalar.maxsi v1266 v1252
  let v1311 : BitVec 32 := Scalar.minsi v1296 v1282
  let v1326 : BitVec 32 := Scalar.maxsi v1310 v1311
  let v1835 : Index := Scalar.indexCast v1326
  let c0_300 : Index := 0#32
  ![v1835.toNat, 0]
def k0_off61 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Fin 2 → Nat :=
  let v1088 : BitVec 32 := Scalar.maxsi v159 v222
  let v1089 : BitVec 32 := Scalar.minsi v282 v342
  let v1104 : BitVec 32 := Scalar.maxsi v1088 v1089
  let v1090 : BitVec 32 := Scalar.maxsi v282 v342
  let v1091 : BitVec 32 := Scalar.minsi v402 v462
  let v1105 : BitVec 32 := Scalar.minsi v1090 v1091
  let v1120 : BitVec 32 := Scalar.maxsi v1104 v1105
  let v1106 : BitVec 32 := Scalar.maxsi v1090 v1091
  let v1092 : BitVec 32 := Scalar.maxsi v402 v462
  let v1093 : BitVec 32 := Scalar.minsi v522 v582
  let v1107 : BitVec 32 := Scalar.minsi v1092 v1093
  let v1121 : BitVec 32 := Scalar.minsi v1106 v1107
  let v1136 : BitVec 32 := Scalar.maxsi v1120 v1121
  let v1122 : BitVec 32 := Scalar.maxsi v1106 v1107
  let v1108 : BitVec 32 := Scalar.maxsi v1092 v1093
  let v1094 : BitVec 32 := Scalar.maxsi v522 v582
  let v1095 : BitVec 32 := Scalar.minsi v642 v702
  let v1109 : BitVec 32 := Scalar.minsi v1094 v1095
  let v1123 : BitVec 32 := Scalar.minsi v1108 v1109
  let v1137 : BitVec 32 := Scalar.minsi v1122 v1123
  let v1152 : BitVec 32 := Scalar.maxsi v1136 v1137
  let v1138 : BitVec 32 := Scalar.maxsi v1122 v1123
  let v1124 : BitVec 32 := Scalar.maxsi v1108 v1109
  let v1110 : BitVec 32 := Scalar.maxsi v1094 v1095
  let v1096 : BitVec 32 := Scalar.maxsi v642 v702
  let v1097 : BitVec 32 := Scalar.minsi v762 v822
  let v1111 : BitVec 32 := Scalar.minsi v1096 v1097
  let v1125 : BitVec 32 := Scalar.minsi v1110 v1111
  let v1139 : BitVec 32 := Scalar.minsi v1124 v1125
  let v1153 : BitVec 32 := Scalar.minsi v1138 v1139
  let v1168 : BitVec 32 := Scalar.maxsi v1152 v1153
  let v1154 : BitVec 32 := Scalar.maxsi v1138 v1139
  let v1140 : BitVec 32 := Scalar.maxsi v1124 v1125
  let v1126 : BitVec 32 := Scalar.maxsi v1110 v1111
  let v1112 : BitVec 32 := Scalar.maxsi v1096 v1097
  let v1098 : BitVec 32 := Scalar.maxsi v762 v822
  let v1099 : BitVec 32 := Scalar.minsi v882 v942
  let v1113 : BitVec 32 := Scalar.minsi v1098 v1099
  let v1127 : BitVec 32 := Scalar.minsi v1112 v1113
  let v1141 : BitVec 32 := Scalar.minsi v1126 v1127
  let v1155 : BitVec 32 := Scalar.minsi v1140 v1141
  let v1169 : BitVec 32 := Scalar.minsi v1154 v1155
  let v1184 : BitVec 32 := Scalar.maxsi v1168 v1169
  let v1170 : BitVec 32 := Scalar.maxsi v1154 v1155
  let v1156 : BitVec 32 := Scalar.maxsi v1140 v1141
  let v1142 : BitVec 32 := Scalar.maxsi v1126 v1127
  let v1128 : BitVec 32 := Scalar.maxsi v1112 v1113
  let v1114 : BitVec 32 := Scalar.maxsi v1098 v1099
  let v1100 : BitVec 32 := Scalar.maxsi v882 v942
  let v1101 : BitVec 32 := Scalar.minsi v1002 v1062
  let v1115 : BitVec 32 := Scalar.minsi v1100 v1101
  let v1129 : BitVec 32 := Scalar.minsi v1114 v1115
  let v1143 : BitVec 32 := Scalar.minsi v1128 v1129
  let v1157 : BitVec 32 := Scalar.minsi v1142 v1143
  let v1171 : BitVec 32 := Scalar.minsi v1156 v1157
  let v1185 : BitVec 32 := Scalar.minsi v1170 v1171
  let v1200 : BitVec 32 := Scalar.maxsi v1184 v1185
  let v1186 : BitVec 32 := Scalar.maxsi v1170 v1171
  let v1172 : BitVec 32 := Scalar.maxsi v1156 v1157
  let v1158 : BitVec 32 := Scalar.maxsi v1142 v1143
  let v1144 : BitVec 32 := Scalar.maxsi v1128 v1129
  let v1130 : BitVec 32 := Scalar.maxsi v1114 v1115
  let v1116 : BitVec 32 := Scalar.maxsi v1100 v1101
  let v1102 : BitVec 32 := Scalar.maxsi v1002 v1062
  let v1131 : BitVec 32 := Scalar.minsi v1116 v1102
  let v1145 : BitVec 32 := Scalar.minsi v1130 v1131
  let v1159 : BitVec 32 := Scalar.minsi v1144 v1145
  let v1173 : BitVec 32 := Scalar.minsi v1158 v1159
  let v1187 : BitVec 32 := Scalar.minsi v1172 v1173
  let v1201 : BitVec 32 := Scalar.minsi v1186 v1187
  let v1216 : BitVec 32 := Scalar.maxsi v1200 v1201
  let v1202 : BitVec 32 := Scalar.maxsi v1186 v1187
  let v1188 : BitVec 32 := Scalar.maxsi v1172 v1173
  let v1174 : BitVec 32 := Scalar.maxsi v1158 v1159
  let v1160 : BitVec 32 := Scalar.maxsi v1144 v1145
  let v1146 : BitVec 32 := Scalar.maxsi v1130 v1131
  let v1132 : BitVec 32 := Scalar.maxsi v1116 v1102
  let v1161 : BitVec 32 := Scalar.minsi v1146 v1132
  let v1175 : BitVec 32 := Scalar.minsi v1160 v1161
  let v1189 : BitVec 32 := Scalar.minsi v1174 v1175
  let v1203 : BitVec 32 := Scalar.minsi v1188 v1189
  let v1217 : BitVec 32 := Scalar.minsi v1202 v1203
  let v1232 : BitVec 32 := Scalar.maxsi v1216 v1217
  let v1218 : BitVec 32 := Scalar.maxsi v1202 v1203
  let v1204 : BitVec 32 := Scalar.maxsi v1188 v1189
  let v1190 : BitVec 32 := Scalar.maxsi v1174 v1175
  let v1176 : BitVec 32 := Scalar.maxsi v1160 v1161
  let v1162 : BitVec 32 := Scalar.maxsi v1146 v1132
  let v1191 : BitVec 32 := Scalar.minsi v1176 v1162
  let v1205 : BitVec 32 := Scalar.minsi v1190 v1191
  let v1219 : BitVec 32 := Scalar.minsi v1204 v1205
  let v1233 : BitVec 32 := Scalar.minsi v1218 v1219
  let v1248 : BitVec 32 := Scalar.maxsi v1232 v1233
  let v1234 : BitVec 32 := Scalar.maxsi v1218 v1219
  let v1220 : BitVec 32 := Scalar.maxsi v1204 v1205
  let v1206 : BitVec 32 := Scalar.maxsi v1190 v1191
  let v1192 : BitVec 32 := Scalar.maxsi v1176 v1162
  let v1221 : BitVec 32 := Scalar.minsi v1206 v1192
  let v1235 : BitVec 32 := Scalar.minsi v1220 v1221
  let v1249 : BitVec 32 := Scalar.minsi v1234 v1235
  let v1264 : BitVec 32 := Scalar.maxsi v1248 v1249
  let v1250 : BitVec 32 := Scalar.maxsi v1234 v1235
  let v1236 : BitVec 32 := Scalar.maxsi v1220 v1221
  let v1222 : BitVec 32 := Scalar.maxsi v1206 v1192
  let v1251 : BitVec 32 := Scalar.minsi v1236 v1222
  let v1265 : BitVec 32 := Scalar.minsi v1250 v1251
  let v1280 : BitVec 32 := Scalar.maxsi v1264 v1265
  let v1266 : BitVec 32 := Scalar.maxsi v1250 v1251
  let v1252 : BitVec 32 := Scalar.maxsi v1236 v1222
  let v1281 : BitVec 32 := Scalar.minsi v1266 v1252
  let v1296 : BitVec 32 := Scalar.maxsi v1280 v1281
  let v1282 : BitVec 32 := Scalar.maxsi v1266 v1252
  let v1312 : BitVec 32 := Scalar.maxsi v1296 v1282
  let v1837 : Index := Scalar.indexCast v1312
  let c0_301 : Index := 0#32
  ![v1837.toNat, 0]

def k0_chk46 (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) : Prop :=
  (∀ a, (k0_off46 v159 v222 v282 v342 v402 v462 v522 v582 v642 v702 v762 v822 v882 v942 v1002 v1062) a + S1x128.size a ≤ S1024x128.size a) ∧
  (∀ a, (k0_off47 v159 v222 v282 v342 v402 v462 v522 v582 v642 v702 v762 v822 v882 v942 v1002 v1062) a + S1x128.size a ≤ S1024x128.size a) ∧
  (∀ a, (k0_off48 v159 v222 v282 v342 v402 v462 v522 v582 v642 v702 v762 v822 v882 v942 v1002 v1062) a + S1x128.size a ≤ S1024x128.size a) ∧
  (∀ a, (k0_off49 v159 v222 v282 v342 v402 v462 v522 v582 v642 v702 v762 v822 v882 v942 v1002 v1062) a + S1x128.size a ≤ S1024x128.size a) ∧
  (∀ a, (k0_off50 v159 v222 v282 v342 v402 v462 v522 v582 v642 v702 v762 v822 v882 v942 v1002 v1062) a + S1x128.size a ≤ S1024x128.size a) ∧
  (∀ a, (k0_off51 v159 v222 v282 v342 v402 v462 v522 v582 v642 v702 v762 v822 v882 v942 v1002 v1062) a + S1x128.size a ≤ S1024x128.size a) ∧
  (∀ a, (k0_off52 v159 v222 v282 v342 v402 v462 v522 v582 v642 v702 v762 v822 v882 v942 v1002 v1062) a + S1x128.size a ≤ S1024x128.size a) ∧
  (∀ a, (k0_off53 v159 v222 v282 v342 v402 v462 v522 v582 v642 v702 v762 v822 v882 v942 v1002 v1062) a + S1x128.size a ≤ S1024x128.size a) ∧
  (∀ a, (k0_off54 v159 v222 v282 v342 v402 v462 v522 v582 v642 v702 v762 v822 v882 v942 v1002 v1062) a + S1x128.size a ≤ S1024x128.size a) ∧
  (∀ a, (k0_off55 v159 v222 v282 v342 v402 v462 v522 v582 v642 v702 v762 v822 v882 v942 v1002 v1062) a + S1x128.size a ≤ S1024x128.size a) ∧
  (∀ a, (k0_off56 v159 v222 v282 v342 v402 v462 v522 v582 v642 v702 v762 v822 v882 v942 v1002 v1062) a + S1x128.size a ≤ S1024x128.size a) ∧
  (∀ a, (k0_off57 v159 v222 v282 v342 v402 v462 v522 v582 v642 v702 v762 v822 v882 v942 v1002 v1062) a + S1x128.size a ≤ S1024x128.size a) ∧
  (∀ a, (k0_off58 v159 v222 v282 v342 v402 v462 v522 v582 v642 v702 v762 v822 v882 v942 v1002 v1062) a + S1x128.size a ≤ S1024x128.size a) ∧
  (∀ a, (k0_off59 v159 v222 v282 v342 v402 v462 v522 v582 v642 v702 v762 v822 v882 v942 v1002 v1062) a + S1x128.size a ≤ S1024x128.size a) ∧
  (∀ a, (k0_off60 v159 v222 v282 v342 v402 v462 v522 v582 v642 v702 v762 v822 v882 v942 v1002 v1062) a + S1x128.size a ≤ S1024x128.size a) ∧
  (∀ a, (k0_off61 v159 v222 v282 v342 v402 v462 v522 v582 v642 v702 v762 v822 v882 v942 v1002 v1062) a + S1x128.size a ≤ S1024x128.size a)
theorem k0_off46_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off46 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.1
theorem k0_off47_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off47 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.1
theorem k0_off48_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off48 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.1
theorem k0_off49_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off49 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.1
theorem k0_off50_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off50 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.1
theorem k0_off51_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off51 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.1
theorem k0_off52_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off52 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.1
theorem k0_off53_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off53 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.1
theorem k0_off54_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off54 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.1
theorem k0_off55_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off55 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.2.1
theorem k0_off56_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off56 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.2.2.1
theorem k0_off57_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off57 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.2.2.2.1
theorem k0_off58_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off58 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.2.2.2.2.1
theorem k0_off59_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off59 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.2.2.2.2.2.1
theorem k0_off60_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off60 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.2.2.2.2.2.2.1
theorem k0_off61_inb : ∀ (v159 : BitVec 32) (v222 : BitVec 32) (v282 : BitVec 32) (v342 : BitVec 32) (v402 : BitVec 32) (v462 : BitVec 32) (v522 : BitVec 32) (v582 : BitVec 32) (v642 : BitVec 32) (v702 : BitVec 32) (v762 : BitVec 32) (v822 : BitVec 32) (v882 : BitVec 32) (v942 : BitVec 32) (v1002 : BitVec 32) (v1062 : BitVec 32) (k0_hw46 : k0_chk46 v159 v222 v282 v342 v402 v462 v522 v582 v642 v702 v762 v822 v882 v942 v1002 v1062), ∀ a, (k0_off61 v159 v222 v282 v342 v402 v462 v522 v582 v642 v702 v762 v822 v882 v942 v1002 v1062) a + S1x128.size a ≤ S1024x128.size a := fun v159 v222 v282 v342 v402 v462 v522 v582 v642 v702 v762 v822 v882 v942 v1002 v1062 k0_hw46 => k0_hw46.2.2.2.2.2.2.2.2.2.2.2.2.2.2.2

def k0_off62 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1447 : BitVec 32 := Scalar.minsi v1417 v1433
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1463 : BitVec 32 := Scalar.minsi v1448 v1449
  let v1477 : BitVec 32 := Scalar.minsi v1447 v1463
  let v1478 : BitVec 32 := Scalar.maxsi v1447 v1463
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1479 : BitVec 32 := Scalar.minsi v1464 v1465
  let v1493 : BitVec 32 := Scalar.minsi v1478 v1479
  let v1507 : BitVec 32 := Scalar.minsi v1477 v1493
  let v1508 : BitVec 32 := Scalar.maxsi v1477 v1493
  let v1494 : BitVec 32 := Scalar.maxsi v1478 v1479
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1495 : BitVec 32 := Scalar.minsi v1480 v1481
  let v1509 : BitVec 32 := Scalar.minsi v1494 v1495
  let v1523 : BitVec 32 := Scalar.minsi v1508 v1509
  let v1537 : BitVec 32 := Scalar.minsi v1507 v1523
  let v1840 : Index := Scalar.indexCast v1537
  let c0_302 : Index := 0#32
  ![v1840.toNat, 0]

def k0_off63 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1447 : BitVec 32 := Scalar.minsi v1417 v1433
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1463 : BitVec 32 := Scalar.minsi v1448 v1449
  let v1477 : BitVec 32 := Scalar.minsi v1447 v1463
  let v1478 : BitVec 32 := Scalar.maxsi v1447 v1463
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1479 : BitVec 32 := Scalar.minsi v1464 v1465
  let v1493 : BitVec 32 := Scalar.minsi v1478 v1479
  let v1507 : BitVec 32 := Scalar.minsi v1477 v1493
  let v1508 : BitVec 32 := Scalar.maxsi v1477 v1493
  let v1494 : BitVec 32 := Scalar.maxsi v1478 v1479
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1495 : BitVec 32 := Scalar.minsi v1480 v1481
  let v1509 : BitVec 32 := Scalar.minsi v1494 v1495
  let v1523 : BitVec 32 := Scalar.minsi v1508 v1509
  let v1538 : BitVec 32 := Scalar.maxsi v1507 v1523
  let v1524 : BitVec 32 := Scalar.maxsi v1508 v1509
  let v1510 : BitVec 32 := Scalar.maxsi v1494 v1495
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1511 : BitVec 32 := Scalar.minsi v1496 v1497
  let v1525 : BitVec 32 := Scalar.minsi v1510 v1511
  let v1539 : BitVec 32 := Scalar.minsi v1524 v1525
  let v1553 : BitVec 32 := Scalar.minsi v1538 v1539
  let v1842 : Index := Scalar.indexCast v1553
  let c0_303 : Index := 0#32
  ![v1842.toNat, 0]
def k0_off64 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1447 : BitVec 32 := Scalar.minsi v1417 v1433
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1463 : BitVec 32 := Scalar.minsi v1448 v1449
  let v1477 : BitVec 32 := Scalar.minsi v1447 v1463
  let v1478 : BitVec 32 := Scalar.maxsi v1447 v1463
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1479 : BitVec 32 := Scalar.minsi v1464 v1465
  let v1493 : BitVec 32 := Scalar.minsi v1478 v1479
  let v1507 : BitVec 32 := Scalar.minsi v1477 v1493
  let v1508 : BitVec 32 := Scalar.maxsi v1477 v1493
  let v1494 : BitVec 32 := Scalar.maxsi v1478 v1479
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1495 : BitVec 32 := Scalar.minsi v1480 v1481
  let v1509 : BitVec 32 := Scalar.minsi v1494 v1495
  let v1523 : BitVec 32 := Scalar.minsi v1508 v1509
  let v1538 : BitVec 32 := Scalar.maxsi v1507 v1523
  let v1524 : BitVec 32 := Scalar.maxsi v1508 v1509
  let v1510 : BitVec 32 := Scalar.maxsi v1494 v1495
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1511 : BitVec 32 := Scalar.minsi v1496 v1497
  let v1525 : BitVec 32 := Scalar.minsi v1510 v1511
  let v1539 : BitVec 32 := Scalar.minsi v1524 v1525
  let v1554 : BitVec 32 := Scalar.maxsi v1538 v1539
  let v1844 : Index := Scalar.indexCast v1554
  let c0_304 : Index := 0#32
  ![v1844.toNat, 0]
def k0_off65 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1447 : BitVec 32 := Scalar.minsi v1417 v1433
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1463 : BitVec 32 := Scalar.minsi v1448 v1449
  let v1477 : BitVec 32 := Scalar.minsi v1447 v1463
  let v1478 : BitVec 32 := Scalar.maxsi v1447 v1463
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1479 : BitVec 32 := Scalar.minsi v1464 v1465
  let v1493 : BitVec 32 := Scalar.minsi v1478 v1479
  let v1508 : BitVec 32 := Scalar.maxsi v1477 v1493
  let v1494 : BitVec 32 := Scalar.maxsi v1478 v1479
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1495 : BitVec 32 := Scalar.minsi v1480 v1481
  let v1509 : BitVec 32 := Scalar.minsi v1494 v1495
  let v1524 : BitVec 32 := Scalar.maxsi v1508 v1509
  let v1510 : BitVec 32 := Scalar.maxsi v1494 v1495
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1511 : BitVec 32 := Scalar.minsi v1496 v1497
  let v1525 : BitVec 32 := Scalar.minsi v1510 v1511
  let v1540 : BitVec 32 := Scalar.maxsi v1524 v1525
  let v1526 : BitVec 32 := Scalar.maxsi v1510 v1511
  let v1512 : BitVec 32 := Scalar.maxsi v1496 v1497
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1513 : BitVec 32 := Scalar.minsi v1498 v1499
  let v1527 : BitVec 32 := Scalar.minsi v1512 v1513
  let v1541 : BitVec 32 := Scalar.minsi v1526 v1527
  let v1555 : BitVec 32 := Scalar.minsi v1540 v1541
  let v1846 : Index := Scalar.indexCast v1555
  let c0_305 : Index := 0#32
  ![v1846.toNat, 0]
def k0_off66 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1447 : BitVec 32 := Scalar.minsi v1417 v1433
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1463 : BitVec 32 := Scalar.minsi v1448 v1449
  let v1477 : BitVec 32 := Scalar.minsi v1447 v1463
  let v1478 : BitVec 32 := Scalar.maxsi v1447 v1463
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1479 : BitVec 32 := Scalar.minsi v1464 v1465
  let v1493 : BitVec 32 := Scalar.minsi v1478 v1479
  let v1508 : BitVec 32 := Scalar.maxsi v1477 v1493
  let v1494 : BitVec 32 := Scalar.maxsi v1478 v1479
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1495 : BitVec 32 := Scalar.minsi v1480 v1481
  let v1509 : BitVec 32 := Scalar.minsi v1494 v1495
  let v1524 : BitVec 32 := Scalar.maxsi v1508 v1509
  let v1510 : BitVec 32 := Scalar.maxsi v1494 v1495
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1511 : BitVec 32 := Scalar.minsi v1496 v1497
  let v1525 : BitVec 32 := Scalar.minsi v1510 v1511
  let v1540 : BitVec 32 := Scalar.maxsi v1524 v1525
  let v1526 : BitVec 32 := Scalar.maxsi v1510 v1511
  let v1512 : BitVec 32 := Scalar.maxsi v1496 v1497
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1513 : BitVec 32 := Scalar.minsi v1498 v1499
  let v1527 : BitVec 32 := Scalar.minsi v1512 v1513
  let v1541 : BitVec 32 := Scalar.minsi v1526 v1527
  let v1556 : BitVec 32 := Scalar.maxsi v1540 v1541
  let v1848 : Index := Scalar.indexCast v1556
  let c0_306 : Index := 0#32
  ![v1848.toNat, 0]
def k0_off67 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1447 : BitVec 32 := Scalar.minsi v1417 v1433
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1463 : BitVec 32 := Scalar.minsi v1448 v1449
  let v1478 : BitVec 32 := Scalar.maxsi v1447 v1463
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1479 : BitVec 32 := Scalar.minsi v1464 v1465
  let v1494 : BitVec 32 := Scalar.maxsi v1478 v1479
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1495 : BitVec 32 := Scalar.minsi v1480 v1481
  let v1510 : BitVec 32 := Scalar.maxsi v1494 v1495
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1511 : BitVec 32 := Scalar.minsi v1496 v1497
  let v1526 : BitVec 32 := Scalar.maxsi v1510 v1511
  let v1512 : BitVec 32 := Scalar.maxsi v1496 v1497
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1513 : BitVec 32 := Scalar.minsi v1498 v1499
  let v1527 : BitVec 32 := Scalar.minsi v1512 v1513
  let v1542 : BitVec 32 := Scalar.maxsi v1526 v1527
  let v1528 : BitVec 32 := Scalar.maxsi v1512 v1513
  let v1514 : BitVec 32 := Scalar.maxsi v1498 v1499
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1515 : BitVec 32 := Scalar.minsi v1500 v1501
  let v1529 : BitVec 32 := Scalar.minsi v1514 v1515
  let v1543 : BitVec 32 := Scalar.minsi v1528 v1529
  let v1557 : BitVec 32 := Scalar.minsi v1542 v1543
  let v1850 : Index := Scalar.indexCast v1557
  let c0_307 : Index := 0#32
  ![v1850.toNat, 0]
def k0_off68 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1447 : BitVec 32 := Scalar.minsi v1417 v1433
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1463 : BitVec 32 := Scalar.minsi v1448 v1449
  let v1478 : BitVec 32 := Scalar.maxsi v1447 v1463
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1479 : BitVec 32 := Scalar.minsi v1464 v1465
  let v1494 : BitVec 32 := Scalar.maxsi v1478 v1479
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1495 : BitVec 32 := Scalar.minsi v1480 v1481
  let v1510 : BitVec 32 := Scalar.maxsi v1494 v1495
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1511 : BitVec 32 := Scalar.minsi v1496 v1497
  let v1526 : BitVec 32 := Scalar.maxsi v1510 v1511
  let v1512 : BitVec 32 := Scalar.maxsi v1496 v1497
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1513 : BitVec 32 := Scalar.minsi v1498 v1499
  let v1527 : BitVec 32 := Scalar.minsi v1512 v1513
  let v1542 : BitVec 32 := Scalar.maxsi v1526 v1527
  let v1528 : BitVec 32 := Scalar.maxsi v1512 v1513
  let v1514 : BitVec 32 := Scalar.maxsi v1498 v1499
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1515 : BitVec 32 := Scalar.minsi v1500 v1501
  let v1529 : BitVec 32 := Scalar.minsi v1514 v1515
  let v1543 : BitVec 32 := Scalar.minsi v1528 v1529
  let v1558 : BitVec 32 := Scalar.maxsi v1542 v1543
  let v1852 : Index := Scalar.indexCast v1558
  let c0_308 : Index := 0#32
  ![v1852.toNat, 0]
def k0_off69 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1512 : BitVec 32 := Scalar.maxsi v1496 v1497
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1513 : BitVec 32 := Scalar.minsi v1498 v1499
  let v1528 : BitVec 32 := Scalar.maxsi v1512 v1513
  let v1514 : BitVec 32 := Scalar.maxsi v1498 v1499
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1515 : BitVec 32 := Scalar.minsi v1500 v1501
  let v1529 : BitVec 32 := Scalar.minsi v1514 v1515
  let v1544 : BitVec 32 := Scalar.maxsi v1528 v1529
  let v1530 : BitVec 32 := Scalar.maxsi v1514 v1515
  let v1516 : BitVec 32 := Scalar.maxsi v1500 v1501
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1517 : BitVec 32 := Scalar.minsi v1502 v1503
  let v1531 : BitVec 32 := Scalar.minsi v1516 v1517
  let v1545 : BitVec 32 := Scalar.minsi v1530 v1531
  let v1559 : BitVec 32 := Scalar.minsi v1544 v1545
  let v1854 : Index := Scalar.indexCast v1559
  let c0_309 : Index := 0#32
  ![v1854.toNat, 0]
def k0_off70 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1417 : BitVec 32 := Scalar.minsi v1387 v1403
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1433 : BitVec 32 := Scalar.minsi v1418 v1419
  let v1448 : BitVec 32 := Scalar.maxsi v1417 v1433
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1449 : BitVec 32 := Scalar.minsi v1434 v1435
  let v1464 : BitVec 32 := Scalar.maxsi v1448 v1449
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1465 : BitVec 32 := Scalar.minsi v1450 v1451
  let v1480 : BitVec 32 := Scalar.maxsi v1464 v1465
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1481 : BitVec 32 := Scalar.minsi v1466 v1467
  let v1496 : BitVec 32 := Scalar.maxsi v1480 v1481
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1497 : BitVec 32 := Scalar.minsi v1482 v1483
  let v1512 : BitVec 32 := Scalar.maxsi v1496 v1497
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1513 : BitVec 32 := Scalar.minsi v1498 v1499
  let v1528 : BitVec 32 := Scalar.maxsi v1512 v1513
  let v1514 : BitVec 32 := Scalar.maxsi v1498 v1499
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1515 : BitVec 32 := Scalar.minsi v1500 v1501
  let v1529 : BitVec 32 := Scalar.minsi v1514 v1515
  let v1544 : BitVec 32 := Scalar.maxsi v1528 v1529
  let v1530 : BitVec 32 := Scalar.maxsi v1514 v1515
  let v1516 : BitVec 32 := Scalar.maxsi v1500 v1501
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1517 : BitVec 32 := Scalar.minsi v1502 v1503
  let v1531 : BitVec 32 := Scalar.minsi v1516 v1517
  let v1545 : BitVec 32 := Scalar.minsi v1530 v1531
  let v1560 : BitVec 32 := Scalar.maxsi v1544 v1545
  let v1856 : Index := Scalar.indexCast v1560
  let c0_310 : Index := 0#32
  ![v1856.toNat, 0]
def k0_off71 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1514 : BitVec 32 := Scalar.maxsi v1498 v1499
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1515 : BitVec 32 := Scalar.minsi v1500 v1501
  let v1530 : BitVec 32 := Scalar.maxsi v1514 v1515
  let v1516 : BitVec 32 := Scalar.maxsi v1500 v1501
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1517 : BitVec 32 := Scalar.minsi v1502 v1503
  let v1531 : BitVec 32 := Scalar.minsi v1516 v1517
  let v1546 : BitVec 32 := Scalar.maxsi v1530 v1531
  let v1532 : BitVec 32 := Scalar.maxsi v1516 v1517
  let v1518 : BitVec 32 := Scalar.maxsi v1502 v1503
  let v1504 : BitVec 32 := Scalar.maxsi v1488 v1489
  let v1490 : BitVec 32 := Scalar.maxsi v1474 v1475
  let v1476 : BitVec 32 := Scalar.maxsi v1460 v1461
  let v1462 : BitVec 32 := Scalar.maxsi v1446 v1432
  let v1491 : BitVec 32 := Scalar.minsi v1476 v1462
  let v1505 : BitVec 32 := Scalar.minsi v1490 v1491
  let v1519 : BitVec 32 := Scalar.minsi v1504 v1505
  let v1533 : BitVec 32 := Scalar.minsi v1518 v1519
  let v1547 : BitVec 32 := Scalar.minsi v1532 v1533
  let v1561 : BitVec 32 := Scalar.minsi v1546 v1547
  let v1858 : Index := Scalar.indexCast v1561
  let c0_311 : Index := 0#32
  ![v1858.toNat, 0]
def k0_off72 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1387 : BitVec 32 := Scalar.minsi v1357 v1373
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1403 : BitVec 32 := Scalar.minsi v1388 v1389
  let v1418 : BitVec 32 := Scalar.maxsi v1387 v1403
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1419 : BitVec 32 := Scalar.minsi v1404 v1405
  let v1434 : BitVec 32 := Scalar.maxsi v1418 v1419
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1435 : BitVec 32 := Scalar.minsi v1420 v1421
  let v1450 : BitVec 32 := Scalar.maxsi v1434 v1435
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1451 : BitVec 32 := Scalar.minsi v1436 v1437
  let v1466 : BitVec 32 := Scalar.maxsi v1450 v1451
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1467 : BitVec 32 := Scalar.minsi v1452 v1453
  let v1482 : BitVec 32 := Scalar.maxsi v1466 v1467
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1483 : BitVec 32 := Scalar.minsi v1468 v1469
  let v1498 : BitVec 32 := Scalar.maxsi v1482 v1483
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1499 : BitVec 32 := Scalar.minsi v1484 v1485
  let v1514 : BitVec 32 := Scalar.maxsi v1498 v1499
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1515 : BitVec 32 := Scalar.minsi v1500 v1501
  let v1530 : BitVec 32 := Scalar.maxsi v1514 v1515
  let v1516 : BitVec 32 := Scalar.maxsi v1500 v1501
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1517 : BitVec 32 := Scalar.minsi v1502 v1503
  let v1531 : BitVec 32 := Scalar.minsi v1516 v1517
  let v1546 : BitVec 32 := Scalar.maxsi v1530 v1531
  let v1532 : BitVec 32 := Scalar.maxsi v1516 v1517
  let v1518 : BitVec 32 := Scalar.maxsi v1502 v1503
  let v1504 : BitVec 32 := Scalar.maxsi v1488 v1489
  let v1490 : BitVec 32 := Scalar.maxsi v1474 v1475
  let v1476 : BitVec 32 := Scalar.maxsi v1460 v1461
  let v1462 : BitVec 32 := Scalar.maxsi v1446 v1432
  let v1491 : BitVec 32 := Scalar.minsi v1476 v1462
  let v1505 : BitVec 32 := Scalar.minsi v1490 v1491
  let v1519 : BitVec 32 := Scalar.minsi v1504 v1505
  let v1533 : BitVec 32 := Scalar.minsi v1518 v1519
  let v1547 : BitVec 32 := Scalar.minsi v1532 v1533
  let v1562 : BitVec 32 := Scalar.maxsi v1546 v1547
  let v1860 : Index := Scalar.indexCast v1562
  let c0_312 : Index := 0#32
  ![v1860.toNat, 0]
def k0_off73 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1516 : BitVec 32 := Scalar.maxsi v1500 v1501
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1517 : BitVec 32 := Scalar.minsi v1502 v1503
  let v1532 : BitVec 32 := Scalar.maxsi v1516 v1517
  let v1518 : BitVec 32 := Scalar.maxsi v1502 v1503
  let v1504 : BitVec 32 := Scalar.maxsi v1488 v1489
  let v1490 : BitVec 32 := Scalar.maxsi v1474 v1475
  let v1476 : BitVec 32 := Scalar.maxsi v1460 v1461
  let v1462 : BitVec 32 := Scalar.maxsi v1446 v1432
  let v1491 : BitVec 32 := Scalar.minsi v1476 v1462
  let v1505 : BitVec 32 := Scalar.minsi v1490 v1491
  let v1519 : BitVec 32 := Scalar.minsi v1504 v1505
  let v1533 : BitVec 32 := Scalar.minsi v1518 v1519
  let v1548 : BitVec 32 := Scalar.maxsi v1532 v1533
  let v1534 : BitVec 32 := Scalar.maxsi v1518 v1519
  let v1520 : BitVec 32 := Scalar.maxsi v1504 v1505
  let v1506 : BitVec 32 := Scalar.maxsi v1490 v1491
  let v1492 : BitVec 32 := Scalar.maxsi v1476 v1462
  let v1521 : BitVec 32 := Scalar.minsi v1506 v1492
  let v1535 : BitVec 32 := Scalar.minsi v1520 v1521
  let v1549 : BitVec 32 := Scalar.minsi v1534 v1535
  let v1563 : BitVec 32 := Scalar.minsi v1548 v1549
  let v1862 : Index := Scalar.indexCast v1563
  let c0_313 : Index := 0#32
  ![v1862.toNat, 0]
def k0_off74 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1357 : BitVec 32 := Scalar.minsi v1327 v1343
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1373 : BitVec 32 := Scalar.minsi v1358 v1359
  let v1388 : BitVec 32 := Scalar.maxsi v1357 v1373
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1389 : BitVec 32 := Scalar.minsi v1374 v1375
  let v1404 : BitVec 32 := Scalar.maxsi v1388 v1389
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1405 : BitVec 32 := Scalar.minsi v1390 v1391
  let v1420 : BitVec 32 := Scalar.maxsi v1404 v1405
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1421 : BitVec 32 := Scalar.minsi v1406 v1407
  let v1436 : BitVec 32 := Scalar.maxsi v1420 v1421
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1437 : BitVec 32 := Scalar.minsi v1422 v1423
  let v1452 : BitVec 32 := Scalar.maxsi v1436 v1437
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1453 : BitVec 32 := Scalar.minsi v1438 v1439
  let v1468 : BitVec 32 := Scalar.maxsi v1452 v1453
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1469 : BitVec 32 := Scalar.minsi v1454 v1455
  let v1484 : BitVec 32 := Scalar.maxsi v1468 v1469
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1485 : BitVec 32 := Scalar.minsi v1470 v1471
  let v1500 : BitVec 32 := Scalar.maxsi v1484 v1485
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1501 : BitVec 32 := Scalar.minsi v1486 v1487
  let v1516 : BitVec 32 := Scalar.maxsi v1500 v1501
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1517 : BitVec 32 := Scalar.minsi v1502 v1503
  let v1532 : BitVec 32 := Scalar.maxsi v1516 v1517
  let v1518 : BitVec 32 := Scalar.maxsi v1502 v1503
  let v1504 : BitVec 32 := Scalar.maxsi v1488 v1489
  let v1490 : BitVec 32 := Scalar.maxsi v1474 v1475
  let v1476 : BitVec 32 := Scalar.maxsi v1460 v1461
  let v1462 : BitVec 32 := Scalar.maxsi v1446 v1432
  let v1491 : BitVec 32 := Scalar.minsi v1476 v1462
  let v1505 : BitVec 32 := Scalar.minsi v1490 v1491
  let v1519 : BitVec 32 := Scalar.minsi v1504 v1505
  let v1533 : BitVec 32 := Scalar.minsi v1518 v1519
  let v1548 : BitVec 32 := Scalar.maxsi v1532 v1533
  let v1534 : BitVec 32 := Scalar.maxsi v1518 v1519
  let v1520 : BitVec 32 := Scalar.maxsi v1504 v1505
  let v1506 : BitVec 32 := Scalar.maxsi v1490 v1491
  let v1492 : BitVec 32 := Scalar.maxsi v1476 v1462
  let v1521 : BitVec 32 := Scalar.minsi v1506 v1492
  let v1535 : BitVec 32 := Scalar.minsi v1520 v1521
  let v1549 : BitVec 32 := Scalar.minsi v1534 v1535
  let v1564 : BitVec 32 := Scalar.maxsi v1548 v1549
  let v1864 : Index := Scalar.indexCast v1564
  let c0_314 : Index := 0#32
  ![v1864.toNat, 0]
def k0_off75 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1518 : BitVec 32 := Scalar.maxsi v1502 v1503
  let v1504 : BitVec 32 := Scalar.maxsi v1488 v1489
  let v1490 : BitVec 32 := Scalar.maxsi v1474 v1475
  let v1476 : BitVec 32 := Scalar.maxsi v1460 v1461
  let v1462 : BitVec 32 := Scalar.maxsi v1446 v1432
  let v1491 : BitVec 32 := Scalar.minsi v1476 v1462
  let v1505 : BitVec 32 := Scalar.minsi v1490 v1491
  let v1519 : BitVec 32 := Scalar.minsi v1504 v1505
  let v1534 : BitVec 32 := Scalar.maxsi v1518 v1519
  let v1520 : BitVec 32 := Scalar.maxsi v1504 v1505
  let v1506 : BitVec 32 := Scalar.maxsi v1490 v1491
  let v1492 : BitVec 32 := Scalar.maxsi v1476 v1462
  let v1521 : BitVec 32 := Scalar.minsi v1506 v1492
  let v1535 : BitVec 32 := Scalar.minsi v1520 v1521
  let v1550 : BitVec 32 := Scalar.maxsi v1534 v1535
  let v1536 : BitVec 32 := Scalar.maxsi v1520 v1521
  let v1522 : BitVec 32 := Scalar.maxsi v1506 v1492
  let v1551 : BitVec 32 := Scalar.minsi v1536 v1522
  let v1565 : BitVec 32 := Scalar.minsi v1550 v1551
  let v1866 : Index := Scalar.indexCast v1565
  let c0_315 : Index := 0#32
  ![v1866.toNat, 0]
def k0_off76 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1327 : BitVec 32 := Scalar.minsi v171 v234
  let v1328 : BitVec 32 := Scalar.maxsi v171 v234
  let v1329 : BitVec 32 := Scalar.minsi v294 v354
  let v1343 : BitVec 32 := Scalar.minsi v1328 v1329
  let v1358 : BitVec 32 := Scalar.maxsi v1327 v1343
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1359 : BitVec 32 := Scalar.minsi v1344 v1345
  let v1374 : BitVec 32 := Scalar.maxsi v1358 v1359
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1375 : BitVec 32 := Scalar.minsi v1360 v1361
  let v1390 : BitVec 32 := Scalar.maxsi v1374 v1375
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1391 : BitVec 32 := Scalar.minsi v1376 v1377
  let v1406 : BitVec 32 := Scalar.maxsi v1390 v1391
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1407 : BitVec 32 := Scalar.minsi v1392 v1393
  let v1422 : BitVec 32 := Scalar.maxsi v1406 v1407
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1423 : BitVec 32 := Scalar.minsi v1408 v1409
  let v1438 : BitVec 32 := Scalar.maxsi v1422 v1423
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1439 : BitVec 32 := Scalar.minsi v1424 v1425
  let v1454 : BitVec 32 := Scalar.maxsi v1438 v1439
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1455 : BitVec 32 := Scalar.minsi v1440 v1441
  let v1470 : BitVec 32 := Scalar.maxsi v1454 v1455
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1471 : BitVec 32 := Scalar.minsi v1456 v1457
  let v1486 : BitVec 32 := Scalar.maxsi v1470 v1471
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1487 : BitVec 32 := Scalar.minsi v1472 v1473
  let v1502 : BitVec 32 := Scalar.maxsi v1486 v1487
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1503 : BitVec 32 := Scalar.minsi v1488 v1489
  let v1518 : BitVec 32 := Scalar.maxsi v1502 v1503
  let v1504 : BitVec 32 := Scalar.maxsi v1488 v1489
  let v1490 : BitVec 32 := Scalar.maxsi v1474 v1475
  let v1476 : BitVec 32 := Scalar.maxsi v1460 v1461
  let v1462 : BitVec 32 := Scalar.maxsi v1446 v1432
  let v1491 : BitVec 32 := Scalar.minsi v1476 v1462
  let v1505 : BitVec 32 := Scalar.minsi v1490 v1491
  let v1519 : BitVec 32 := Scalar.minsi v1504 v1505
  let v1534 : BitVec 32 := Scalar.maxsi v1518 v1519
  let v1520 : BitVec 32 := Scalar.maxsi v1504 v1505
  let v1506 : BitVec 32 := Scalar.maxsi v1490 v1491
  let v1492 : BitVec 32 := Scalar.maxsi v1476 v1462
  let v1521 : BitVec 32 := Scalar.minsi v1506 v1492
  let v1535 : BitVec 32 := Scalar.minsi v1520 v1521
  let v1550 : BitVec 32 := Scalar.maxsi v1534 v1535
  let v1536 : BitVec 32 := Scalar.maxsi v1520 v1521
  let v1522 : BitVec 32 := Scalar.maxsi v1506 v1492
  let v1551 : BitVec 32 := Scalar.minsi v1536 v1522
  let v1566 : BitVec 32 := Scalar.maxsi v1550 v1551
  let v1868 : Index := Scalar.indexCast v1566
  let c0_316 : Index := 0#32
  ![v1868.toNat, 0]
def k0_off77 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Fin 2 → Nat :=
  let v1328 : BitVec 32 := Scalar.maxsi v171 v234
  let v1329 : BitVec 32 := Scalar.minsi v294 v354
  let v1344 : BitVec 32 := Scalar.maxsi v1328 v1329
  let v1330 : BitVec 32 := Scalar.maxsi v294 v354
  let v1331 : BitVec 32 := Scalar.minsi v414 v474
  let v1345 : BitVec 32 := Scalar.minsi v1330 v1331
  let v1360 : BitVec 32 := Scalar.maxsi v1344 v1345
  let v1346 : BitVec 32 := Scalar.maxsi v1330 v1331
  let v1332 : BitVec 32 := Scalar.maxsi v414 v474
  let v1333 : BitVec 32 := Scalar.minsi v534 v594
  let v1347 : BitVec 32 := Scalar.minsi v1332 v1333
  let v1361 : BitVec 32 := Scalar.minsi v1346 v1347
  let v1376 : BitVec 32 := Scalar.maxsi v1360 v1361
  let v1362 : BitVec 32 := Scalar.maxsi v1346 v1347
  let v1348 : BitVec 32 := Scalar.maxsi v1332 v1333
  let v1334 : BitVec 32 := Scalar.maxsi v534 v594
  let v1335 : BitVec 32 := Scalar.minsi v654 v714
  let v1349 : BitVec 32 := Scalar.minsi v1334 v1335
  let v1363 : BitVec 32 := Scalar.minsi v1348 v1349
  let v1377 : BitVec 32 := Scalar.minsi v1362 v1363
  let v1392 : BitVec 32 := Scalar.maxsi v1376 v1377
  let v1378 : BitVec 32 := Scalar.maxsi v1362 v1363
  let v1364 : BitVec 32 := Scalar.maxsi v1348 v1349
  let v1350 : BitVec 32 := Scalar.maxsi v1334 v1335
  let v1336 : BitVec 32 := Scalar.maxsi v654 v714
  let v1337 : BitVec 32 := Scalar.minsi v774 v834
  let v1351 : BitVec 32 := Scalar.minsi v1336 v1337
  let v1365 : BitVec 32 := Scalar.minsi v1350 v1351
  let v1379 : BitVec 32 := Scalar.minsi v1364 v1365
  let v1393 : BitVec 32 := Scalar.minsi v1378 v1379
  let v1408 : BitVec 32 := Scalar.maxsi v1392 v1393
  let v1394 : BitVec 32 := Scalar.maxsi v1378 v1379
  let v1380 : BitVec 32 := Scalar.maxsi v1364 v1365
  let v1366 : BitVec 32 := Scalar.maxsi v1350 v1351
  let v1352 : BitVec 32 := Scalar.maxsi v1336 v1337
  let v1338 : BitVec 32 := Scalar.maxsi v774 v834
  let v1339 : BitVec 32 := Scalar.minsi v894 v954
  let v1353 : BitVec 32 := Scalar.minsi v1338 v1339
  let v1367 : BitVec 32 := Scalar.minsi v1352 v1353
  let v1381 : BitVec 32 := Scalar.minsi v1366 v1367
  let v1395 : BitVec 32 := Scalar.minsi v1380 v1381
  let v1409 : BitVec 32 := Scalar.minsi v1394 v1395
  let v1424 : BitVec 32 := Scalar.maxsi v1408 v1409
  let v1410 : BitVec 32 := Scalar.maxsi v1394 v1395
  let v1396 : BitVec 32 := Scalar.maxsi v1380 v1381
  let v1382 : BitVec 32 := Scalar.maxsi v1366 v1367
  let v1368 : BitVec 32 := Scalar.maxsi v1352 v1353
  let v1354 : BitVec 32 := Scalar.maxsi v1338 v1339
  let v1340 : BitVec 32 := Scalar.maxsi v894 v954
  let v1341 : BitVec 32 := Scalar.minsi v1014 v1074
  let v1355 : BitVec 32 := Scalar.minsi v1340 v1341
  let v1369 : BitVec 32 := Scalar.minsi v1354 v1355
  let v1383 : BitVec 32 := Scalar.minsi v1368 v1369
  let v1397 : BitVec 32 := Scalar.minsi v1382 v1383
  let v1411 : BitVec 32 := Scalar.minsi v1396 v1397
  let v1425 : BitVec 32 := Scalar.minsi v1410 v1411
  let v1440 : BitVec 32 := Scalar.maxsi v1424 v1425
  let v1426 : BitVec 32 := Scalar.maxsi v1410 v1411
  let v1412 : BitVec 32 := Scalar.maxsi v1396 v1397
  let v1398 : BitVec 32 := Scalar.maxsi v1382 v1383
  let v1384 : BitVec 32 := Scalar.maxsi v1368 v1369
  let v1370 : BitVec 32 := Scalar.maxsi v1354 v1355
  let v1356 : BitVec 32 := Scalar.maxsi v1340 v1341
  let v1342 : BitVec 32 := Scalar.maxsi v1014 v1074
  let v1371 : BitVec 32 := Scalar.minsi v1356 v1342
  let v1385 : BitVec 32 := Scalar.minsi v1370 v1371
  let v1399 : BitVec 32 := Scalar.minsi v1384 v1385
  let v1413 : BitVec 32 := Scalar.minsi v1398 v1399
  let v1427 : BitVec 32 := Scalar.minsi v1412 v1413
  let v1441 : BitVec 32 := Scalar.minsi v1426 v1427
  let v1456 : BitVec 32 := Scalar.maxsi v1440 v1441
  let v1442 : BitVec 32 := Scalar.maxsi v1426 v1427
  let v1428 : BitVec 32 := Scalar.maxsi v1412 v1413
  let v1414 : BitVec 32 := Scalar.maxsi v1398 v1399
  let v1400 : BitVec 32 := Scalar.maxsi v1384 v1385
  let v1386 : BitVec 32 := Scalar.maxsi v1370 v1371
  let v1372 : BitVec 32 := Scalar.maxsi v1356 v1342
  let v1401 : BitVec 32 := Scalar.minsi v1386 v1372
  let v1415 : BitVec 32 := Scalar.minsi v1400 v1401
  let v1429 : BitVec 32 := Scalar.minsi v1414 v1415
  let v1443 : BitVec 32 := Scalar.minsi v1428 v1429
  let v1457 : BitVec 32 := Scalar.minsi v1442 v1443
  let v1472 : BitVec 32 := Scalar.maxsi v1456 v1457
  let v1458 : BitVec 32 := Scalar.maxsi v1442 v1443
  let v1444 : BitVec 32 := Scalar.maxsi v1428 v1429
  let v1430 : BitVec 32 := Scalar.maxsi v1414 v1415
  let v1416 : BitVec 32 := Scalar.maxsi v1400 v1401
  let v1402 : BitVec 32 := Scalar.maxsi v1386 v1372
  let v1431 : BitVec 32 := Scalar.minsi v1416 v1402
  let v1445 : BitVec 32 := Scalar.minsi v1430 v1431
  let v1459 : BitVec 32 := Scalar.minsi v1444 v1445
  let v1473 : BitVec 32 := Scalar.minsi v1458 v1459
  let v1488 : BitVec 32 := Scalar.maxsi v1472 v1473
  let v1474 : BitVec 32 := Scalar.maxsi v1458 v1459
  let v1460 : BitVec 32 := Scalar.maxsi v1444 v1445
  let v1446 : BitVec 32 := Scalar.maxsi v1430 v1431
  let v1432 : BitVec 32 := Scalar.maxsi v1416 v1402
  let v1461 : BitVec 32 := Scalar.minsi v1446 v1432
  let v1475 : BitVec 32 := Scalar.minsi v1460 v1461
  let v1489 : BitVec 32 := Scalar.minsi v1474 v1475
  let v1504 : BitVec 32 := Scalar.maxsi v1488 v1489
  let v1490 : BitVec 32 := Scalar.maxsi v1474 v1475
  let v1476 : BitVec 32 := Scalar.maxsi v1460 v1461
  let v1462 : BitVec 32 := Scalar.maxsi v1446 v1432
  let v1491 : BitVec 32 := Scalar.minsi v1476 v1462
  let v1505 : BitVec 32 := Scalar.minsi v1490 v1491
  let v1520 : BitVec 32 := Scalar.maxsi v1504 v1505
  let v1506 : BitVec 32 := Scalar.maxsi v1490 v1491
  let v1492 : BitVec 32 := Scalar.maxsi v1476 v1462
  let v1521 : BitVec 32 := Scalar.minsi v1506 v1492
  let v1536 : BitVec 32 := Scalar.maxsi v1520 v1521
  let v1522 : BitVec 32 := Scalar.maxsi v1506 v1492
  let v1552 : BitVec 32 := Scalar.maxsi v1536 v1522
  let v1870 : Index := Scalar.indexCast v1552
  let c0_317 : Index := 0#32
  ![v1870.toNat, 0]

def k0_chk47 (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) : Prop :=
  (∀ a, (k0_off62 v171 v234 v294 v354 v414 v474 v534 v594 v654 v714 v774 v834 v894 v954 v1014 v1074) a + S1x32.size a ≤ S1024x32.size a) ∧
  (∀ a, (k0_off63 v171 v234 v294 v354 v414 v474 v534 v594 v654 v714 v774 v834 v894 v954 v1014 v1074) a + S1x32.size a ≤ S1024x32.size a) ∧
  (∀ a, (k0_off64 v171 v234 v294 v354 v414 v474 v534 v594 v654 v714 v774 v834 v894 v954 v1014 v1074) a + S1x32.size a ≤ S1024x32.size a) ∧
  (∀ a, (k0_off65 v171 v234 v294 v354 v414 v474 v534 v594 v654 v714 v774 v834 v894 v954 v1014 v1074) a + S1x32.size a ≤ S1024x32.size a) ∧
  (∀ a, (k0_off66 v171 v234 v294 v354 v414 v474 v534 v594 v654 v714 v774 v834 v894 v954 v1014 v1074) a + S1x32.size a ≤ S1024x32.size a) ∧
  (∀ a, (k0_off67 v171 v234 v294 v354 v414 v474 v534 v594 v654 v714 v774 v834 v894 v954 v1014 v1074) a + S1x32.size a ≤ S1024x32.size a) ∧
  (∀ a, (k0_off68 v171 v234 v294 v354 v414 v474 v534 v594 v654 v714 v774 v834 v894 v954 v1014 v1074) a + S1x32.size a ≤ S1024x32.size a) ∧
  (∀ a, (k0_off69 v171 v234 v294 v354 v414 v474 v534 v594 v654 v714 v774 v834 v894 v954 v1014 v1074) a + S1x32.size a ≤ S1024x32.size a) ∧
  (∀ a, (k0_off70 v171 v234 v294 v354 v414 v474 v534 v594 v654 v714 v774 v834 v894 v954 v1014 v1074) a + S1x32.size a ≤ S1024x32.size a) ∧
  (∀ a, (k0_off71 v171 v234 v294 v354 v414 v474 v534 v594 v654 v714 v774 v834 v894 v954 v1014 v1074) a + S1x32.size a ≤ S1024x32.size a) ∧
  (∀ a, (k0_off72 v171 v234 v294 v354 v414 v474 v534 v594 v654 v714 v774 v834 v894 v954 v1014 v1074) a + S1x32.size a ≤ S1024x32.size a) ∧
  (∀ a, (k0_off73 v171 v234 v294 v354 v414 v474 v534 v594 v654 v714 v774 v834 v894 v954 v1014 v1074) a + S1x32.size a ≤ S1024x32.size a) ∧
  (∀ a, (k0_off74 v171 v234 v294 v354 v414 v474 v534 v594 v654 v714 v774 v834 v894 v954 v1014 v1074) a + S1x32.size a ≤ S1024x32.size a) ∧
  (∀ a, (k0_off75 v171 v234 v294 v354 v414 v474 v534 v594 v654 v714 v774 v834 v894 v954 v1014 v1074) a + S1x32.size a ≤ S1024x32.size a) ∧
  (∀ a, (k0_off76 v171 v234 v294 v354 v414 v474 v534 v594 v654 v714 v774 v834 v894 v954 v1014 v1074) a + S1x32.size a ≤ S1024x32.size a) ∧
  (∀ a, (k0_off77 v171 v234 v294 v354 v414 v474 v534 v594 v654 v714 v774 v834 v894 v954 v1014 v1074) a + S1x32.size a ≤ S1024x32.size a)
theorem k0_off62_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off62 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.1
theorem k0_off63_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off63 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.1
theorem k0_off64_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off64 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.1
theorem k0_off65_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off65 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.1
theorem k0_off66_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off66 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.1
theorem k0_off67_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off67 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.1
theorem k0_off68_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off68 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.1
theorem k0_off69_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off69 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.1
theorem k0_off70_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off70 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.1
theorem k0_off71_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off71 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.2.1
theorem k0_off72_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off72 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.2.2.1
theorem k0_off73_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off73 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.2.2.2.1
theorem k0_off74_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off74 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.2.2.2.2.1
theorem k0_off75_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off75 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.2.2.2.2.2.1
theorem k0_off76_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off76 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.2.2.2.2.2.2.1
theorem k0_off77_inb : ∀ (v171 : BitVec 32) (v234 : BitVec 32) (v294 : BitVec 32) (v354 : BitVec 32) (v414 : BitVec 32) (v474 : BitVec 32) (v534 : BitVec 32) (v594 : BitVec 32) (v654 : BitVec 32) (v714 : BitVec 32) (v774 : BitVec 32) (v834 : BitVec 32) (v894 : BitVec 32) (v954 : BitVec 32) (v1014 : BitVec 32) (v1074 : BitVec 32) (k0_hw47 : k0_chk47 v171 v234 v294 v354 v414 v474 v534 v594 v654 v714 v774 v834 v894 v954 v1014 v1074), ∀ a, (k0_off77 v171 v234 v294 v354 v414 v474 v534 v594 v654 v714 v774 v834 v894 v954 v1014 v1074) a + S1x32.size a ≤ S1024x32.size a := fun v171 v234 v294 v354 v414 v474 v534 v594 v654 v714 v774 v834 v894 v954 v1014 v1074 k0_hw47 => k0_hw47.2.2.2.2.2.2.2.2.2.2.2.2.2.2.2

def k0_off78 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1687 : BitVec 32 := Scalar.minsi v1657 v1673
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1703 : BitVec 32 := Scalar.minsi v1688 v1689
  let v1717 : BitVec 32 := Scalar.minsi v1687 v1703
  let v1718 : BitVec 32 := Scalar.maxsi v1687 v1703
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1719 : BitVec 32 := Scalar.minsi v1704 v1705
  let v1733 : BitVec 32 := Scalar.minsi v1718 v1719
  let v1747 : BitVec 32 := Scalar.minsi v1717 v1733
  let v1748 : BitVec 32 := Scalar.maxsi v1717 v1733
  let v1734 : BitVec 32 := Scalar.maxsi v1718 v1719
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1735 : BitVec 32 := Scalar.minsi v1720 v1721
  let v1749 : BitVec 32 := Scalar.minsi v1734 v1735
  let v1763 : BitVec 32 := Scalar.minsi v1748 v1749
  let v1777 : BitVec 32 := Scalar.minsi v1747 v1763
  let v1873 : Index := Scalar.indexCast v1777
  let c0_318 : Index := 0#32
  ![v1873.toNat, 0]

def k0_off79 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1687 : BitVec 32 := Scalar.minsi v1657 v1673
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1703 : BitVec 32 := Scalar.minsi v1688 v1689
  let v1717 : BitVec 32 := Scalar.minsi v1687 v1703
  let v1718 : BitVec 32 := Scalar.maxsi v1687 v1703
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1719 : BitVec 32 := Scalar.minsi v1704 v1705
  let v1733 : BitVec 32 := Scalar.minsi v1718 v1719
  let v1747 : BitVec 32 := Scalar.minsi v1717 v1733
  let v1748 : BitVec 32 := Scalar.maxsi v1717 v1733
  let v1734 : BitVec 32 := Scalar.maxsi v1718 v1719
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1735 : BitVec 32 := Scalar.minsi v1720 v1721
  let v1749 : BitVec 32 := Scalar.minsi v1734 v1735
  let v1763 : BitVec 32 := Scalar.minsi v1748 v1749
  let v1778 : BitVec 32 := Scalar.maxsi v1747 v1763
  let v1764 : BitVec 32 := Scalar.maxsi v1748 v1749
  let v1750 : BitVec 32 := Scalar.maxsi v1734 v1735
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1751 : BitVec 32 := Scalar.minsi v1736 v1737
  let v1765 : BitVec 32 := Scalar.minsi v1750 v1751
  let v1779 : BitVec 32 := Scalar.minsi v1764 v1765
  let v1793 : BitVec 32 := Scalar.minsi v1778 v1779
  let v1875 : Index := Scalar.indexCast v1793
  let c0_319 : Index := 0#32
  ![v1875.toNat, 0]
def k0_off80 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1687 : BitVec 32 := Scalar.minsi v1657 v1673
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1703 : BitVec 32 := Scalar.minsi v1688 v1689
  let v1717 : BitVec 32 := Scalar.minsi v1687 v1703
  let v1718 : BitVec 32 := Scalar.maxsi v1687 v1703
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1719 : BitVec 32 := Scalar.minsi v1704 v1705
  let v1733 : BitVec 32 := Scalar.minsi v1718 v1719
  let v1747 : BitVec 32 := Scalar.minsi v1717 v1733
  let v1748 : BitVec 32 := Scalar.maxsi v1717 v1733
  let v1734 : BitVec 32 := Scalar.maxsi v1718 v1719
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1735 : BitVec 32 := Scalar.minsi v1720 v1721
  let v1749 : BitVec 32 := Scalar.minsi v1734 v1735
  let v1763 : BitVec 32 := Scalar.minsi v1748 v1749
  let v1778 : BitVec 32 := Scalar.maxsi v1747 v1763
  let v1764 : BitVec 32 := Scalar.maxsi v1748 v1749
  let v1750 : BitVec 32 := Scalar.maxsi v1734 v1735
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1751 : BitVec 32 := Scalar.minsi v1736 v1737
  let v1765 : BitVec 32 := Scalar.minsi v1750 v1751
  let v1779 : BitVec 32 := Scalar.minsi v1764 v1765
  let v1794 : BitVec 32 := Scalar.maxsi v1778 v1779
  let v1877 : Index := Scalar.indexCast v1794
  let c0_320 : Index := 0#32
  ![v1877.toNat, 0]
def k0_off81 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1687 : BitVec 32 := Scalar.minsi v1657 v1673
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1703 : BitVec 32 := Scalar.minsi v1688 v1689
  let v1717 : BitVec 32 := Scalar.minsi v1687 v1703
  let v1718 : BitVec 32 := Scalar.maxsi v1687 v1703
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1719 : BitVec 32 := Scalar.minsi v1704 v1705
  let v1733 : BitVec 32 := Scalar.minsi v1718 v1719
  let v1748 : BitVec 32 := Scalar.maxsi v1717 v1733
  let v1734 : BitVec 32 := Scalar.maxsi v1718 v1719
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1735 : BitVec 32 := Scalar.minsi v1720 v1721
  let v1749 : BitVec 32 := Scalar.minsi v1734 v1735
  let v1764 : BitVec 32 := Scalar.maxsi v1748 v1749
  let v1750 : BitVec 32 := Scalar.maxsi v1734 v1735
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1751 : BitVec 32 := Scalar.minsi v1736 v1737
  let v1765 : BitVec 32 := Scalar.minsi v1750 v1751
  let v1780 : BitVec 32 := Scalar.maxsi v1764 v1765
  let v1766 : BitVec 32 := Scalar.maxsi v1750 v1751
  let v1752 : BitVec 32 := Scalar.maxsi v1736 v1737
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1753 : BitVec 32 := Scalar.minsi v1738 v1739
  let v1767 : BitVec 32 := Scalar.minsi v1752 v1753
  let v1781 : BitVec 32 := Scalar.minsi v1766 v1767
  let v1795 : BitVec 32 := Scalar.minsi v1780 v1781
  let v1879 : Index := Scalar.indexCast v1795
  let c0_321 : Index := 0#32
  ![v1879.toNat, 0]
def k0_off82 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1687 : BitVec 32 := Scalar.minsi v1657 v1673
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1703 : BitVec 32 := Scalar.minsi v1688 v1689
  let v1717 : BitVec 32 := Scalar.minsi v1687 v1703
  let v1718 : BitVec 32 := Scalar.maxsi v1687 v1703
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1719 : BitVec 32 := Scalar.minsi v1704 v1705
  let v1733 : BitVec 32 := Scalar.minsi v1718 v1719
  let v1748 : BitVec 32 := Scalar.maxsi v1717 v1733
  let v1734 : BitVec 32 := Scalar.maxsi v1718 v1719
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1735 : BitVec 32 := Scalar.minsi v1720 v1721
  let v1749 : BitVec 32 := Scalar.minsi v1734 v1735
  let v1764 : BitVec 32 := Scalar.maxsi v1748 v1749
  let v1750 : BitVec 32 := Scalar.maxsi v1734 v1735
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1751 : BitVec 32 := Scalar.minsi v1736 v1737
  let v1765 : BitVec 32 := Scalar.minsi v1750 v1751
  let v1780 : BitVec 32 := Scalar.maxsi v1764 v1765
  let v1766 : BitVec 32 := Scalar.maxsi v1750 v1751
  let v1752 : BitVec 32 := Scalar.maxsi v1736 v1737
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1753 : BitVec 32 := Scalar.minsi v1738 v1739
  let v1767 : BitVec 32 := Scalar.minsi v1752 v1753
  let v1781 : BitVec 32 := Scalar.minsi v1766 v1767
  let v1796 : BitVec 32 := Scalar.maxsi v1780 v1781
  let v1881 : Index := Scalar.indexCast v1796
  let c0_322 : Index := 0#32
  ![v1881.toNat, 0]
def k0_off83 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1687 : BitVec 32 := Scalar.minsi v1657 v1673
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1703 : BitVec 32 := Scalar.minsi v1688 v1689
  let v1718 : BitVec 32 := Scalar.maxsi v1687 v1703
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1719 : BitVec 32 := Scalar.minsi v1704 v1705
  let v1734 : BitVec 32 := Scalar.maxsi v1718 v1719
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1735 : BitVec 32 := Scalar.minsi v1720 v1721
  let v1750 : BitVec 32 := Scalar.maxsi v1734 v1735
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1751 : BitVec 32 := Scalar.minsi v1736 v1737
  let v1766 : BitVec 32 := Scalar.maxsi v1750 v1751
  let v1752 : BitVec 32 := Scalar.maxsi v1736 v1737
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1753 : BitVec 32 := Scalar.minsi v1738 v1739
  let v1767 : BitVec 32 := Scalar.minsi v1752 v1753
  let v1782 : BitVec 32 := Scalar.maxsi v1766 v1767
  let v1768 : BitVec 32 := Scalar.maxsi v1752 v1753
  let v1754 : BitVec 32 := Scalar.maxsi v1738 v1739
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1755 : BitVec 32 := Scalar.minsi v1740 v1741
  let v1769 : BitVec 32 := Scalar.minsi v1754 v1755
  let v1783 : BitVec 32 := Scalar.minsi v1768 v1769
  let v1797 : BitVec 32 := Scalar.minsi v1782 v1783
  let v1883 : Index := Scalar.indexCast v1797
  let c0_323 : Index := 0#32
  ![v1883.toNat, 0]
def k0_off84 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1687 : BitVec 32 := Scalar.minsi v1657 v1673
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1703 : BitVec 32 := Scalar.minsi v1688 v1689
  let v1718 : BitVec 32 := Scalar.maxsi v1687 v1703
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1719 : BitVec 32 := Scalar.minsi v1704 v1705
  let v1734 : BitVec 32 := Scalar.maxsi v1718 v1719
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1735 : BitVec 32 := Scalar.minsi v1720 v1721
  let v1750 : BitVec 32 := Scalar.maxsi v1734 v1735
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1751 : BitVec 32 := Scalar.minsi v1736 v1737
  let v1766 : BitVec 32 := Scalar.maxsi v1750 v1751
  let v1752 : BitVec 32 := Scalar.maxsi v1736 v1737
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1753 : BitVec 32 := Scalar.minsi v1738 v1739
  let v1767 : BitVec 32 := Scalar.minsi v1752 v1753
  let v1782 : BitVec 32 := Scalar.maxsi v1766 v1767
  let v1768 : BitVec 32 := Scalar.maxsi v1752 v1753
  let v1754 : BitVec 32 := Scalar.maxsi v1738 v1739
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1755 : BitVec 32 := Scalar.minsi v1740 v1741
  let v1769 : BitVec 32 := Scalar.minsi v1754 v1755
  let v1783 : BitVec 32 := Scalar.minsi v1768 v1769
  let v1798 : BitVec 32 := Scalar.maxsi v1782 v1783
  let v1885 : Index := Scalar.indexCast v1798
  let c0_324 : Index := 0#32
  ![v1885.toNat, 0]
def k0_off85 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1752 : BitVec 32 := Scalar.maxsi v1736 v1737
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1753 : BitVec 32 := Scalar.minsi v1738 v1739
  let v1768 : BitVec 32 := Scalar.maxsi v1752 v1753
  let v1754 : BitVec 32 := Scalar.maxsi v1738 v1739
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1755 : BitVec 32 := Scalar.minsi v1740 v1741
  let v1769 : BitVec 32 := Scalar.minsi v1754 v1755
  let v1784 : BitVec 32 := Scalar.maxsi v1768 v1769
  let v1770 : BitVec 32 := Scalar.maxsi v1754 v1755
  let v1756 : BitVec 32 := Scalar.maxsi v1740 v1741
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1757 : BitVec 32 := Scalar.minsi v1742 v1743
  let v1771 : BitVec 32 := Scalar.minsi v1756 v1757
  let v1785 : BitVec 32 := Scalar.minsi v1770 v1771
  let v1799 : BitVec 32 := Scalar.minsi v1784 v1785
  let v1887 : Index := Scalar.indexCast v1799
  let c0_325 : Index := 0#32
  ![v1887.toNat, 0]
def k0_off86 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1657 : BitVec 32 := Scalar.minsi v1627 v1643
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1673 : BitVec 32 := Scalar.minsi v1658 v1659
  let v1688 : BitVec 32 := Scalar.maxsi v1657 v1673
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1689 : BitVec 32 := Scalar.minsi v1674 v1675
  let v1704 : BitVec 32 := Scalar.maxsi v1688 v1689
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1705 : BitVec 32 := Scalar.minsi v1690 v1691
  let v1720 : BitVec 32 := Scalar.maxsi v1704 v1705
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1721 : BitVec 32 := Scalar.minsi v1706 v1707
  let v1736 : BitVec 32 := Scalar.maxsi v1720 v1721
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1737 : BitVec 32 := Scalar.minsi v1722 v1723
  let v1752 : BitVec 32 := Scalar.maxsi v1736 v1737
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1753 : BitVec 32 := Scalar.minsi v1738 v1739
  let v1768 : BitVec 32 := Scalar.maxsi v1752 v1753
  let v1754 : BitVec 32 := Scalar.maxsi v1738 v1739
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1755 : BitVec 32 := Scalar.minsi v1740 v1741
  let v1769 : BitVec 32 := Scalar.minsi v1754 v1755
  let v1784 : BitVec 32 := Scalar.maxsi v1768 v1769
  let v1770 : BitVec 32 := Scalar.maxsi v1754 v1755
  let v1756 : BitVec 32 := Scalar.maxsi v1740 v1741
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1757 : BitVec 32 := Scalar.minsi v1742 v1743
  let v1771 : BitVec 32 := Scalar.minsi v1756 v1757
  let v1785 : BitVec 32 := Scalar.minsi v1770 v1771
  let v1800 : BitVec 32 := Scalar.maxsi v1784 v1785
  let v1889 : Index := Scalar.indexCast v1800
  let c0_326 : Index := 0#32
  ![v1889.toNat, 0]
def k0_off87 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1754 : BitVec 32 := Scalar.maxsi v1738 v1739
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1755 : BitVec 32 := Scalar.minsi v1740 v1741
  let v1770 : BitVec 32 := Scalar.maxsi v1754 v1755
  let v1756 : BitVec 32 := Scalar.maxsi v1740 v1741
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1757 : BitVec 32 := Scalar.minsi v1742 v1743
  let v1771 : BitVec 32 := Scalar.minsi v1756 v1757
  let v1786 : BitVec 32 := Scalar.maxsi v1770 v1771
  let v1772 : BitVec 32 := Scalar.maxsi v1756 v1757
  let v1758 : BitVec 32 := Scalar.maxsi v1742 v1743
  let v1744 : BitVec 32 := Scalar.maxsi v1728 v1729
  let v1730 : BitVec 32 := Scalar.maxsi v1714 v1715
  let v1716 : BitVec 32 := Scalar.maxsi v1700 v1701
  let v1702 : BitVec 32 := Scalar.maxsi v1686 v1672
  let v1731 : BitVec 32 := Scalar.minsi v1716 v1702
  let v1745 : BitVec 32 := Scalar.minsi v1730 v1731
  let v1759 : BitVec 32 := Scalar.minsi v1744 v1745
  let v1773 : BitVec 32 := Scalar.minsi v1758 v1759
  let v1787 : BitVec 32 := Scalar.minsi v1772 v1773
  let v1801 : BitVec 32 := Scalar.minsi v1786 v1787
  let v1891 : Index := Scalar.indexCast v1801
  let c0_327 : Index := 0#32
  ![v1891.toNat, 0]
def k0_off88 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1627 : BitVec 32 := Scalar.minsi v1597 v1613
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1643 : BitVec 32 := Scalar.minsi v1628 v1629
  let v1658 : BitVec 32 := Scalar.maxsi v1627 v1643
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1659 : BitVec 32 := Scalar.minsi v1644 v1645
  let v1674 : BitVec 32 := Scalar.maxsi v1658 v1659
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1675 : BitVec 32 := Scalar.minsi v1660 v1661
  let v1690 : BitVec 32 := Scalar.maxsi v1674 v1675
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1691 : BitVec 32 := Scalar.minsi v1676 v1677
  let v1706 : BitVec 32 := Scalar.maxsi v1690 v1691
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1707 : BitVec 32 := Scalar.minsi v1692 v1693
  let v1722 : BitVec 32 := Scalar.maxsi v1706 v1707
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1723 : BitVec 32 := Scalar.minsi v1708 v1709
  let v1738 : BitVec 32 := Scalar.maxsi v1722 v1723
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1739 : BitVec 32 := Scalar.minsi v1724 v1725
  let v1754 : BitVec 32 := Scalar.maxsi v1738 v1739
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1755 : BitVec 32 := Scalar.minsi v1740 v1741
  let v1770 : BitVec 32 := Scalar.maxsi v1754 v1755
  let v1756 : BitVec 32 := Scalar.maxsi v1740 v1741
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1757 : BitVec 32 := Scalar.minsi v1742 v1743
  let v1771 : BitVec 32 := Scalar.minsi v1756 v1757
  let v1786 : BitVec 32 := Scalar.maxsi v1770 v1771
  let v1772 : BitVec 32 := Scalar.maxsi v1756 v1757
  let v1758 : BitVec 32 := Scalar.maxsi v1742 v1743
  let v1744 : BitVec 32 := Scalar.maxsi v1728 v1729
  let v1730 : BitVec 32 := Scalar.maxsi v1714 v1715
  let v1716 : BitVec 32 := Scalar.maxsi v1700 v1701
  let v1702 : BitVec 32 := Scalar.maxsi v1686 v1672
  let v1731 : BitVec 32 := Scalar.minsi v1716 v1702
  let v1745 : BitVec 32 := Scalar.minsi v1730 v1731
  let v1759 : BitVec 32 := Scalar.minsi v1744 v1745
  let v1773 : BitVec 32 := Scalar.minsi v1758 v1759
  let v1787 : BitVec 32 := Scalar.minsi v1772 v1773
  let v1802 : BitVec 32 := Scalar.maxsi v1786 v1787
  let v1893 : Index := Scalar.indexCast v1802
  let c0_328 : Index := 0#32
  ![v1893.toNat, 0]
def k0_off89 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1756 : BitVec 32 := Scalar.maxsi v1740 v1741
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1757 : BitVec 32 := Scalar.minsi v1742 v1743
  let v1772 : BitVec 32 := Scalar.maxsi v1756 v1757
  let v1758 : BitVec 32 := Scalar.maxsi v1742 v1743
  let v1744 : BitVec 32 := Scalar.maxsi v1728 v1729
  let v1730 : BitVec 32 := Scalar.maxsi v1714 v1715
  let v1716 : BitVec 32 := Scalar.maxsi v1700 v1701
  let v1702 : BitVec 32 := Scalar.maxsi v1686 v1672
  let v1731 : BitVec 32 := Scalar.minsi v1716 v1702
  let v1745 : BitVec 32 := Scalar.minsi v1730 v1731
  let v1759 : BitVec 32 := Scalar.minsi v1744 v1745
  let v1773 : BitVec 32 := Scalar.minsi v1758 v1759
  let v1788 : BitVec 32 := Scalar.maxsi v1772 v1773
  let v1774 : BitVec 32 := Scalar.maxsi v1758 v1759
  let v1760 : BitVec 32 := Scalar.maxsi v1744 v1745
  let v1746 : BitVec 32 := Scalar.maxsi v1730 v1731
  let v1732 : BitVec 32 := Scalar.maxsi v1716 v1702
  let v1761 : BitVec 32 := Scalar.minsi v1746 v1732
  let v1775 : BitVec 32 := Scalar.minsi v1760 v1761
  let v1789 : BitVec 32 := Scalar.minsi v1774 v1775
  let v1803 : BitVec 32 := Scalar.minsi v1788 v1789
  let v1895 : Index := Scalar.indexCast v1803
  let c0_329 : Index := 0#32
  ![v1895.toNat, 0]
def k0_off90 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1597 : BitVec 32 := Scalar.minsi v1567 v1583
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1613 : BitVec 32 := Scalar.minsi v1598 v1599
  let v1628 : BitVec 32 := Scalar.maxsi v1597 v1613
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1629 : BitVec 32 := Scalar.minsi v1614 v1615
  let v1644 : BitVec 32 := Scalar.maxsi v1628 v1629
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1645 : BitVec 32 := Scalar.minsi v1630 v1631
  let v1660 : BitVec 32 := Scalar.maxsi v1644 v1645
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1661 : BitVec 32 := Scalar.minsi v1646 v1647
  let v1676 : BitVec 32 := Scalar.maxsi v1660 v1661
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1677 : BitVec 32 := Scalar.minsi v1662 v1663
  let v1692 : BitVec 32 := Scalar.maxsi v1676 v1677
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1693 : BitVec 32 := Scalar.minsi v1678 v1679
  let v1708 : BitVec 32 := Scalar.maxsi v1692 v1693
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1709 : BitVec 32 := Scalar.minsi v1694 v1695
  let v1724 : BitVec 32 := Scalar.maxsi v1708 v1709
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1725 : BitVec 32 := Scalar.minsi v1710 v1711
  let v1740 : BitVec 32 := Scalar.maxsi v1724 v1725
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1741 : BitVec 32 := Scalar.minsi v1726 v1727
  let v1756 : BitVec 32 := Scalar.maxsi v1740 v1741
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1757 : BitVec 32 := Scalar.minsi v1742 v1743
  let v1772 : BitVec 32 := Scalar.maxsi v1756 v1757
  let v1758 : BitVec 32 := Scalar.maxsi v1742 v1743
  let v1744 : BitVec 32 := Scalar.maxsi v1728 v1729
  let v1730 : BitVec 32 := Scalar.maxsi v1714 v1715
  let v1716 : BitVec 32 := Scalar.maxsi v1700 v1701
  let v1702 : BitVec 32 := Scalar.maxsi v1686 v1672
  let v1731 : BitVec 32 := Scalar.minsi v1716 v1702
  let v1745 : BitVec 32 := Scalar.minsi v1730 v1731
  let v1759 : BitVec 32 := Scalar.minsi v1744 v1745
  let v1773 : BitVec 32 := Scalar.minsi v1758 v1759
  let v1788 : BitVec 32 := Scalar.maxsi v1772 v1773
  let v1774 : BitVec 32 := Scalar.maxsi v1758 v1759
  let v1760 : BitVec 32 := Scalar.maxsi v1744 v1745
  let v1746 : BitVec 32 := Scalar.maxsi v1730 v1731
  let v1732 : BitVec 32 := Scalar.maxsi v1716 v1702
  let v1761 : BitVec 32 := Scalar.minsi v1746 v1732
  let v1775 : BitVec 32 := Scalar.minsi v1760 v1761
  let v1789 : BitVec 32 := Scalar.minsi v1774 v1775
  let v1804 : BitVec 32 := Scalar.maxsi v1788 v1789
  let v1897 : Index := Scalar.indexCast v1804
  let c0_330 : Index := 0#32
  ![v1897.toNat, 0]
def k0_off91 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1758 : BitVec 32 := Scalar.maxsi v1742 v1743
  let v1744 : BitVec 32 := Scalar.maxsi v1728 v1729
  let v1730 : BitVec 32 := Scalar.maxsi v1714 v1715
  let v1716 : BitVec 32 := Scalar.maxsi v1700 v1701
  let v1702 : BitVec 32 := Scalar.maxsi v1686 v1672
  let v1731 : BitVec 32 := Scalar.minsi v1716 v1702
  let v1745 : BitVec 32 := Scalar.minsi v1730 v1731
  let v1759 : BitVec 32 := Scalar.minsi v1744 v1745
  let v1774 : BitVec 32 := Scalar.maxsi v1758 v1759
  let v1760 : BitVec 32 := Scalar.maxsi v1744 v1745
  let v1746 : BitVec 32 := Scalar.maxsi v1730 v1731
  let v1732 : BitVec 32 := Scalar.maxsi v1716 v1702
  let v1761 : BitVec 32 := Scalar.minsi v1746 v1732
  let v1775 : BitVec 32 := Scalar.minsi v1760 v1761
  let v1790 : BitVec 32 := Scalar.maxsi v1774 v1775
  let v1776 : BitVec 32 := Scalar.maxsi v1760 v1761
  let v1762 : BitVec 32 := Scalar.maxsi v1746 v1732
  let v1791 : BitVec 32 := Scalar.minsi v1776 v1762
  let v1805 : BitVec 32 := Scalar.minsi v1790 v1791
  let v1899 : Index := Scalar.indexCast v1805
  let c0_331 : Index := 0#32
  ![v1899.toNat, 0]
def k0_off92 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1567 : BitVec 32 := Scalar.minsi v183 v246
  let v1568 : BitVec 32 := Scalar.maxsi v183 v246
  let v1569 : BitVec 32 := Scalar.minsi v306 v366
  let v1583 : BitVec 32 := Scalar.minsi v1568 v1569
  let v1598 : BitVec 32 := Scalar.maxsi v1567 v1583
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1599 : BitVec 32 := Scalar.minsi v1584 v1585
  let v1614 : BitVec 32 := Scalar.maxsi v1598 v1599
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1615 : BitVec 32 := Scalar.minsi v1600 v1601
  let v1630 : BitVec 32 := Scalar.maxsi v1614 v1615
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1631 : BitVec 32 := Scalar.minsi v1616 v1617
  let v1646 : BitVec 32 := Scalar.maxsi v1630 v1631
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1647 : BitVec 32 := Scalar.minsi v1632 v1633
  let v1662 : BitVec 32 := Scalar.maxsi v1646 v1647
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1663 : BitVec 32 := Scalar.minsi v1648 v1649
  let v1678 : BitVec 32 := Scalar.maxsi v1662 v1663
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1679 : BitVec 32 := Scalar.minsi v1664 v1665
  let v1694 : BitVec 32 := Scalar.maxsi v1678 v1679
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1695 : BitVec 32 := Scalar.minsi v1680 v1681
  let v1710 : BitVec 32 := Scalar.maxsi v1694 v1695
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1711 : BitVec 32 := Scalar.minsi v1696 v1697
  let v1726 : BitVec 32 := Scalar.maxsi v1710 v1711
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1727 : BitVec 32 := Scalar.minsi v1712 v1713
  let v1742 : BitVec 32 := Scalar.maxsi v1726 v1727
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1743 : BitVec 32 := Scalar.minsi v1728 v1729
  let v1758 : BitVec 32 := Scalar.maxsi v1742 v1743
  let v1744 : BitVec 32 := Scalar.maxsi v1728 v1729
  let v1730 : BitVec 32 := Scalar.maxsi v1714 v1715
  let v1716 : BitVec 32 := Scalar.maxsi v1700 v1701
  let v1702 : BitVec 32 := Scalar.maxsi v1686 v1672
  let v1731 : BitVec 32 := Scalar.minsi v1716 v1702
  let v1745 : BitVec 32 := Scalar.minsi v1730 v1731
  let v1759 : BitVec 32 := Scalar.minsi v1744 v1745
  let v1774 : BitVec 32 := Scalar.maxsi v1758 v1759
  let v1760 : BitVec 32 := Scalar.maxsi v1744 v1745
  let v1746 : BitVec 32 := Scalar.maxsi v1730 v1731
  let v1732 : BitVec 32 := Scalar.maxsi v1716 v1702
  let v1761 : BitVec 32 := Scalar.minsi v1746 v1732
  let v1775 : BitVec 32 := Scalar.minsi v1760 v1761
  let v1790 : BitVec 32 := Scalar.maxsi v1774 v1775
  let v1776 : BitVec 32 := Scalar.maxsi v1760 v1761
  let v1762 : BitVec 32 := Scalar.maxsi v1746 v1732
  let v1791 : BitVec 32 := Scalar.minsi v1776 v1762
  let v1806 : BitVec 32 := Scalar.maxsi v1790 v1791
  let v1901 : Index := Scalar.indexCast v1806
  let c0_332 : Index := 0#32
  ![v1901.toNat, 0]
def k0_off93 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Fin 2 → Nat :=
  let v1568 : BitVec 32 := Scalar.maxsi v183 v246
  let v1569 : BitVec 32 := Scalar.minsi v306 v366
  let v1584 : BitVec 32 := Scalar.maxsi v1568 v1569
  let v1570 : BitVec 32 := Scalar.maxsi v306 v366
  let v1571 : BitVec 32 := Scalar.minsi v426 v486
  let v1585 : BitVec 32 := Scalar.minsi v1570 v1571
  let v1600 : BitVec 32 := Scalar.maxsi v1584 v1585
  let v1586 : BitVec 32 := Scalar.maxsi v1570 v1571
  let v1572 : BitVec 32 := Scalar.maxsi v426 v486
  let v1573 : BitVec 32 := Scalar.minsi v546 v606
  let v1587 : BitVec 32 := Scalar.minsi v1572 v1573
  let v1601 : BitVec 32 := Scalar.minsi v1586 v1587
  let v1616 : BitVec 32 := Scalar.maxsi v1600 v1601
  let v1602 : BitVec 32 := Scalar.maxsi v1586 v1587
  let v1588 : BitVec 32 := Scalar.maxsi v1572 v1573
  let v1574 : BitVec 32 := Scalar.maxsi v546 v606
  let v1575 : BitVec 32 := Scalar.minsi v666 v726
  let v1589 : BitVec 32 := Scalar.minsi v1574 v1575
  let v1603 : BitVec 32 := Scalar.minsi v1588 v1589
  let v1617 : BitVec 32 := Scalar.minsi v1602 v1603
  let v1632 : BitVec 32 := Scalar.maxsi v1616 v1617
  let v1618 : BitVec 32 := Scalar.maxsi v1602 v1603
  let v1604 : BitVec 32 := Scalar.maxsi v1588 v1589
  let v1590 : BitVec 32 := Scalar.maxsi v1574 v1575
  let v1576 : BitVec 32 := Scalar.maxsi v666 v726
  let v1577 : BitVec 32 := Scalar.minsi v786 v846
  let v1591 : BitVec 32 := Scalar.minsi v1576 v1577
  let v1605 : BitVec 32 := Scalar.minsi v1590 v1591
  let v1619 : BitVec 32 := Scalar.minsi v1604 v1605
  let v1633 : BitVec 32 := Scalar.minsi v1618 v1619
  let v1648 : BitVec 32 := Scalar.maxsi v1632 v1633
  let v1634 : BitVec 32 := Scalar.maxsi v1618 v1619
  let v1620 : BitVec 32 := Scalar.maxsi v1604 v1605
  let v1606 : BitVec 32 := Scalar.maxsi v1590 v1591
  let v1592 : BitVec 32 := Scalar.maxsi v1576 v1577
  let v1578 : BitVec 32 := Scalar.maxsi v786 v846
  let v1579 : BitVec 32 := Scalar.minsi v906 v966
  let v1593 : BitVec 32 := Scalar.minsi v1578 v1579
  let v1607 : BitVec 32 := Scalar.minsi v1592 v1593
  let v1621 : BitVec 32 := Scalar.minsi v1606 v1607
  let v1635 : BitVec 32 := Scalar.minsi v1620 v1621
  let v1649 : BitVec 32 := Scalar.minsi v1634 v1635
  let v1664 : BitVec 32 := Scalar.maxsi v1648 v1649
  let v1650 : BitVec 32 := Scalar.maxsi v1634 v1635
  let v1636 : BitVec 32 := Scalar.maxsi v1620 v1621
  let v1622 : BitVec 32 := Scalar.maxsi v1606 v1607
  let v1608 : BitVec 32 := Scalar.maxsi v1592 v1593
  let v1594 : BitVec 32 := Scalar.maxsi v1578 v1579
  let v1580 : BitVec 32 := Scalar.maxsi v906 v966
  let v1581 : BitVec 32 := Scalar.minsi v1026 v1086
  let v1595 : BitVec 32 := Scalar.minsi v1580 v1581
  let v1609 : BitVec 32 := Scalar.minsi v1594 v1595
  let v1623 : BitVec 32 := Scalar.minsi v1608 v1609
  let v1637 : BitVec 32 := Scalar.minsi v1622 v1623
  let v1651 : BitVec 32 := Scalar.minsi v1636 v1637
  let v1665 : BitVec 32 := Scalar.minsi v1650 v1651
  let v1680 : BitVec 32 := Scalar.maxsi v1664 v1665
  let v1666 : BitVec 32 := Scalar.maxsi v1650 v1651
  let v1652 : BitVec 32 := Scalar.maxsi v1636 v1637
  let v1638 : BitVec 32 := Scalar.maxsi v1622 v1623
  let v1624 : BitVec 32 := Scalar.maxsi v1608 v1609
  let v1610 : BitVec 32 := Scalar.maxsi v1594 v1595
  let v1596 : BitVec 32 := Scalar.maxsi v1580 v1581
  let v1582 : BitVec 32 := Scalar.maxsi v1026 v1086
  let v1611 : BitVec 32 := Scalar.minsi v1596 v1582
  let v1625 : BitVec 32 := Scalar.minsi v1610 v1611
  let v1639 : BitVec 32 := Scalar.minsi v1624 v1625
  let v1653 : BitVec 32 := Scalar.minsi v1638 v1639
  let v1667 : BitVec 32 := Scalar.minsi v1652 v1653
  let v1681 : BitVec 32 := Scalar.minsi v1666 v1667
  let v1696 : BitVec 32 := Scalar.maxsi v1680 v1681
  let v1682 : BitVec 32 := Scalar.maxsi v1666 v1667
  let v1668 : BitVec 32 := Scalar.maxsi v1652 v1653
  let v1654 : BitVec 32 := Scalar.maxsi v1638 v1639
  let v1640 : BitVec 32 := Scalar.maxsi v1624 v1625
  let v1626 : BitVec 32 := Scalar.maxsi v1610 v1611
  let v1612 : BitVec 32 := Scalar.maxsi v1596 v1582
  let v1641 : BitVec 32 := Scalar.minsi v1626 v1612
  let v1655 : BitVec 32 := Scalar.minsi v1640 v1641
  let v1669 : BitVec 32 := Scalar.minsi v1654 v1655
  let v1683 : BitVec 32 := Scalar.minsi v1668 v1669
  let v1697 : BitVec 32 := Scalar.minsi v1682 v1683
  let v1712 : BitVec 32 := Scalar.maxsi v1696 v1697
  let v1698 : BitVec 32 := Scalar.maxsi v1682 v1683
  let v1684 : BitVec 32 := Scalar.maxsi v1668 v1669
  let v1670 : BitVec 32 := Scalar.maxsi v1654 v1655
  let v1656 : BitVec 32 := Scalar.maxsi v1640 v1641
  let v1642 : BitVec 32 := Scalar.maxsi v1626 v1612
  let v1671 : BitVec 32 := Scalar.minsi v1656 v1642
  let v1685 : BitVec 32 := Scalar.minsi v1670 v1671
  let v1699 : BitVec 32 := Scalar.minsi v1684 v1685
  let v1713 : BitVec 32 := Scalar.minsi v1698 v1699
  let v1728 : BitVec 32 := Scalar.maxsi v1712 v1713
  let v1714 : BitVec 32 := Scalar.maxsi v1698 v1699
  let v1700 : BitVec 32 := Scalar.maxsi v1684 v1685
  let v1686 : BitVec 32 := Scalar.maxsi v1670 v1671
  let v1672 : BitVec 32 := Scalar.maxsi v1656 v1642
  let v1701 : BitVec 32 := Scalar.minsi v1686 v1672
  let v1715 : BitVec 32 := Scalar.minsi v1700 v1701
  let v1729 : BitVec 32 := Scalar.minsi v1714 v1715
  let v1744 : BitVec 32 := Scalar.maxsi v1728 v1729
  let v1730 : BitVec 32 := Scalar.maxsi v1714 v1715
  let v1716 : BitVec 32 := Scalar.maxsi v1700 v1701
  let v1702 : BitVec 32 := Scalar.maxsi v1686 v1672
  let v1731 : BitVec 32 := Scalar.minsi v1716 v1702
  let v1745 : BitVec 32 := Scalar.minsi v1730 v1731
  let v1760 : BitVec 32 := Scalar.maxsi v1744 v1745
  let v1746 : BitVec 32 := Scalar.maxsi v1730 v1731
  let v1732 : BitVec 32 := Scalar.maxsi v1716 v1702
  let v1761 : BitVec 32 := Scalar.minsi v1746 v1732
  let v1776 : BitVec 32 := Scalar.maxsi v1760 v1761
  let v1762 : BitVec 32 := Scalar.maxsi v1746 v1732
  let v1792 : BitVec 32 := Scalar.maxsi v1776 v1762
  let v1903 : Index := Scalar.indexCast v1792
  let c0_333 : Index := 0#32
  ![v1903.toNat, 0]

def k0_chk48 (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) : Prop :=
  (∀ a, (k0_off78 v183 v246 v306 v366 v426 v486 v546 v606 v666 v726 v786 v846 v906 v966 v1026 v1086) a + S1x32.size a ≤ S1024x32.size a) ∧
  (∀ a, (k0_off79 v183 v246 v306 v366 v426 v486 v546 v606 v666 v726 v786 v846 v906 v966 v1026 v1086) a + S1x32.size a ≤ S1024x32.size a) ∧
  (∀ a, (k0_off80 v183 v246 v306 v366 v426 v486 v546 v606 v666 v726 v786 v846 v906 v966 v1026 v1086) a + S1x32.size a ≤ S1024x32.size a) ∧
  (∀ a, (k0_off81 v183 v246 v306 v366 v426 v486 v546 v606 v666 v726 v786 v846 v906 v966 v1026 v1086) a + S1x32.size a ≤ S1024x32.size a) ∧
  (∀ a, (k0_off82 v183 v246 v306 v366 v426 v486 v546 v606 v666 v726 v786 v846 v906 v966 v1026 v1086) a + S1x32.size a ≤ S1024x32.size a) ∧
  (∀ a, (k0_off83 v183 v246 v306 v366 v426 v486 v546 v606 v666 v726 v786 v846 v906 v966 v1026 v1086) a + S1x32.size a ≤ S1024x32.size a) ∧
  (∀ a, (k0_off84 v183 v246 v306 v366 v426 v486 v546 v606 v666 v726 v786 v846 v906 v966 v1026 v1086) a + S1x32.size a ≤ S1024x32.size a) ∧
  (∀ a, (k0_off85 v183 v246 v306 v366 v426 v486 v546 v606 v666 v726 v786 v846 v906 v966 v1026 v1086) a + S1x32.size a ≤ S1024x32.size a) ∧
  (∀ a, (k0_off86 v183 v246 v306 v366 v426 v486 v546 v606 v666 v726 v786 v846 v906 v966 v1026 v1086) a + S1x32.size a ≤ S1024x32.size a) ∧
  (∀ a, (k0_off87 v183 v246 v306 v366 v426 v486 v546 v606 v666 v726 v786 v846 v906 v966 v1026 v1086) a + S1x32.size a ≤ S1024x32.size a) ∧
  (∀ a, (k0_off88 v183 v246 v306 v366 v426 v486 v546 v606 v666 v726 v786 v846 v906 v966 v1026 v1086) a + S1x32.size a ≤ S1024x32.size a) ∧
  (∀ a, (k0_off89 v183 v246 v306 v366 v426 v486 v546 v606 v666 v726 v786 v846 v906 v966 v1026 v1086) a + S1x32.size a ≤ S1024x32.size a) ∧
  (∀ a, (k0_off90 v183 v246 v306 v366 v426 v486 v546 v606 v666 v726 v786 v846 v906 v966 v1026 v1086) a + S1x32.size a ≤ S1024x32.size a) ∧
  (∀ a, (k0_off91 v183 v246 v306 v366 v426 v486 v546 v606 v666 v726 v786 v846 v906 v966 v1026 v1086) a + S1x32.size a ≤ S1024x32.size a) ∧
  (∀ a, (k0_off92 v183 v246 v306 v366 v426 v486 v546 v606 v666 v726 v786 v846 v906 v966 v1026 v1086) a + S1x32.size a ≤ S1024x32.size a) ∧
  (∀ a, (k0_off93 v183 v246 v306 v366 v426 v486 v546 v606 v666 v726 v786 v846 v906 v966 v1026 v1086) a + S1x32.size a ≤ S1024x32.size a)
theorem k0_off78_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off78 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.1
theorem k0_off79_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off79 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.1
theorem k0_off80_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off80 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.1
theorem k0_off81_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off81 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.1
theorem k0_off82_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off82 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.1
theorem k0_off83_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off83 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.1
theorem k0_off84_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off84 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.1
theorem k0_off85_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off85 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.1
theorem k0_off86_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off86 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.1
theorem k0_off87_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off87 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.2.1
theorem k0_off88_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off88 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.2.2.1
theorem k0_off89_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off89 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.2.2.2.1
theorem k0_off90_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off90 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.2.2.2.2.1
theorem k0_off91_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off91 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.2.2.2.2.2.1
theorem k0_off92_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off92 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.2.2.2.2.2.2.1
theorem k0_off93_inb : ∀ (v183 : BitVec 32) (v246 : BitVec 32) (v306 : BitVec 32) (v366 : BitVec 32) (v426 : BitVec 32) (v486 : BitVec 32) (v546 : BitVec 32) (v606 : BitVec 32) (v666 : BitVec 32) (v726 : BitVec 32) (v786 : BitVec 32) (v846 : BitVec 32) (v906 : BitVec 32) (v966 : BitVec 32) (v1026 : BitVec 32) (v1086 : BitVec 32) (k0_hw48 : k0_chk48 v183 v246 v306 v366 v426 v486 v546 v606 v666 v726 v786 v846 v906 v966 v1026 v1086), ∀ a, (k0_off93 v183 v246 v306 v366 v426 v486 v546 v606 v666 v726 v786 v846 v906 v966 v1026 v1086) a + S1x32.size a ≤ S1024x32.size a := fun v183 v246 v306 v366 v426 v486 v546 v606 v666 v726 v786 v846 v906 v966 v1026 v1086 k0_hw48 => k0_hw48.2.2.2.2.2.2.2.2.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x1024x4 : Shape := ⟨3, ![2, 1024, 4]⟩
abbrev S4x128 : Shape := ⟨2, ![4, 128]⟩
abbrev S4x32 : Shape := ⟨2, ![4, 32]⟩
abbrev S128x32 : Shape := ⟨2, ![128, 32]⟩
abbrev S32x1 : Shape := ⟨2, ![32, 1]⟩
abbrev S32x128 : Shape := ⟨2, ![32, 128]⟩
abbrev S2x1024x128 : Shape := ⟨3, ![2, 1024, 128]⟩
abbrev S2x1024x1x4 : Shape := ⟨4, ![2, 1024, 1, 4]⟩
abbrev S2x1024x16x4 : Shape := ⟨4, ![2, 1024, 16, 4]⟩
abbrev S_ : Shape := ⟨0, ![]⟩
abbrev S2x1039x4 : Shape := ⟨3, ![2, 1039, 4]⟩
abbrev S1024 : Shape := ⟨1, ![1024]⟩
abbrev S1024x1 : Shape := ⟨2, ![1024, 1]⟩
abbrev S16 : Shape := ⟨1, ![16]⟩
abbrev S1x16 : Shape := ⟨2, ![1, 16]⟩
abbrev S1024x16 : Shape := ⟨2, ![1024, 16]⟩
abbrev S1024x16x1 : Shape := ⟨3, ![1024, 16, 1]⟩
abbrev S2x1024x16x32 : Shape := ⟨4, ![2, 1024, 16, 32]⟩
abbrev S2x1024x32 : Shape := ⟨3, ![2, 1024, 32]⟩
abbrev S2x1039x32 : Shape := ⟨3, ![2, 1039, 32]⟩
abbrev S2x1024x1x32 : Shape := ⟨4, ![2, 1024, 1, 32]⟩
abbrev S2x1024x16x1 : Shape := ⟨4, ![2, 1024, 16, 1]⟩
abbrev S2x1x1024x16 : Shape := ⟨4, ![2, 1, 1024, 16]⟩
abbrev S2x1x1024 : Shape := ⟨3, ![2, 1, 1024]⟩
abbrev S2x1x1024x1 : Shape := ⟨4, ![2, 1, 1024, 1]⟩
abbrev S2x32x16x1024 : Shape := ⟨4, ![2, 32, 16, 1024]⟩
abbrev S2x1024x16 : Shape := ⟨3, ![2, 1024, 16]⟩
abbrev S2x1024x32x1024 : Shape := ⟨4, ![2, 1024, 32, 1024]⟩
abbrev S2x32x1024x1024 : Shape := ⟨4, ![2, 32, 1024, 1024]⟩
abbrev S2x32x1024 : Shape := ⟨3, ![2, 32, 1024]⟩
abbrev S2x128 : Shape := ⟨2, ![2, 128]⟩
abbrev S2x1x128 : Shape := ⟨3, ![2, 1, 128]⟩
abbrev S2x1024 : Shape := ⟨2, ![2, 1024]⟩
abbrev S2x16 : Shape := ⟨2, ![2, 16]⟩
abbrev S2x1 : Shape := ⟨2, ![2, 1]⟩
abbrev S2x32 : Shape := ⟨2, ![2, 32]⟩
abbrev S2x1x32 : Shape := ⟨3, ![2, 1, 32]⟩
abbrev S2x1x1 : Shape := ⟨3, ![2, 1, 1]⟩
abbrev S2x1x128x1 : Shape := ⟨4, ![2, 1, 128, 1]⟩
abbrev S2x1x32x1 : Shape := ⟨4, ![2, 1, 32, 1]⟩
abbrev S2x16x1 : Shape := ⟨3, ![2, 16, 1]⟩
abbrev S2x16x128 : Shape := ⟨3, ![2, 16, 128]⟩
abbrev S2x16x128x1 : Shape := ⟨4, ![2, 16, 128, 1]⟩
abbrev S2x16x32 : Shape := ⟨3, ![2, 16, 32]⟩
abbrev S2x16x32x1 : Shape := ⟨4, ![2, 16, 32, 1]⟩
abbrev S2x1024x1x128 : Shape := ⟨4, ![2, 1024, 1, 128]⟩
abbrev S2x1024x16x128 : Shape := ⟨4, ![2, 1024, 16, 128]⟩
abbrev S2x1x16x128 : Shape := ⟨4, ![2, 1, 16, 128]⟩
abbrev S2x1x16x32 : Shape := ⟨4, ![2, 1, 16, 32]⟩

abbrev nBuf : Space → Nat
  | .hbm => 339
  | .vmem => 0
  | .smem => 0
  | _ => 0

abbrev hbmTy0_0 (i : Nat) : BufTy := match i % 128 with
  | 0 => ⟨S2x1024x4, .f32⟩
  | 1 => ⟨S4x128, .f32⟩
  | 2 => ⟨S4x32, .f32⟩
  | 3 => ⟨S128x32, .f32⟩
  | 4 => ⟨S128x32, .f32⟩
  | 5 => ⟨S128x32, .f32⟩
  | 6 => ⟨S32x1, .f32⟩
  | 7 => ⟨S32x128, .f32⟩
  | 8 => ⟨S128x32, .f32⟩
  | 9 => ⟨S128x32, .f32⟩
  | 10 => ⟨S128x32, .f32⟩
  | 11 => ⟨S128x32, .f32⟩
  | 12 => ⟨S32x1, .f32⟩
  | 13 => ⟨S32x128, .f32⟩
  | 14 => ⟨S2x1024x128, .f32⟩
  | 15 => ⟨S2x1024x1x4, .f32⟩
  | 16 => ⟨S2x1024x16x4, .f32⟩
  | 17 => ⟨S_, .i32⟩
  | 18 => ⟨S_, .f32⟩
  | 19 => ⟨S2x1039x4, .f32⟩
  | 20 => ⟨S1024, .i32⟩
  | 21 => ⟨S1024x1, .i32⟩
  | 22 => ⟨S16, .i32⟩
  | 23 => ⟨S1x16, .i32⟩
  | 24 => ⟨S1024x16, .i32⟩
  | 25 => ⟨S1024x16, .i32⟩
  | 26 => ⟨S1024x16, .i32⟩
  | 27 => ⟨S_, .i32⟩
  | 28 => ⟨S1024x16, .i32⟩
  | 29 => ⟨S1024x16, .i1⟩
  | 30 => ⟨S_, .i32⟩
  | 31 => ⟨S1024x16, .i32⟩
  | 32 => ⟨S1024x16, .i32⟩
  | 33 => ⟨S1024x16, .i32⟩
  | 34 => ⟨S1024x16x1, .i32⟩
  | 35 => ⟨S2x1024x16x4, .f32⟩
  | 36 => ⟨S2x1024x16x4, .f32⟩
  | 37 => ⟨S2x1024x16x32, .f32⟩
  | 38 => ⟨S2x1024x32, .f32⟩
  | 39 => ⟨S2x1024x32, .f32⟩
  | 40 => ⟨S2x1024x32, .f32⟩
  | 41 => ⟨S_, .i32⟩
  | 42 => ⟨S_, .f32⟩
  | 43 => ⟨S2x1039x32, .f32⟩
  | 44 => ⟨S1024, .i32⟩
  | 45 => ⟨S1024x1, .i32⟩
  | 46 => ⟨S16, .i32⟩
  | 47 => ⟨S1x16, .i32⟩
  | 48 => ⟨S1024x16, .i32⟩
  | 49 => ⟨S1024x16, .i32⟩
  | 50 => ⟨S1024x16, .i32⟩
  | 51 => ⟨S_, .i32⟩
  | 52 => ⟨S1024x16, .i32⟩
  | 53 => ⟨S1024x16, .i1⟩
  | 54 => ⟨S_, .i32⟩
  | 55 => ⟨S1024x16, .i32⟩
  | 56 => ⟨S1024x16, .i32⟩
  | 57 => ⟨S1024x16, .i32⟩
  | 58 => ⟨S1024x16x1, .i32⟩
  | 59 => ⟨S2x1024x16x32, .f32⟩
  | 60 => ⟨S_, .i32⟩
  | 61 => ⟨S_, .f32⟩
  | 62 => ⟨S2x1039x32, .f32⟩
  | 63 => ⟨S1024, .i32⟩
  | 64 => ⟨S1024x1, .i32⟩
  | 65 => ⟨S16, .i32⟩
  | 66 => ⟨S1x16, .i32⟩
  | 67 => ⟨S1024x16, .i32⟩
  | 68 => ⟨S1024x16, .i32⟩
  | 69 => ⟨S1024x16, .i32⟩
  | 70 => ⟨S_, .i32⟩
  | 71 => ⟨S1024x16, .i32⟩
  | 72 => ⟨S1024x16, .i1⟩
  | 73 => ⟨S_, .i32⟩
  | 74 => ⟨S1024x16, .i32⟩
  | 75 => ⟨S1024x16, .i32⟩
  | 76 => ⟨S1024x16, .i32⟩
  | 77 => ⟨S1024x16x1, .i32⟩
  | 78 => ⟨S2x1024x16x32, .f32⟩
  | 79 => ⟨S2x1024x1x32, .f32⟩
  | 80 => ⟨S2x1024x16x32, .f32⟩
  | 81 => ⟨S2x1024x16x32, .f32⟩
  | 82 => ⟨S2x1024x16x32, .f32⟩
  | 83 => ⟨S2x1024x16x1, .f32⟩
  | 84 => ⟨S2x1x1024x16, .f32⟩
  | 85 => ⟨S_, .f32⟩
  | 86 => ⟨S2x1x1024, .f32⟩
  | 87 => ⟨S_, .f32⟩
  | 88 => ⟨S2x1x1024, .f32⟩
  | 89 => ⟨S2x1x1024, .f32⟩
  | 90 => ⟨S2x1x1024x1, .f32⟩
  | 91 => ⟨S2x1x1024x16, .f32⟩
  | 92 => ⟨S2x1x1024x16, .f32⟩
  | 93 => ⟨S2x1x1024x16, .f32⟩
  | 94 => ⟨S_, .f32⟩
  | 95 => ⟨S2x1x1024, .f32⟩
  | 96 => ⟨S2x1x1024x1, .f32⟩
  | 97 => ⟨S2x1x1024x16, .f32⟩
  | 98 => ⟨S2x1x1024x16, .f32⟩
  | 99 => ⟨S2x1024x16x32, .f32⟩
  | 100 => ⟨S2x32x16x1024, .f32⟩
  | 101 => ⟨S2x1024x16, .f32⟩
  | 102 => ⟨S2x1024x32x1024, .f32⟩
  | 103 => ⟨S2x32x1024x1024, .f32⟩
  | 104 => ⟨S_, .f32⟩
  | 105 => ⟨S2x32x1024, .f32⟩
  | 106 => ⟨S2x1024x32, .f32⟩
  | 107 => ⟨S2x1024x128, .f32⟩
  | 108 => ⟨S2x1024x128, .f32⟩
  | 109 => ⟨S2x1024x32, .f32⟩
  | 110 => ⟨S2x1024x32, .f32⟩
  | 111 => ⟨S_, .f32⟩
  | 112 => ⟨S2x128, .f32⟩
  | 113 => ⟨S2x1x128, .f32⟩
  | 114 => ⟨S_, .f32⟩
  | 115 => ⟨S2x1x128, .f32⟩
  | 116 => ⟨S2x1x128, .f32⟩
  | 117 => ⟨S2x1024x128, .f32⟩
  | 118 => ⟨S2x1024x128, .f32⟩
  | 119 => ⟨S2x1024x128, .f32⟩
  | 120 => ⟨S_, .f32⟩
  | 121 => ⟨S2x1024, .f32⟩
  | 122 => ⟨S_, .i32⟩
  | 123 => ⟨S2x16, .i32⟩
  | 124 => ⟨S_, .f32⟩
  | 125 => ⟨S2x1024, .f32⟩
  | 126 => ⟨S2x1, .f32⟩
  | 127 => ⟨S2x1, .i32⟩
  | _ => ⟨S2x1024x4, .f32⟩

abbrev hbmTy0_1 (i : Nat) : BufTy := match i % 128 with
  | 0 => ⟨S_, .f32⟩
  | 1 => ⟨S2x32, .f32⟩
  | 2 => ⟨S2x1x32, .f32⟩
  | 3 => ⟨S_, .f32⟩
  | 4 => ⟨S2x1x32, .f32⟩
  | 5 => ⟨S2x1x32, .f32⟩
  | 6 => ⟨S2x1024x32, .f32⟩
  | 7 => ⟨S2x1024x32, .f32⟩
  | 8 => ⟨S2x1024x32, .f32⟩
  | 9 => ⟨S_, .f32⟩
  | 10 => ⟨S2x1024, .f32⟩
  | 11 => ⟨S_, .i32⟩
  | 12 => ⟨S2x16, .i32⟩
  | 13 => ⟨S_, .f32⟩
  | 14 => ⟨S2x1024, .f32⟩
  | 15 => ⟨S2x1, .f32⟩
  | 16 => ⟨S2x1, .i32⟩
  | 17 => ⟨S_, .f32⟩
  | 18 => ⟨S2x32, .f32⟩
  | 19 => ⟨S2x1x32, .f32⟩
  | 20 => ⟨S_, .f32⟩
  | 21 => ⟨S2x1x32, .f32⟩
  | 22 => ⟨S2x1x32, .f32⟩
  | 23 => ⟨S2x1024x32, .f32⟩
  | 24 => ⟨S2x1024x32, .f32⟩
  | 25 => ⟨S2x1024x32, .f32⟩
  | 26 => ⟨S_, .f32⟩
  | 27 => ⟨S2x1024, .f32⟩
  | 28 => ⟨S_, .i32⟩
  | 29 => ⟨S2x16, .i32⟩
  | 30 => ⟨S_, .f32⟩
  | 31 => ⟨S2x1024, .f32⟩
  | 32 => ⟨S2x1, .f32⟩
  | 33 => ⟨S2x1, .i32⟩
  | 34 => ⟨S_, .i32⟩
  | 35 => ⟨S_, .i32⟩
  | 36 => ⟨S_, .i32⟩
  | 37 => ⟨S_, .i32⟩
  | 38 => ⟨S2x1024x128, .f32⟩
  | 39 => ⟨S2x16, .i32⟩
  | 40 => ⟨S2x1024, .f32⟩
  | 41 => ⟨S2x1, .i32⟩
  | 42 => ⟨S2x1024x32, .f32⟩
  | 43 => ⟨S2x16, .i32⟩
  | 44 => ⟨S2x1024, .f32⟩
  | 45 => ⟨S2x1, .i32⟩
  | 46 => ⟨S2x1024x32, .f32⟩
  | 47 => ⟨S2x16, .i32⟩
  | 48 => ⟨S2x1024, .f32⟩
  | 49 => ⟨S2x1, .i32⟩
  | 50 => ⟨S_, .i32⟩
  | 51 => ⟨S_, .i1⟩
  | 52 => ⟨S_, .i32⟩
  | 53 => ⟨S_, .i32⟩
  | 54 => ⟨S16, .i32⟩
  | 55 => ⟨S_, .i32⟩
  | 56 => ⟨S16, .i32⟩
  | 57 => ⟨S16, .i1⟩
  | 58 => ⟨S2x16, .i1⟩
  | 59 => ⟨S2x16, .i32⟩
  | 60 => ⟨S2x16, .i32⟩
  | 61 => ⟨S2x1x1, .i32⟩
  | 62 => ⟨S2x1x128, .i32⟩
  | 63 => ⟨S_, .i32⟩
  | 64 => ⟨S2x1x128, .i32⟩
  | 65 => ⟨S2x1x128, .i1⟩
  | 66 => ⟨S_, .i32⟩
  | 67 => ⟨S2x1x128, .i32⟩
  | 68 => ⟨S2x1x128, .i32⟩
  | 69 => ⟨S2x1x128, .i32⟩
  | 70 => ⟨S2x1x128x1, .i32⟩
  | 71 => ⟨S2x1x128, .f32⟩
  | 72 => ⟨S2x1024x128, .f32⟩
  | 73 => ⟨S2x1024x128, .f32⟩
  | 74 => ⟨S2x1024x128, .f32⟩
  | 75 => ⟨S_, .f32⟩
  | 76 => ⟨S2x1024, .f32⟩
  | 77 => ⟨S2x1024, .f32⟩
  | 78 => ⟨S2x1, .f32⟩
  | 79 => ⟨S2x1, .i32⟩
  | 80 => ⟨S16, .i32⟩
  | 81 => ⟨S_, .i32⟩
  | 82 => ⟨S16, .i32⟩
  | 83 => ⟨S16, .i1⟩
  | 84 => ⟨S2x16, .i1⟩
  | 85 => ⟨S2x16, .i32⟩
  | 86 => ⟨S2x16, .i32⟩
  | 87 => ⟨S2x1x1, .i32⟩
  | 88 => ⟨S2x1x32, .i32⟩
  | 89 => ⟨S_, .i32⟩
  | 90 => ⟨S2x1x32, .i32⟩
  | 91 => ⟨S2x1x32, .i1⟩
  | 92 => ⟨S_, .i32⟩
  | 93 => ⟨S2x1x32, .i32⟩
  | 94 => ⟨S2x1x32, .i32⟩
  | 95 => ⟨S2x1x32, .i32⟩
  | 96 => ⟨S2x1x32x1, .i32⟩
  | 97 => ⟨S2x1x32, .f32⟩
  | 98 => ⟨S2x1024x32, .f32⟩
  | 99 => ⟨S2x1024x32, .f32⟩
  | 100 => ⟨S2x1024x32, .f32⟩
  | 101 => ⟨S_, .f32⟩
  | 102 => ⟨S2x1024, .f32⟩
  | 103 => ⟨S2x1024, .f32⟩
  | 104 => ⟨S2x1, .f32⟩
  | 105 => ⟨S2x1, .i32⟩
  | 106 => ⟨S16, .i32⟩
  | 107 => ⟨S_, .i32⟩
  | 108 => ⟨S16, .i32⟩
  | 109 => ⟨S16, .i1⟩
  | 110 => ⟨S2x16, .i1⟩
  | 111 => ⟨S2x16, .i32⟩
  | 112 => ⟨S2x16, .i32⟩
  | 113 => ⟨S2x1x1, .i32⟩
  | 114 => ⟨S2x1x32, .i32⟩
  | 115 => ⟨S_, .i32⟩
  | 116 => ⟨S2x1x32, .i32⟩
  | 117 => ⟨S2x1x32, .i1⟩
  | 118 => ⟨S_, .i32⟩
  | 119 => ⟨S2x1x32, .i32⟩
  | 120 => ⟨S2x1x32, .i32⟩
  | 121 => ⟨S2x1x32, .i32⟩
  | 122 => ⟨S2x1x32x1, .i32⟩
  | 123 => ⟨S2x1x32, .f32⟩
  | 124 => ⟨S2x1024x32, .f32⟩
  | 125 => ⟨S2x1024x32, .f32⟩
  | 126 => ⟨S2x1024x32, .f32⟩
  | 127 => ⟨S_, .f32⟩
  | _ => ⟨S2x1024x4, .f32⟩

abbrev hbmTy0_2 (i : Nat) : BufTy := match i % 128 with
  | 0 => ⟨S2x1024, .f32⟩
  | 1 => ⟨S2x1024, .f32⟩
  | 2 => ⟨S2x1, .f32⟩
  | 3 => ⟨S2x1, .i32⟩
  | 4 => ⟨S_, .i32⟩
  | 5 => ⟨S_, .i32⟩
  | 6 => ⟨S2x16, .i32⟩
  | 7 => ⟨S2x16x1, .i32⟩
  | 8 => ⟨S2x16x128, .i32⟩
  | 9 => ⟨S_, .i32⟩
  | 10 => ⟨S2x16x128, .i32⟩
  | 11 => ⟨S2x16x128, .i1⟩
  | 12 => ⟨S_, .i32⟩
  | 13 => ⟨S2x16x128, .i32⟩
  | 14 => ⟨S2x16x128, .i32⟩
  | 15 => ⟨S2x16x128, .i32⟩
  | 16 => ⟨S2x16x128x1, .i32⟩
  | 17 => ⟨S2x16x128, .f32⟩
  | 18 => ⟨S2x16, .i32⟩
  | 19 => ⟨S2x16x1, .i32⟩
  | 20 => ⟨S2x16x32, .i32⟩
  | 21 => ⟨S_, .i32⟩
  | 22 => ⟨S2x16x32, .i32⟩
  | 23 => ⟨S2x16x32, .i1⟩
  | 24 => ⟨S_, .i32⟩
  | 25 => ⟨S2x16x32, .i32⟩
  | 26 => ⟨S2x16x32, .i32⟩
  | 27 => ⟨S2x16x32, .i32⟩
  | 28 => ⟨S2x16x32x1, .i32⟩
  | 29 => ⟨S2x16x32, .f32⟩
  | 30 => ⟨S2x16, .i32⟩
  | 31 => ⟨S2x16x1, .i32⟩
  | 32 => ⟨S2x16x32, .i32⟩
  | 33 => ⟨S_, .i32⟩
  | 34 => ⟨S2x16x32, .i32⟩
  | 35 => ⟨S2x16x32, .i1⟩
  | 36 => ⟨S_, .i32⟩
  | 37 => ⟨S2x16x32, .i32⟩
  | 38 => ⟨S2x16x32, .i32⟩
  | 39 => ⟨S2x16x32, .i32⟩
  | 40 => ⟨S2x16x32x1, .i32⟩
  | 41 => ⟨S2x16x32, .f32⟩
  | 42 => ⟨S2x1024x1x128, .f32⟩
  | 43 => ⟨S2x1024x16x128, .f32⟩
  | 44 => ⟨S2x1x16x128, .f32⟩
  | 45 => ⟨S2x1024x16x128, .f32⟩
  | 46 => ⟨S2x1024x16x128, .f32⟩
  | 47 => ⟨S2x1024x16x32, .f32⟩
  | 48 => ⟨S2x1024x32, .f32⟩
  | 49 => ⟨S2x1x16x32, .f32⟩
  | 50 => ⟨S2x1024x16x32, .f32⟩
  | 51 => ⟨S2x1x16x32, .f32⟩
  | 52 => ⟨S2x1024x16x32, .f32⟩
  | 53 => ⟨S2x1024x1x32, .f32⟩
  | 54 => ⟨S2x1024x16x32, .f32⟩
  | 55 => ⟨S2x1024x16x32, .f32⟩
  | 56 => ⟨S2x1024x16x32, .f32⟩
  | 57 => ⟨S2x1024x16x1, .f32⟩
  | 58 => ⟨S2x1x1024x16, .f32⟩
  | 59 => ⟨S_, .f32⟩
  | 60 => ⟨S2x1x1024, .f32⟩
  | 61 => ⟨S_, .f32⟩
  | 62 => ⟨S2x1x1024, .f32⟩
  | 63 => ⟨S2x1x1024, .f32⟩
  | 64 => ⟨S2x1x1024x1, .f32⟩
  | 65 => ⟨S2x1x1024x16, .f32⟩
  | 66 => ⟨S2x1x1024x16, .f32⟩
  | 67 => ⟨S2x1x1024x16, .f32⟩
  | 68 => ⟨S_, .f32⟩
  | 69 => ⟨S2x1x1024, .f32⟩
  | 70 => ⟨S2x1x1024x1, .f32⟩
  | 71 => ⟨S2x1x1024x16, .f32⟩
  | 72 => ⟨S2x1x1024x16, .f32⟩
  | 73 => ⟨S2x1024x16x32, .f32⟩
  | 74 => ⟨S2x32x16x1024, .f32⟩
  | 75 => ⟨S2x1024x16, .f32⟩
  | 76 => ⟨S2x1024x32x1024, .f32⟩
  | 77 => ⟨S2x32x1024x1024, .f32⟩
  | 78 => ⟨S_, .f32⟩
  | 79 => ⟨S2x32x1024, .f32⟩
  | 80 => ⟨S2x1024x32, .f32⟩
  | 81 => ⟨S2x1024x128, .f32⟩
  | 82 => ⟨S2x1024x128, .f32⟩
  | _ => ⟨S2x1024x4, .f32⟩

abbrev hbmTy (i : Nat) : BufTy := match i / 128 with
  | 0 => hbmTy0_0 i
  | 1 => hbmTy0_1 i
  | 2 => hbmTy0_2 i
  | _ => ⟨S2x1024x4, .f32⟩

abbrev bufTy : (tb : Table) → Fin (tcTables nBuf tb) → BufTy
  | .hbm, ⟨i, _⟩ => hbmTy i
  | _, _ => ⟨S2x1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_call1_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_call2_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_v81 : Ref sig .tc := ⟨.hbm, 112, rfl⟩
abbrev main_v82 : Ref sig .tc := ⟨.hbm, 113, rfl⟩
abbrev main_cst_12 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_13 : Ref sig .tc := ⟨.hbm, 120, rfl⟩
abbrev main_v88 : Ref sig .tc := ⟨.hbm, 121, rfl⟩
abbrev main_c_14 : Ref sig .tc := ⟨.hbm, 122, rfl⟩
abbrev main_v89 : Ref sig .tc := ⟨.hbm, 123, rfl⟩
abbrev main_cst_15 : Ref sig .tc := ⟨.hbm, 124, rfl⟩
abbrev main_v90 : Ref sig .tc := ⟨.hbm, 125, rfl⟩
abbrev main_values : Ref sig .tc := ⟨.hbm, 126, rfl⟩
abbrev main_indices : Ref sig .tc := ⟨.hbm, 127, rfl⟩
abbrev main_cst_16 : Ref sig .tc := ⟨.hbm, 128, rfl⟩
abbrev main_v91 : Ref sig .tc := ⟨.hbm, 129, rfl⟩
abbrev main_v92 : Ref sig .tc := ⟨.hbm, 130, rfl⟩
abbrev main_cst_17 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_18 : Ref sig .tc := ⟨.hbm, 137, rfl⟩
abbrev main_v98 : Ref sig .tc := ⟨.hbm, 138, rfl⟩
abbrev main_c_19 : Ref sig .tc := ⟨.hbm, 139, rfl⟩
abbrev main_v99 : Ref sig .tc := ⟨.hbm, 140, rfl⟩
abbrev main_cst_20 : Ref sig .tc := ⟨.hbm, 141, rfl⟩
abbrev main_v100 : Ref sig .tc := ⟨.hbm, 142, rfl⟩
abbrev main_values_21 : Ref sig .tc := ⟨.hbm, 143, rfl⟩
abbrev main_indices_22 : Ref sig .tc := ⟨.hbm, 144, rfl⟩
abbrev main_cst_23 : Ref sig .tc := ⟨.hbm, 145, rfl⟩
abbrev main_v101 : Ref sig .tc := ⟨.hbm, 146, rfl⟩
abbrev main_v102 : Ref sig .tc := ⟨.hbm, 147, rfl⟩
abbrev main_cst_24 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_c_26 : Ref sig .tc := ⟨.hbm, 156, rfl⟩
abbrev main_v109 : Ref sig .tc := ⟨.hbm, 157, rfl⟩
abbrev main_cst_27 : Ref sig .tc := ⟨.hbm, 158, rfl⟩
abbrev main_v110 : Ref sig .tc := ⟨.hbm, 159, rfl⟩
abbrev main_values_28 : Ref sig .tc := ⟨.hbm, 160, rfl⟩
abbrev main_indices_29 : Ref sig .tc := ⟨.hbm, 161, rfl⟩
abbrev main_c_30 : Ref sig .tc := ⟨.hbm, 162, rfl⟩
abbrev main_c_31 : Ref sig .tc := ⟨.hbm, 163, rfl⟩
abbrev main_v111_0 : Ref sig .tc := ⟨.hbm, 164, rfl⟩
abbrev main_v111_1 : Ref sig .tc := ⟨.hbm, 165, rfl⟩
abbrev main_v111_2 : Ref sig .tc := ⟨.hbm, 166, rfl⟩
abbrev main_v111_3 : Ref sig .tc := ⟨.hbm, 167, rfl⟩
abbrev main_v111_4 : Ref sig .tc := ⟨.hbm, 168, rfl⟩
abbrev main_v111_5 : Ref sig .tc := ⟨.hbm, 169, rfl⟩
abbrev main_v111_6 : Ref sig .tc := ⟨.hbm, 170, rfl⟩
abbrev main_v111_7 : Ref sig .tc := ⟨.hbm, 171, rfl⟩
abbrev main_v111_8 : Ref sig .tc := ⟨.hbm, 172, rfl⟩
abbrev main_v111_9 : Ref sig .tc := ⟨.hbm, 173, rfl⟩
abbrev main_v111_10 : Ref sig .tc := ⟨.hbm, 174, rfl⟩
abbrev main_v111_11 : Ref sig .tc := ⟨.hbm, 175, rfl⟩
abbrev main_v111_12 : Ref sig .tc := ⟨.hbm, 176, rfl⟩
abbrev main_v111_13 : Ref sig .tc := ⟨.hbm, 177, rfl⟩
abbrev main_while0c_c_49 : Ref sig .tc := ⟨.hbm, 178, rfl⟩
abbrev main_while0c_v161 : Ref sig .tc := ⟨.hbm, 179, rfl⟩
abbrev main_while0b_c_49 : Ref sig .tc := ⟨.hbm, 180, rfl⟩
abbrev main_while0b_v161 : Ref sig .tc := ⟨.hbm, 181, rfl⟩
abbrev main_while0b_v162 : Ref sig .tc := ⟨.hbm, 182, rfl⟩
abbrev main_while0b_v163 : Ref sig .tc := ⟨.hbm, 183, rfl⟩
abbrev main_while0b_v164 : Ref sig .tc := ⟨.hbm, 184, rfl⟩
abbrev main_while0b_v165 : Ref sig .tc := ⟨.hbm, 185, rfl⟩
abbrev main_while0b_call3_v0 : Ref sig .tc := ⟨.hbm, 186, rfl⟩
abbrev main_while0b_call3_v1 : Ref sig .tc := ⟨.hbm, 187, rfl⟩
abbrev main_while0b_v166 : Ref sig .tc := ⟨.hbm, 188, rfl⟩
abbrev main_while0b_v167 : Ref sig .tc := ⟨.hbm, 189, rfl⟩
abbrev main_while0b_v168 : Ref sig .tc := ⟨.hbm, 190, rfl⟩
abbrev main_while0b_call4_c : Ref sig .tc := ⟨.hbm, 191, rfl⟩
abbrev main_while0b_call4_v0 : Ref sig .tc := ⟨.hbm, 192, rfl⟩
abbrev main_while0b_call4_v1 : Ref sig .tc := ⟨.hbm, 193, rfl⟩
abbrev main_while0b_call4_c_0 : Ref sig .tc := ⟨.hbm, 194, rfl⟩
abbrev main_while0b_call4_v2 : Ref sig .tc := ⟨.hbm, 195, rfl⟩
abbrev main_while0b_call4_v3 : Ref sig .tc := ⟨.hbm, 196, rfl⟩
abbrev main_while0b_call4_v4 : Ref sig .tc := ⟨.hbm, 197, rfl⟩
abbrev main_while0b_call4_v5 : Ref sig .tc := ⟨.hbm, 198, rfl⟩
abbrev main_while0b_v169 : Ref sig .tc := ⟨.hbm, 199, rfl⟩
abbrev main_while0b_v170 : Ref sig .tc := ⟨.hbm, 200, rfl⟩
abbrev main_while0b_v171 : Ref sig .tc := ⟨.hbm, 201, rfl⟩
abbrev main_while0b_v172 : Ref sig .tc := ⟨.hbm, 202, rfl⟩
abbrev main_while0b_cst_50 : Ref sig .tc := ⟨.hbm, 203, rfl⟩
abbrev main_while0b_v173 : Ref sig .tc := ⟨.hbm, 204, rfl⟩
abbrev main_while0b_v174 : Ref sig .tc := ⟨.hbm, 205, rfl⟩
abbrev main_while0b_values_51 : Ref sig .tc := ⟨.hbm, 206, rfl⟩
abbrev main_while0b_indices_52 : Ref sig .tc := ⟨.hbm, 207, rfl⟩
abbrev main_while0b_v175 : Ref sig .tc := ⟨.hbm, 208, rfl⟩
abbrev main_while0b_v176 : Ref sig .tc := ⟨.hbm, 209, rfl⟩
abbrev main_while0b_v177 : Ref sig .tc := ⟨.hbm, 210, rfl⟩
abbrev main_while0b_v178 : Ref sig .tc := ⟨.hbm, 211, rfl⟩
abbrev main_while0b_call5_v0 : Ref sig .tc := ⟨.hbm, 212, rfl⟩
abbrev main_while0b_call5_v1 : Ref sig .tc := ⟨.hbm, 213, rfl⟩
abbrev main_while0b_v179 : Ref sig .tc := ⟨.hbm, 214, rfl⟩
abbrev main_while0b_v180 : Ref sig .tc := ⟨.hbm, 215, rfl⟩
abbrev main_while0b_v181 : Ref sig .tc := ⟨.hbm, 216, rfl⟩
abbrev main_while0b_call6_c : Ref sig .tc := ⟨.hbm, 217, rfl⟩
abbrev main_while0b_call6_v0 : Ref sig .tc := ⟨.hbm, 218, rfl⟩
abbrev main_while0b_call6_v1 : Ref sig .tc := ⟨.hbm, 219, rfl⟩
abbrev main_while0b_call6_c_0 : Ref sig .tc := ⟨.hbm, 220, rfl⟩
abbrev main_while0b_call6_v2 : Ref sig .tc := ⟨.hbm, 221, rfl⟩
abbrev main_while0b_call6_v3 : Ref sig .tc := ⟨.hbm, 222, rfl⟩
abbrev main_while0b_call6_v4 : Ref sig .tc := ⟨.hbm, 223, rfl⟩
abbrev main_while0b_call6_v5 : Ref sig .tc := ⟨.hbm, 224, rfl⟩
abbrev main_while0b_v182 : Ref sig .tc := ⟨.hbm, 225, rfl⟩
abbrev main_while0b_v183 : Ref sig .tc := ⟨.hbm, 226, rfl⟩
abbrev main_while0b_v184 : Ref sig .tc := ⟨.hbm, 227, rfl⟩
abbrev main_while0b_v185 : Ref sig .tc := ⟨.hbm, 228, rfl⟩
abbrev main_while0b_cst_53 : Ref sig .tc := ⟨.hbm, 229, rfl⟩
abbrev main_while0b_v186 : Ref sig .tc := ⟨.hbm, 230, rfl⟩
abbrev main_while0b_v187 : Ref sig .tc := ⟨.hbm, 231, rfl⟩
abbrev main_while0b_values_54 : Ref sig .tc := ⟨.hbm, 232, rfl⟩
abbrev main_while0b_indices_55 : Ref sig .tc := ⟨.hbm, 233, rfl⟩
abbrev main_while0b_v188 : Ref sig .tc := ⟨.hbm, 234, rfl⟩
abbrev main_while0b_v189 : Ref sig .tc := ⟨.hbm, 235, rfl⟩
abbrev main_while0b_v190 : Ref sig .tc := ⟨.hbm, 236, rfl⟩
abbrev main_while0b_v191 : Ref sig .tc := ⟨.hbm, 237, rfl⟩
abbrev main_while0b_call7_v0 : Ref sig .tc := ⟨.hbm, 238, rfl⟩
abbrev main_while0b_call7_v1 : Ref sig .tc := ⟨.hbm, 239, rfl⟩
abbrev main_while0b_v192 : Ref sig .tc := ⟨.hbm, 240, rfl⟩
abbrev main_while0b_v193 : Ref sig .tc := ⟨.hbm, 241, rfl⟩
abbrev main_while0b_v194 : Ref sig .tc := ⟨.hbm, 242, rfl⟩
abbrev main_while0b_call8_c : Ref sig .tc := ⟨.hbm, 243, rfl⟩
abbrev main_while0b_call8_v0 : Ref sig .tc := ⟨.hbm, 244, rfl⟩
abbrev main_while0b_call8_v1 : Ref sig .tc := ⟨.hbm, 245, rfl⟩
abbrev main_while0b_call8_c_0 : Ref sig .tc := ⟨.hbm, 246, rfl⟩
abbrev main_while0b_call8_v2 : Ref sig .tc := ⟨.hbm, 247, rfl⟩
abbrev main_while0b_call8_v3 : Ref sig .tc := ⟨.hbm, 248, rfl⟩
abbrev main_while0b_call8_v4 : Ref sig .tc := ⟨.hbm, 249, rfl⟩
abbrev main_while0b_call8_v5 : Ref sig .tc := ⟨.hbm, 250, rfl⟩
abbrev main_while0b_v195 : Ref sig .tc := ⟨.hbm, 251, rfl⟩
abbrev main_while0b_v196 : Ref sig .tc := ⟨.hbm, 252, rfl⟩
abbrev main_while0b_v197 : Ref sig .tc := ⟨.hbm, 253, rfl⟩
abbrev main_while0b_v198 : Ref sig .tc := ⟨.hbm, 254, rfl⟩
abbrev main_while0b_cst_56 : Ref sig .tc := ⟨.hbm, 255, rfl⟩
abbrev main_while0b_v199 : Ref sig .tc := ⟨.hbm, 256, rfl⟩
abbrev main_while0b_v200 : Ref sig .tc := ⟨.hbm, 257, rfl⟩
abbrev main_while0b_values_57 : Ref sig .tc := ⟨.hbm, 258, rfl⟩
abbrev main_while0b_indices_58 : Ref sig .tc := ⟨.hbm, 259, rfl⟩
abbrev main_while0b_c_59 : Ref sig .tc := ⟨.hbm, 260, rfl⟩
abbrev main_while0b_v201 : Ref sig .tc := ⟨.hbm, 261, rfl⟩
abbrev main_v112 : Ref sig .tc := ⟨.hbm, 262, rfl⟩
abbrev main_v113 : Ref sig .tc := ⟨.hbm, 263, rfl⟩
abbrev main_v114 : Ref sig .tc := ⟨.hbm, 264, rfl⟩
abbrev main_call10_c : Ref sig .tc := ⟨.hbm, 265, rfl⟩
abbrev main_call10_v0 : Ref sig .tc := ⟨.hbm, 266, rfl⟩
abbrev main_call10_v1 : Ref sig .tc := ⟨.hbm, 267, rfl⟩
abbrev main_call10_c_0 : Ref sig .tc := ⟨.hbm, 268, rfl⟩
abbrev main_call10_v2 : Ref sig .tc := ⟨.hbm, 269, rfl⟩
abbrev main_call10_v3 : Ref sig .tc := ⟨.hbm, 270, rfl⟩
abbrev main_call10_v4 : Ref sig .tc := ⟨.hbm, 271, rfl⟩
abbrev main_call10_v5 : Ref sig .tc := ⟨.hbm, 272, rfl⟩
abbrev main_v115 : Ref sig .tc := ⟨.hbm, 273, rfl⟩
abbrev main_v116 : Ref sig .tc := ⟨.hbm, 274, rfl⟩
abbrev main_v117 : Ref sig .tc := ⟨.hbm, 275, rfl⟩
abbrev main_v118 : Ref sig .tc := ⟨.hbm, 276, rfl⟩
abbrev main_call12_c : Ref sig .tc := ⟨.hbm, 277, rfl⟩
abbrev main_call12_v0 : Ref sig .tc := ⟨.hbm, 278, rfl⟩
abbrev main_call12_v1 : Ref sig .tc := ⟨.hbm, 279, rfl⟩
abbrev main_call12_c_0 : Ref sig .tc := ⟨.hbm, 280, rfl⟩
abbrev main_call12_v2 : Ref sig .tc := ⟨.hbm, 281, rfl⟩
abbrev main_call12_v3 : Ref sig .tc := ⟨.hbm, 282, rfl⟩
abbrev main_call12_v4 : Ref sig .tc := ⟨.hbm, 283, rfl⟩
abbrev main_call12_v5 : Ref sig .tc := ⟨.hbm, 284, rfl⟩
abbrev main_v119 : Ref sig .tc := ⟨.hbm, 285, rfl⟩
abbrev main_v120 : Ref sig .tc := ⟨.hbm, 286, rfl⟩
abbrev main_v121 : Ref sig .tc := ⟨.hbm, 287, rfl⟩
abbrev main_v122 : Ref sig .tc := ⟨.hbm, 288, rfl⟩
abbrev main_call14_c : Ref sig .tc := ⟨.hbm, 289, rfl⟩
abbrev main_call14_v0 : Ref sig .tc := ⟨.hbm, 290, rfl⟩
abbrev main_call14_v1 : Ref sig .tc := ⟨.hbm, 291, rfl⟩
abbrev main_call14_c_0 : Ref sig .tc := ⟨.hbm, 292, rfl⟩
abbrev main_call14_v2 : Ref sig .tc := ⟨.hbm, 293, rfl⟩
abbrev main_call14_v3 : Ref sig .tc := ⟨.hbm, 294, rfl⟩
abbrev main_call14_v4 : Ref sig .tc := ⟨.hbm, 295, rfl⟩
abbrev main_call14_v5 : Ref sig .tc := ⟨.hbm, 296, rfl⟩
abbrev main_v123 : Ref sig .tc := ⟨.hbm, 297, rfl⟩
abbrev main_v124 : Ref sig .tc := ⟨.hbm, 298, rfl⟩
abbrev main_v125 : Ref sig .tc := ⟨.hbm, 299, rfl⟩
abbrev main_v126 : Ref sig .tc := ⟨.hbm, 300, rfl⟩
abbrev main_v127 : Ref sig .tc := ⟨.hbm, 301, rfl⟩
abbrev main_v128 : Ref sig .tc := ⟨.hbm, 302, rfl⟩
abbrev main_v129 : Ref sig .tc := ⟨.hbm, 303, rfl⟩
abbrev main_v130 : Ref sig .tc := ⟨.hbm, 304, rfl⟩
abbrev main_v131 : Ref sig .tc := ⟨.hbm, 305, rfl⟩
abbrev main_v132 : Ref sig .tc := ⟨.hbm, 306, rfl⟩
abbrev main_v133 : Ref sig .tc := ⟨.hbm, 307, rfl⟩
abbrev main_v134 : Ref sig .tc := ⟨.hbm, 308, rfl⟩
abbrev main_v135 : Ref sig .tc := ⟨.hbm, 309, rfl⟩
abbrev main_v136 : Ref sig .tc := ⟨.hbm, 310, rfl⟩
abbrev main_v137 : Ref sig .tc := ⟨.hbm, 311, rfl⟩
abbrev main_v138 : Ref sig .tc := ⟨.hbm, 312, rfl⟩
abbrev main_v139 : Ref sig .tc := ⟨.hbm, 313, rfl⟩
abbrev main_v140 : Ref sig .tc := ⟨.hbm, 314, rfl⟩
abbrev main_cst_32 : Ref sig .tc := ⟨.hbm, 315, rfl⟩
abbrev main_v141 : Ref sig .tc := ⟨.hbm, 316, rfl⟩
abbrev main_cst_33 : Ref sig .tc := ⟨.hbm, 317, rfl⟩
abbrev main_v142 : Ref sig .tc := ⟨.hbm, 318, rfl⟩
abbrev main_v143 : Ref sig .tc := ⟨.hbm, 319, rfl⟩
abbrev main_v144 : Ref sig .tc := ⟨.hbm, 320, rfl⟩
abbrev main_v145 : Ref sig .tc := ⟨.hbm, 321, rfl⟩
abbrev main_v146 : Ref sig .tc := ⟨.hbm, 322, rfl⟩
abbrev main_v147 : Ref sig .tc := ⟨.hbm, 323, rfl⟩
abbrev main_cst_34 : Ref sig .tc := ⟨.hbm, 324, rfl⟩
abbrev main_v148 : Ref sig .tc := ⟨.hbm, 325, rfl⟩
abbrev main_v149 : Ref sig .tc := ⟨.hbm, 326, rfl⟩
abbrev main_v150 : Ref sig .tc := ⟨.hbm, 327, rfl⟩
abbrev main_v151 : Ref sig .tc := ⟨.hbm, 328, rfl⟩
abbrev main_v152 : Ref sig .tc := ⟨.hbm, 329, rfl⟩
abbrev main_v153 : Ref sig .tc := ⟨.hbm, 330, rfl⟩
abbrev main_v154 : Ref sig .tc := ⟨.hbm, 331, rfl⟩
abbrev main_v155 : Ref sig .tc := ⟨.hbm, 332, rfl⟩
abbrev main_v156 : Ref sig .tc := ⟨.hbm, 333, rfl⟩
abbrev main_cst_35 : Ref sig .tc := ⟨.hbm, 334, rfl⟩
abbrev main_v157 : Ref sig .tc := ⟨.hbm, 335, rfl⟩
abbrev main_v158 : Ref sig .tc := ⟨.hbm, 336, rfl⟩
abbrev main_v159 : Ref sig .tc := ⟨.hbm, 337, rfl⟩
abbrev main_v160 : Ref sig .tc := ⟨.hbm, 338, rfl⟩

abbrev nD : Nat := 1
abbrev τ : Topo := Topo.v7x

variable {F : FTy → Type} [FloatOps F]

abbrev main_while0_count : Scf.Loop 32 := ⟨0#32, 16#32, 1#32⟩
-- ==== Proof.KernelModel.lean ====
/- The kernel's body written out compactly.

   The printed body is straight-line code of some two thousand operations: its sampling rounds and its sorting network
   are unrolled. Here the same program is stated by recursion: `farOf` is one search for the farthest point, `rounds` the
   sampling rounds of the three clouds, `sorted` the sorting network, `readRows` the reading of the sampled rows.
   `kernel_eq` says that this is the printed body. -/
module

public import proofs.«01_k».proof.Proof.Gen.KernelIdeal
public import Idealize.ShloMosaic.Lib.Pipeline.Regions

@[expose] public section

noncomputable section

namespace Cert.KernelIdeal.Model

open Cert.KernelIdeal Cert.KernelIdeal.Gen Idealize.ShloMosaic Idealize.SL.Sem

variable {F : FTy → Type} [FloatOps F]

/-- A row's position as a word. -/
abbrev Wd := BitVec 32

/-! ## The local attention -/

/-- The features of one batch's points: `ev @ W`. -/
def evOf (x : Vec F S1x1024x4 .f32) : FVec F S1024x4 .f32 := shapeCast S1024x4 x shapeCasts_S1x1024x4_S1024x4

def peOf (ev : FVec F S1024x4 .f32) (w : Vec F S4x32 .f32) : FVec F S1024x32 .f32 :=
  matmul dot_S1024x4_S4x32_S1024x32_1_0_0_1_n_n (some .fp32) ev w (constant S1024x32 .f32 0x00000000#32)

def lxIn (ev : FVec F S1024x4 .f32) (w : Vec F S4x128 .f32) : FVec F S1024x128 .f32 :=
  matmul dot_S1024x4_S4x128_S1024x128_1_0_0_1_n_n (some .fp32) ev w (constant S1024x128 .f32 0x00000000#32)

/-- `x @ w` for a cloud of 128 features. -/
def proj (x : FVec F S1024x128 .f32) (w : Vec F S128x32 .f32) : FVec F S1024x32 .f32 :=
  matmul dot_S1024x128_S128x32_S1024x32_1_0_0_1_n_n (some .fp32) x w (constant S1024x32 .f32 0x00000000#32)

/-- Each point's score, `(k + pe) @ sa1`. -/
def wOf (k pe : FVec F S1024x32 .f32) (sa1 : Vec F S32x1 .f32) : FVec F S1024x1 .f32 :=
  matmul dot_S1024x32_S32x1_S1024x1_1_0_0_1_n_n (some .fp32) (addf k pe) sa1 (constant S1024x1 .f32 0x00000000#32)

def padded (w : FVec F S1024x1 .f32) : FVec F S1039x1 .f32 :=
  concatenate S1039x1 0 [⟨S8x1, broadcast S8x1 (Scalar.ofBits .f32 0x00000000#32)⟩, ⟨S1024x1, w⟩,
    ⟨S7x1, broadcast S7x1 (Scalar.ofBits .f32 0x00000000#32)⟩] concatenates_S8x1_S1024x1_S7x1_S1039x1_d0

theorem slices_shift (m : Fin 16) : S1039x1.Slices ![m.val, 0] S1024x1 := by
  revert m; decide

/-- The padded scores from row `m` on. -/
def shift (p : FVec F S1039x1 .f32) (m : Fin 16) : FVec F S1024x1 .f32 :=
  extractStridedSlice S1024x1 ![m.val, 0] p (slices_shift m)

def saOf (w : FVec F S1024x1 .f32) : FVec F S1024x16 .f32 :=
  subf (broadcast S1024x16 (Scalar.ofBits .f32 0x00000000#32)) (concatenate S1024x16 1
    [⟨S1024x1, shift (padded w) 0⟩, ⟨S1024x1, shift (padded w) 1⟩, ⟨S1024x1, shift (padded w) 2⟩,
      ⟨S1024x1, shift (padded w) 3⟩, ⟨S1024x1, shift (padded w) 4⟩, ⟨S1024x1, shift (padded w) 5⟩,
      ⟨S1024x1, shift (padded w) 6⟩, ⟨S1024x1, shift (padded w) 7⟩, ⟨S1024x1, shift (padded w) 8⟩,
      ⟨S1024x1, shift (padded w) 9⟩, ⟨S1024x1, shift (padded w) 10⟩, ⟨S1024x1, shift (padded w) 11⟩,
      ⟨S1024x1, shift (padded w) 12⟩, ⟨S1024x1, shift (padded w) 13⟩, ⟨S1024x1, shift (padded w) 14⟩,
      ⟨S1024x1, shift (padded w) 15⟩]
    concatenates_S1024x1_S1024x1_S1024x1_S1024x1_S1024x1_S1024x1_S1024x1_S1024x1_S1024x1_S1024x1_S1024x1_S1024x1_S1024x1_S1024x1_S1024x1_S1024x1_S1024x16_d1)

def expOf (sa : FVec F S1024x16 .f32) : FVec F S1024x16 .f32 :=
  exp (subf sa (broadcastTo S1024x16 (shapeCast S1024x1 (multiReduction .maximumf [1] S1024 sa 0xFF800000#32
    reduces_S1024x16_S1024 (.inl rfl) rfl) shapeCasts_S1024_S1024x1) broadcasts_S1024x1_S1024x16))

def scores (sa : FVec F S1024x16 .f32) : FVec F S1024x16 .f32 :=
  divf (expOf sa) (broadcastTo S1024x16 (shapeCast S1024x1 (multiReduction .add [1] S1024 (expOf sa) 0x00000000#32
    reduces_S1024x16_S1024 (.inl rfl) rfl) shapeCasts_S1024_S1024x1) broadcasts_S1024x1_S1024x16)

/-! ### The window sums -/

theorem slices_row (i : Fin 1024) : S1024x64.Slices ![i.val, 0] S1x64 := by
  refine ⟨rfl, fun a => ?_⟩
  match a with
  | ⟨0, _⟩ => show i.val + 1 ≤ 1024; omega
  | ⟨1, _⟩ => show 0 + 64 ≤ 64; omega

def row64 (x : FVec F S1024x64 .f32) (i : Fin 1024) : FVec F S1x64 .f32 :=
  extractStridedSlice S1x64 ![i.val, 0] x (slices_row i)

/-- The sum of the first `n` rows. -/
def pref (x : FVec F S1024x64 .f32) : ℕ → FVec F S1x64 .f32
  | 0 => broadcast S1x64 (Scalar.ofBits .f32 0x00000000#32)
  | n + 1 => addf (pref x n) (row64 x (Fin.ofNat 1024 n))

/-- The sum of the last `n` rows. -/
def suf (x : FVec F S1024x64 .f32) : ℕ → FVec F S1x64 .f32
  | 0 => broadcast S1x64 (Scalar.ofBits .f32 0x00000000#32)
  | n + 1 => addf (suf x n) (row64 x (Fin.ofNat 1024 (1023 - n)))

def total64 (x : FVec F S1024x64 .f32) : FVec F S1x64 .f32 :=
  shapeCast S1x64 (multiReduction .add [0] S64 x 0x00000000#32 reduces_S1024x64_S64 (.inl rfl) rfl) shapeCasts_S64_S1x64

def wins (x : FVec F S1024x64 .f32) : FVec F S16x64 .f32 :=
  concatenate S16x64 0
    [⟨S1x64, subf (total64 x) (suf x 8)⟩, ⟨S1x64, subf (total64 x) (suf x 7)⟩, ⟨S1x64, subf (total64 x) (suf x 6)⟩,
      ⟨S1x64, subf (total64 x) (suf x 5)⟩, ⟨S1x64, subf (total64 x) (suf x 4)⟩, ⟨S1x64, subf (total64 x) (suf x 3)⟩,
      ⟨S1x64, subf (total64 x) (suf x 2)⟩, ⟨S1x64, subf (total64 x) (suf x 1)⟩, ⟨S1x64, subf (total64 x) (pref x 0)⟩,
      ⟨S1x64, subf (total64 x) (pref x 1)⟩, ⟨S1x64, subf (total64 x) (pref x 2)⟩, ⟨S1x64, subf (total64 x) (pref x 3)⟩,
      ⟨S1x64, subf (total64 x) (pref x 4)⟩, ⟨S1x64, subf (total64 x) (pref x 5)⟩, ⟨S1x64, subf (total64 x) (pref x 6)⟩,
      ⟨S1x64, subf (total64 x) (pref x 7)⟩]
    concatenates_S1x64_S1x64_S1x64_S1x64_S1x64_S1x64_S1x64_S1x64_S1x64_S1x64_S1x64_S1x64_S1x64_S1x64_S1x64_S1x64_S16x64_d0

/-- The values and the position features side by side. -/
def both (v pe : FVec F S1024x32 .f32) : FVec F S1024x64 .f32 :=
  concatenate S1024x64 1 [⟨S1024x32, v⟩, ⟨S1024x32, pe⟩] concatenates_S1024x32_S1024x32_S1024x64_d1

def slOf (v pe : FVec F S1024x32 .f32) : FVec F S16x32 .f32 :=
  subf (addf (extractStridedSlice S16x32 ![0, 0] (wins (both v pe)) slices_S16x64_o0_0_S16x32)
      (broadcastTo S16x32 (shapeCast S1x32 (multiReduction .add [0] S32 pe 0x00000000#32 reduces_S1024x32_S32 (.inl rfl) rfl)
        shapeCasts_S32_S1x32) broadcasts_S1x32_S16x32))
    (extractStridedSlice S16x32 ![0, 32] (wins (both v pe)) slices_S16x64_o0_32_S16x32)

/-- The local attention's result. -/
def lxOut (x : Vec F S1x1024x4 .f32) (pe0 : Vec F S4x32 .f32) (mlp1 : Vec F S4x128 .f32) (lk lv : Vec F S128x32 .f32)
    (sa1 : Vec F S32x1 .f32) (sa2 : Vec F S32x128 .f32) : FVec F S1024x128 .f32 :=
  addf (lxIn (evOf x) mlp1) (matmul dot_S1024x32_S32x128_S1024x128_1_0_0_1_n_n (some .fp32)
    (matmul dot_S1024x16_S16x32_S1024x32_1_0_0_1_n_n (some .fp32)
      (scores (saOf (wOf (proj (lxIn (evOf x) mlp1) lk) (peOf (evOf x) pe0) sa1)))
      (slOf (proj (lxIn (evOf x) mlp1) lv) (peOf (evOf x) pe0)) (constant S1024x32 .f32 0x00000000#32))
    sa2 (constant S1024x128 .f32 0x00000000#32))

/-! ## The sampling -/

/-- The first position of the greatest distance. -/
def farOf (d : FVec F S1024x1 .f32) : Wd :=
  extractAt ![0, 0, 0] (shapeCast S1x1x1 (multiReductionI .minsi [1, 2] S1 (shapeCast S1x1024x1
    (select (cmpf .oeq d (broadcast S1024x1 (extractAt ![0, 0, 0] (shapeCast S1x1x1 (multiReduction .maximumf [1, 2] S1
        (shapeCast S1x1024x1 d shapeCasts_S1024x1_S1x1024x1) 0xFF800000#32 reduces_S1x1024x1_S1 (.inl rfl) rfl)
        shapeCasts_S1_S1x1x1) inpos_S1x1x1_p0_0_0)))
      (iota .tc S1024x1 32 [0] iota_S1024x1_d0_w32) (broadcast S1024x1 1024#32))
    shapeCasts_S1024x1_S1x1024x1) 2147483647#32 reduces_S1x1024x1_S1 rfl) shapeCasts_S1_S1x1x1) inpos_S1x1x1_p0_0_0

def sq128 (d : FVec F S1024x128 .f32) : FVec F S1024x1 .f32 :=
  shapeCast S1024x1 (multiReduction .add [1] S1024 (mulf d d) 0x00000000#32 reduces_S1024x128_S1024 (.inl rfl) rfl)
    shapeCasts_S1024_S1024x1

def sq32 (d : FVec F S1024x32 .f32) : FVec F S1024x1 .f32 :=
  shapeCast S1024x1 (multiReduction .add [1] S1024 (mulf d d) 0x00000000#32 reduces_S1024x32_S1024 (.inl rfl) rfl)
    shapeCasts_S1024_S1024x1

def dist128 (x : FVec F S1024x128 .f32) (r : Vec F S1x128 .f32) : FVec F S1024x1 .f32 :=
  sq128 (subf x (broadcastTo S1024x128 r broadcasts_S1x128_S1024x128))

def dist32 (x : FVec F S1024x32 .f32) (r : Vec F S1x32 .f32) : FVec F S1024x1 .f32 :=
  sq32 (subf x (broadcastTo S1024x32 r broadcasts_S1x32_S1024x32))

def mean128 (x : FVec F S1024x128 .f32) : FVec F S1x128 .f32 :=
  divf (shapeCast S1x128 (multiReduction .add [0] S128 x 0x00000000#32 reduces_S1024x128_S128 (.inl rfl) rfl)
    shapeCasts_S128_S1x128) (broadcast S1x128 (Scalar.ofBits .f32 0x44800000#32))

def mean32 (x : FVec F S1024x32 .f32) : FVec F S1x32 .f32 :=
  divf (shapeCast S1x32 (multiReduction .add [0] S32 x 0x00000000#32 reduces_S1024x32_S32 (.inl rfl) rfl)
    shapeCasts_S32_S1x32) (broadcast S1x32 (Scalar.ofBits .f32 0x44800000#32))

/-- One cloud's sampling between two rounds: the distances to the points taken and the next point. -/
structure Samp (F : FTy → Type) [FloatOps F] where
  dist : FVec F S1024x1 .f32
  far : Wd

/-- The sampling before its first round: `d` the distances to the mean. -/
def Samp.start (d : FVec F S1024x1 .f32) : Samp F :=
  ⟨broadcast S1024x1 (Scalar.ofBits .f32 0x501502F9#32), farOf d⟩

/-- One round: `d` the distances to the point taken. -/
def Samp.next (s : Samp F) (d : FVec F S1024x1 .f32) : Samp F := ⟨minimumf s.dist d, farOf (minimumf s.dist d)⟩

/-- The program of the kernel. -/
abbrev KProg (F : FTy → Type) [FloatOps F] := Prog (TpuEff nD τ sig (Elt F) Λ₀ .tc) PUnit

/-- One row of a cloud of 128 features read at a checked position. -/
def read128 (m : Memref sig .tc .vmem S1024x128 .f32) (w : Wd) (h : k0_chk1 w) (k : Vec F S1x128 .f32 → KProg F) : KProg F :=
  Prog.lift (.load m (Rect.unit (s := S1024x128) (k0_off1 w) S1x128.size (k0_off1_inb w h)).toLoadRect
    (View.loadsAt_vmem h_S1x128)) >>= k

def read32 (m : Memref sig .tc .vmem S1024x32 .f32) (w : Wd) (h : k0_chk2 w) (k : Vec F S1x32 .f32 → KProg F) : KProg F :=
  Prog.lift (.load m (Rect.unit (s := S1024x32) (k0_off2 w) S1x32.size (k0_off2_inb w h)).toLoadRect
    (View.loadsAt_vmem h_S1x32)) >>= k

/-- `n` rounds of the three clouds `x`, `y`, `z` from states `a`, `b`, `c`, then `k` of the last states and of all points taken. -/
def rounds (arg14 : Memref sig .tc .vmem S1024x128 .f32) (arg15 arg16 : Memref sig .tc .vmem S1024x32 .f32)
    (x : FVec F S1024x128 .f32) (y z : FVec F S1024x32 .f32) :
    (n : ℕ) → (a b c : Samp F) → (p q r : List Wd) → (List Wd → List Wd → List Wd → KProg F) → KProg F
  | 0, a, b, c, p, q, r, k => k (p ++ [a.far]) (q ++ [b.far]) (r ++ [c.far])
  | n + 1, a, b, c, p, q, r, k =>
    Prog.lift (TpuEff.assume (k0_chk1 a.far) (k0_chk1.dec a.far)) >>= fun ha =>
    Prog.lift (TpuEff.assume (k0_chk2 b.far) (k0_chk2.dec b.far)) >>= fun hb =>
    Prog.lift (TpuEff.assume (k0_chk2 c.far) (k0_chk2.dec c.far)) >>= fun hc =>
    read128 arg14 a.far ha.down fun u => read32 arg15 b.far hb.down fun v => read32 arg16 c.far hc.down fun w =>
    rounds arg14 arg15 arg16 x y z n (a.next (dist128 x u)) (b.next (dist32 y v)) (c.next (dist32 z w))
      (p ++ [a.far]) (q ++ [b.far]) (r ++ [c.far]) k

/-! ## The sorting network -/

/-- Neighbours in order, from the first on. -/
def pairs : List Wd → List Wd
  | a :: b :: l => Scalar.minsi a b :: Scalar.maxsi a b :: pairs l
  | l => l

/-- Neighbours in order, from the second on. -/
def oddPairs : List Wd → List Wd
  | a :: l => a :: pairs l
  | [] => []

/-- `n` times: neighbours in order from the first on, then from the second on. -/
def network : ℕ → List Wd → List Wd
  | 0, l => l
  | n + 1, l => network n (oddPairs (pairs l))

/-- The words of a list in order, by eight double steps of the odd-even network. -/
def sorted (l : List Wd) : List Wd := network 8 l

/-! ## The sampled rows -/

/-- The rows of a cloud of 128 features at the checked positions of a list, in order, behind `acc`. -/
def readRows128 (m : Memref sig .tc .vmem S1024x128 .f32) :
    (l : List Wd) → (∀ w ∈ l, k0_chk1 w) → (acc : List (Vec F S1x128 .f32)) → (List (Vec F S1x128 .f32) → KProg F) → KProg F
  | [], _, acc, k => k acc
  | w :: l, h, acc, k => read128 m w (h w (List.mem_cons_self ..)) fun r =>
    readRows128 m l (fun v hv => h v (List.mem_cons_of_mem _ hv)) (acc ++ [r]) k

def readRows32 (m : Memref sig .tc .vmem S1024x32 .f32) :
    (l : List Wd) → (∀ w ∈ l, k0_chk2 w) → (acc : List (Vec F S1x32 .f32)) → (List (Vec F S1x32 .f32) → KProg F) → KProg F
  | [], _, acc, k => k acc
  | w :: l, h, acc, k => read32 m w (h w (List.mem_cons_self ..)) fun r =>
    readRows32 m l (fun v hv => h v (List.mem_cons_of_mem _ hv)) (acc ++ [r]) k

/-- Sixteen rows as one block. -/
def stack128 (l : List (Vec F S1x128 .f32)) : FVec F S16x128 .f32 :=
  let r (i : ℕ) : Vec F S1x128 .f32 := l.getD i (broadcast S1x128 (Scalar.ofBits .f32 0x00000000#32))
  concatenate S16x128 0
    [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩,
      ⟨S1x128, r 8⟩, ⟨S1x128, r 9⟩, ⟨S1x128, r 10⟩, ⟨S1x128, r 11⟩, ⟨S1x128, r 12⟩, ⟨S1x128, r 13⟩, ⟨S1x128, r 14⟩, ⟨S1x128, r 15⟩]
    concatenates_S1x128_S1x128_S1x128_S1x128_S1x128_S1x128_S1x128_S1x128_S1x128_S1x128_S1x128_S1x128_S1x128_S1x128_S1x128_S1x128_S16x128_d0

def stack32 (l : List (Vec F S1x32 .f32)) : FVec F S16x32 .f32 :=
  let r (i : ℕ) : Vec F S1x32 .f32 := l.getD i (broadcast S1x32 (Scalar.ofBits .f32 0x00000000#32))
  concatenate S16x32 0
    [⟨S1x32, r 0⟩, ⟨S1x32, r 1⟩, ⟨S1x32, r 2⟩, ⟨S1x32, r 3⟩, ⟨S1x32, r 4⟩, ⟨S1x32, r 5⟩, ⟨S1x32, r 6⟩, ⟨S1x32, r 7⟩,
      ⟨S1x32, r 8⟩, ⟨S1x32, r 9⟩, ⟨S1x32, r 10⟩, ⟨S1x32, r 11⟩, ⟨S1x32, r 12⟩, ⟨S1x32, r 13⟩, ⟨S1x32, r 14⟩, ⟨S1x32, r 15⟩]
    concatenates_S1x32_S1x32_S1x32_S1x32_S1x32_S1x32_S1x32_S1x32_S1x32_S1x32_S1x32_S1x32_S1x32_S1x32_S1x32_S1x32_S16x32_d0

/-! ## The global attention -/

/-- A term less its greatest entry. -/
def lessMax (b : FVec F S16x1 .f32) : FVec F S16x1 .f32 :=
  subf b (broadcast S16x1 (extractAt ![0, 0, 0] (shapeCast S1x1x1 (multiReduction .maximumf [1, 2] S1
    (shapeCast S1x16x1 b shapeCasts_S16x1_S1x16x1) 0xFF800000#32 reduces_S1x16x1_S1 (.inl rfl) rfl) shapeCasts_S1_S1x1x1)
    inpos_S1x1x1_p0_0_0))

def softmax16 (b : FVec F S16x1 .f32) : FVec F S16x1 .f32 :=
  divf (exp (lessMax b)) (broadcast S16x1 (extractAt ![0, 0, 0] (shapeCast S1x1x1 (multiReduction .add [1, 2] S1
    (shapeCast S1x16x1 (exp (lessMax b)) shapeCasts_S16x1_S1x16x1) 0x00000000#32 reduces_S1x16x1_S1 (.inl rfl) rfl)
    shapeCasts_S1_S1x1x1) inpos_S1x1x1_p0_0_0))

def sgOf (ef : FVec F S16x128 .f32) (km : FVec F S16x32 .f32) (gpe : Vec F S128x32 .f32) (gsa1 : Vec F S32x1 .f32) :
    FVec F S16x1 .f32 :=
  softmax16 (subf (broadcast S16x1 (Scalar.ofBits .f32 0x00000000#32)) (matmul dot_S16x32_S32x1_S16x1_1_0_0_1_n_n (some .fp32)
    (addf km (matmul dot_S16x128_S128x32_S16x32_1_0_0_1_n_n (some .fp32) ef gpe (constant S16x32 .f32 0x00000000#32)))
    gsa1 (constant S16x1 .f32 0x00000000#32)))

def sGlob (x : FVec F S1024x128 .f32) (ef : FVec F S16x128 .f32) (vm : FVec F S16x32 .f32) (gpe : Vec F S128x32 .f32) :
    FVec F S16x32 .f32 :=
  addf (mulf (broadcast S16x32 (Scalar.ofBits .f32 0x44800000#32)) vm)
    (matmul dot_S16x128_S128x32_S16x32_1_0_0_1_n_n (some .fp32)
      (subf (broadcastTo S16x128 (shapeCast S1x128 (multiReduction .add [0] S128 x 0x00000000#32 reduces_S1024x128_S128
          (.inl rfl) rfl) shapeCasts_S128_S1x128) broadcasts_S1x128_S16x128)
        (mulf (broadcast S16x128 (Scalar.ofBits .f32 0x44800000#32)) ef))
      gpe (constant S16x32 .f32 0x00000000#32))

/-- The row that the global attention adds to every point. -/
def gRow (sg : FVec F S16x1 .f32) (sGl : FVec F S16x32 .f32) (gsa2 : Vec F S32x128 .f32) : FVec F S1x128 .f32 :=
  matmul dot_S1x32_S32x128_S1x128_1_0_0_1_n_n (some .fp32)
    (shapeCast S1x32 (multiReduction .add [0] S32 (mulf (broadcastTo S16x32 sg broadcasts_S16x1_S16x32) sGl) 0x00000000#32
      reduces_S16x32_S32 (.inl rfl) rfl) shapeCasts_S32_S1x32)
    gsa2 (constant S1x128 .f32 0x00000000#32)

def outOf (x : FVec F S1024x128 .f32) (g : FVec F S1x128 .f32) : FVec F S1x1024x128 .f32 :=
  shapeCast S1x1024x128 (addf x (broadcastTo S1024x128 g broadcasts_S1x128_S1024x128)) shapeCasts_S1024x128_S1x1024x128

/-! ## The program -/

/-- The word at a position of a list. -/
abbrev nth (l : List Wd) (i : ℕ) : Wd := l.getD i 0

/-- The first sixteen words of a list. -/
def first16 (l : List Wd) : List Wd :=
  [nth l 0, nth l 1, nth l 2, nth l 3, nth l 4, nth l 5, nth l 6, nth l 7, nth l 8, nth l 9, nth l 10, nth l 11, nth l 12,
    nth l 13, nth l 14, nth l 15]

/-- A property of each of a list's first sixteen words. -/
def each16 (P : Wd → Prop) (l : List Wd) : Prop :=
  P (nth l 0) ∧ P (nth l 1) ∧ P (nth l 2) ∧ P (nth l 3) ∧ P (nth l 4) ∧ P (nth l 5) ∧ P (nth l 6) ∧ P (nth l 7) ∧ P (nth l 8) ∧
    P (nth l 9) ∧ P (nth l 10) ∧ P (nth l 11) ∧ P (nth l 12) ∧ P (nth l 13) ∧ P (nth l 14) ∧ P (nth l 15)

theorem pairs_length (l : List Wd) : (pairs l).length = l.length := by
  induction l using pairs.induct with
  | case1 a b l ih => simp [pairs, ih]
  | case2 l h => rw [pairs]; exact h

theorem oddPairs_length (l : List Wd) : (oddPairs l).length = l.length := by
  cases l with
  | nil => rfl
  | cons a l => simp [oddPairs, pairs_length]

theorem network_length (n : ℕ) (l : List Wd) : (network n l).length = l.length := by
  induction n generalizing l with
  | zero => rfl
  | succ n ih => rw [network, ih, oddPairs_length, pairs_length]

theorem each16_mem {P : Wd → Prop} {l : List Wd} (hl : l.length = 16) : each16 P l ↔ ∀ w ∈ l, P w := by
  match l, hl with
  | [a, b, c, d, e, f, g, h, i, j, k, l, m, n, o, p], _ => simp [each16, nth]

/-- The positions at which a cloud's rows are read: sixteen sampled ones in order. -/
def sorted16 (l : List Wd) : List Wd := sorted (first16 l)

theorem sorted16_length (l : List Wd) : (sorted16 l).length = 16 := network_length 8 _

/-- The printed check of sixteen positions of the first cloud. -/
def chkX (l : List Wd) : Prop :=
  k0_chk46 (nth l 0) (nth l 1) (nth l 2) (nth l 3) (nth l 4) (nth l 5) (nth l 6) (nth l 7) (nth l 8) (nth l 9) (nth l 10) (nth l 11) (nth l 12) (nth l 13) (nth l 14) (nth l 15)

/-- The printed check of sixteen positions of the second cloud. -/
def chkY (l : List Wd) : Prop :=
  k0_chk47 (nth l 0) (nth l 1) (nth l 2) (nth l 3) (nth l 4) (nth l 5) (nth l 6) (nth l 7) (nth l 8) (nth l 9) (nth l 10) (nth l 11) (nth l 12) (nth l 13) (nth l 14) (nth l 15)

/-- The printed check of sixteen positions of the third cloud. -/
def chkZ (l : List Wd) : Prop :=
  k0_chk48 (nth l 0) (nth l 1) (nth l 2) (nth l 3) (nth l 4) (nth l 5) (nth l 6) (nth l 7) (nth l 8) (nth l 9) (nth l 10) (nth l 11) (nth l 12) (nth l 13) (nth l 14) (nth l 15)

instance chkX_dec (l : List Wd) : Decidable (chkX l) :=
  k0_chk46.dec (nth l 0) (nth l 1) (nth l 2) (nth l 3) (nth l 4) (nth l 5) (nth l 6) (nth l 7) (nth l 8) (nth l 9) (nth l 10) (nth l 11) (nth l 12) (nth l 13) (nth l 14) (nth l 15)

instance chkY_dec (l : List Wd) : Decidable (chkY l) :=
  k0_chk47.dec (nth l 0) (nth l 1) (nth l 2) (nth l 3) (nth l 4) (nth l 5) (nth l 6) (nth l 7) (nth l 8) (nth l 9) (nth l 10) (nth l 11) (nth l 12) (nth l 13) (nth l 14) (nth l 15)

instance chkZ_dec (l : List Wd) : Decidable (chkZ l) :=
  k0_chk48.dec (nth l 0) (nth l 1) (nth l 2) (nth l 3) (nth l 4) (nth l 5) (nth l 6) (nth l 7) (nth l 8) (nth l 9) (nth l 10) (nth l 11) (nth l 12) (nth l 13) (nth l 14) (nth l 15)

theorem chkX_eq (l : List Wd) : chkX l = each16 k0_chk1 (sorted16 l) := by chain_rfl

theorem chkY_eq (l : List Wd) : chkY l = each16 k0_chk2 (sorted16 l) := by chain_rfl

theorem chkZ_eq (l : List Wd) : chkZ l = each16 k0_chk2 (sorted16 l) := by chain_rfl

theorem chkX_iff (l : List Wd) : chkX l ↔ ∀ w ∈ sorted16 l, k0_chk1 w :=
  (Iff.of_eq (chkX_eq l)).trans (each16_mem (sorted16_length l))

theorem chkY_iff (l : List Wd) : chkY l ↔ ∀ w ∈ sorted16 l, k0_chk2 w :=
  (Iff.of_eq (chkY_eq l)).trans (each16_mem (sorted16_length l))

theorem chkZ_iff (l : List Wd) : chkZ l ↔ ∀ w ∈ sorted16 l, k0_chk2 w :=
  (Iff.of_eq (chkZ_eq l)).trans (each16_mem (sorted16_length l))

/-- The sampled rows of the three clouds, checked and read. -/
def samples (arg14 : Memref sig .tc .vmem S1024x128 .f32) (arg15 arg16 : Memref sig .tc .vmem S1024x32 .f32)
    (p q r : List Wd) (k : FVec F S16x128 .f32 → FVec F S16x32 .f32 → FVec F S16x32 .f32 → KProg F) : KProg F :=
  Prog.lift (TpuEff.assume (chkX p) (chkX_dec p)) >>= fun hp =>
  Prog.lift (TpuEff.assume (chkY q) (chkY_dec q)) >>= fun hq =>
  Prog.lift (TpuEff.assume (chkZ r) (chkZ_dec r)) >>= fun hr =>
  readRows128 arg14 (sorted16 p) ((chkX_iff p).1 hp.down) [] fun u =>
  readRows32 arg15 (sorted16 q) ((chkY_iff q).1 hq.down) [] fun v =>
  readRows32 arg16 (sorted16 r) ((chkZ_iff r).1 hr.down) [] fun w =>
  k (stack128 u) (stack32 v) (stack32 w)

/-- The store of the two-dimensional clouds. -/
def store128 (m : Memref sig .tc .vmem S1024x128 .f32) (x : FVec F S1024x128 .f32) (k : KProg F) : KProg F :=
  Prog.lift (.load m (Rect.unit (s := S1024x128) ![0, 0] S1024x128.size inb_S1024x128_S1024x128_0_0).toLoadRect
    (View.loadsAt_vmem h_S1024x128)) >>= fun _ =>
  Prog.lift (.store m (Rect.unit (s := S1024x128) ![0, 0] S1024x128.size inb_S1024x128_S1024x128_0_0)
    (shapeCast S1024x128 x shapeCasts_S1024x128_S1024x128) Finset.univ (View.stores_vmem_bits_univ h_S1024x128 rfl) (.inl rfl)) >>=
    fun _ => k

def store32 (m : Memref sig .tc .vmem S1024x32 .f32) (x : FVec F S1024x32 .f32) (k : KProg F) : KProg F :=
  Prog.lift (.load m (Rect.unit (s := S1024x32) ![0, 0] S1024x32.size inb_S1024x32_S1024x32_0_0).toLoadRect
    (View.loadsAt_vmem h_S1024x32)) >>= fun _ =>
  Prog.lift (.store m (Rect.unit (s := S1024x32) ![0, 0] S1024x32.size inb_S1024x32_S1024x32_0_0)
    (shapeCast S1024x32 x shapeCasts_S1024x32_S1024x32) Finset.univ (View.stores_vmem_bits_univ h_S1024x32 rfl) (.inl rfl)) >>=
    fun _ => k

/-- The last part: the global attention's weights read, the result stored. -/
def finish (arg10 : Memref sig .tc .vmem S128x32 .f32) (arg11 : Memref sig .tc .vmem S32x1 .f32)
    (arg12 : Memref sig .tc .vmem S32x128 .f32) (arg13 : Memref sig .tc .vmem S1x1024x128 .f32)
    (x : FVec F S1024x128 .f32) (ef : FVec F S16x128 .f32) (km vm : FVec F S16x32 .f32) : KProg F :=
  Prog.lift (.load arg10 (Rect.unit (s := S128x32) ![0, 0] S128x32.size inb_S128x32_S128x32_0_0).toLoadRect
    (View.loadsAt_vmem h_S128x32)) >>= fun gpe =>
  Prog.lift (.load arg11 (Rect.unit (s := S32x1) ![0, 0] S32x1.size inb_S32x1_S32x1_0_0).toLoadRect
    (View.loadsAt_vmem h_S32x1)) >>= fun gsa1 =>
  Prog.lift (.load arg10 (Rect.unit (s := S128x32) ![0, 0] S128x32.size inb_S128x32_S128x32_0_0).toLoadRect
    (View.loadsAt_vmem h_S128x32)) >>= fun gpe' =>
  Prog.lift (.load arg12 (Rect.unit (s := S32x128) ![0, 0] S32x128.size inb_S32x128_S32x128_0_0).toLoadRect
    (View.loadsAt_vmem h_S32x128)) >>= fun gsa2 =>
  Prog.lift (.load arg13 (Rect.unit (s := S1x1024x128) ![0, 0, 0] S1x1024x128.size inb_S1x1024x128_S1x1024x128_0_0_0).toLoadRect
    (View.loadsAt_vmem h_S1x1024x128)) >>= fun _ =>
  Prog.lift (.store arg13 (Rect.unit (s := S1x1024x128) ![0, 0, 0] S1x1024x128.size inb_S1x1024x128_S1x1024x128_0_0_0)
    (outOf x (gRow (sgOf ef km gpe gsa1) (sGlob x ef vm gpe') gsa2)) Finset.univ
    (View.stores_vmem_bits_univ h_S1x1024x128 rfl) (.inl rfl)) >>= fun _ => pure ⟨⟩

/-- All after the local attention, whose result is `x`, with the clouds `y` and `z`. -/
def sampled (arg10 : Memref sig .tc .vmem S128x32 .f32) (arg11 : Memref sig .tc .vmem S32x1 .f32)
    (arg12 : Memref sig .tc .vmem S32x128 .f32) (arg13 : Memref sig .tc .vmem S1x1024x128 .f32)
    (arg14 : Memref sig .tc .vmem S1024x128 .f32) (arg15 arg16 : Memref sig .tc .vmem S1024x32 .f32)
    (x : FVec F S1024x128 .f32) (y z : FVec F S1024x32 .f32) : KProg F :=
  store128 arg14 x <| store32 arg15 y <| store32 arg16 z <|
  rounds arg14 arg15 arg16 x y z 15 (Samp.start (dist128 x (mean128 x))) (Samp.start (dist32 y (mean32 y)))
    (Samp.start (dist32 z (mean32 z))) [] [] [] fun p q r =>
  samples arg14 arg15 arg16 p q r fun ef km vm =>
  finish arg10 arg11 arg12 arg13 x ef km vm

/-- The body written out compactly. -/
def body (arg1 : Memref sig .tc .vmem S1x1024x4 .f32) (arg2 : Memref sig .tc .vmem S4x128 .f32)
    (arg3 : Memref sig .tc .vmem S4x32 .f32) (arg4 arg5 : Memref sig .tc .vmem S128x32 .f32)
    (arg6 : Memref sig .tc .vmem S32x1 .f32) (arg7 : Memref sig .tc .vmem S32x128 .f32)
    (arg8 arg9 arg10 : Memref sig .tc .vmem S128x32 .f32) (arg11 : Memref sig .tc .vmem S32x1 .f32)
    (arg12 : Memref sig .tc .vmem S32x128 .f32) (arg13 : Memref sig .tc .vmem S1x1024x128 .f32)
    (arg14 : Memref sig .tc .vmem S1024x128 .f32) (arg15 arg16 : Memref sig .tc .vmem S1024x32 .f32) : KProg F :=
  Prog.lift (.load arg1 (Rect.unit (s := S1x1024x4) ![0, 0, 0] S1x1024x4.size inb_S1x1024x4_S1x1024x4_0_0_0).toLoadRect
    (View.loadsAt_vmem h_S1x1024x4)) >>= fun x =>
  Prog.lift (.load arg3 (Rect.unit (s := S4x32) ![0, 0] S4x32.size inb_S4x32_S4x32_0_0).toLoadRect
    (View.loadsAt_vmem h_S4x32)) >>= fun pe0 =>
  Prog.lift (.load arg2 (Rect.unit (s := S4x128) ![0, 0] S4x128.size inb_S4x128_S4x128_0_0).toLoadRect
    (View.loadsAt_vmem h_S4x128)) >>= fun mlp1 =>
  Prog.lift (.load arg4 (Rect.unit (s := S128x32) ![0, 0] S128x32.size inb_S128x32_S128x32_0_0).toLoadRect
    (View.loadsAt_vmem h_S128x32)) >>= fun lk =>
  Prog.lift (.load arg5 (Rect.unit (s := S128x32) ![0, 0] S128x32.size inb_S128x32_S128x32_0_0).toLoadRect
    (View.loadsAt_vmem h_S128x32)) >>= fun lv =>
  Prog.lift (.load arg6 (Rect.unit (s := S32x1) ![0, 0] S32x1.size inb_S32x1_S32x1_0_0).toLoadRect
    (View.loadsAt_vmem h_S32x1)) >>= fun sa1 =>
  Prog.lift (.load arg7 (Rect.unit (s := S32x128) ![0, 0] S32x128.size inb_S32x128_S32x128_0_0).toLoadRect
    (View.loadsAt_vmem h_S32x128)) >>= fun sa2 =>
  Prog.lift (.load arg8 (Rect.unit (s := S128x32) ![0, 0] S128x32.size inb_S128x32_S128x32_0_0).toLoadRect
    (View.loadsAt_vmem h_S128x32)) >>= fun gk =>
  Prog.lift (.load arg9 (Rect.unit (s := S128x32) ![0, 0] S128x32.size inb_S128x32_S128x32_0_0).toLoadRect
    (View.loadsAt_vmem h_S128x32)) >>= fun gv =>
  sampled arg10 arg11 arg12 arg13 arg14 arg15 arg16 (lxOut x pe0 mlp1 lk lv sa1 sa2)
    (proj (lxOut x pe0 mlp1 lk lv sa1 sa2) gk) (proj (lxOut x pe0 mlp1 lk lv sa1 sa2) gv)

end Cert.KernelIdeal.Model

end
-- ==== Proof.KernelBody.lean ====
/- The printed body is the compact one. -/
module

public import proofs.«01_k».proof.Proof.KernelModel

@[expose] public section

noncomputable section

namespace Cert.KernelIdeal.Model

open Cert.KernelIdeal Cert.KernelIdeal.Gen Idealize.ShloMosaic Idealize.SL.Sem

variable {F : FTy → Type} [FloatOps F]

theorem kernel_eq (i : grid0.Coords) (arg1 : Memref sig .tc .vmem S1x1024x4 .f32) (harg1 : arg1.IsWhole) (arg2 : Memref sig .tc .vmem S4x128 .f32) (harg2 : arg2.IsWhole)
    (arg3 : Memref sig .tc .vmem S4x32 .f32) (harg3 : arg3.IsWhole) (arg4 : Memref sig .tc .vmem S128x32 .f32) (harg4 : arg4.IsWhole) (arg5 : Memref sig .tc .vmem S128x32 .f32) (harg5 : arg5.IsWhole)
    (arg6 : Memref sig .tc .vmem S32x1 .f32) (harg6 : arg6.IsWhole) (arg7 : Memref sig .tc .vmem S32x128 .f32) (harg7 : arg7.IsWhole)
    (arg8 : Memref sig .tc .vmem S128x32 .f32) (harg8 : arg8.IsWhole) (arg9 : Memref sig .tc .vmem S128x32 .f32) (harg9 : arg9.IsWhole) (arg10 : Memref sig .tc .vmem S128x32 .f32) (harg10 : arg10.IsWhole)
    (arg11 : Memref sig .tc .vmem S32x1 .f32) (harg11 : arg11.IsWhole)
    (arg12 : Memref sig .tc .vmem S32x128 .f32) (harg12 : arg12.IsWhole) (arg13 : Memref sig .tc .vmem S1x1024x128 .f32) (harg13 : arg13.IsWhole)
    (arg14 : Memref sig .tc .vmem S1024x128 .f32) (harg14 : arg14.IsWhole) (arg15 : Memref sig .tc .vmem S1024x32 .f32) (harg15 : arg15.IsWhole) (arg16 : Memref sig .tc .vmem S1024x32 .f32) (harg16 : arg16.IsWhole) :
    cc0__kernel (F := F) i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 =
    body arg1 arg2 arg3 arg4 arg5 arg6 arg7 arg8 arg9 arg10 arg11 arg12 arg13 arg14 arg15 arg16 := by
  chain_rfl

end Cert.KernelIdeal.Model

end
-- ==== Proof.KernelRules.lean ====
/- Loads and stores stated by what a memory holds. -/
module

public import proofs.«01_k».proof.Proof.KernelModel
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.VecWindow

@[expose] public section

noncomputable section

namespace Cert.KernelIdeal.Model

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a program does next, to be shown to reach `K`. -/
abbrev goal (c : Dev nD) (p : KProg F) (K : PUnit → sProp 𝕄) : sProp 𝕄 :=
  wp frame (wpE (defs₀ (F := F)) Variants.none (c : Thread nD τ) none) Set.univ p K

/-- A memory's contents. -/
abbrev has (c : Dev nD) {sp : Space} {sh : Shape} {e : EltTy} (m : Memref sig .tc sp sh e) (X : sh.Idx → Elt F e) : sProp 𝕄 :=
  owns (c : Thread nD τ) m fullShare X

theorem has_load (c : Dev nD) {cs : CoreSpace} {s : Shape} {e : EltTy} (m : Memref sig .tc cs s e) (X : s.Idx → Elt F e)
    (r : Rect s) (hl : m.view.LoadsAt r.toLoadRect) (k : (r.shape.Idx → Elt F e) → KProg F) (K : PUnit → sProp 𝕄) :
    has c m X ⊢ iprop((has c m X -∗ goal c (k fun x => X (r.emb x)) K) -∗ goal c (.op (.load m r.toLoadRect hl) k) K) := by
  have h (f) := wp_load (defs := defs₀ (F := F)) Variants.none (c : Thread nD τ) none (Γ := .empty) Set.univ (Q := K) (m := m) (r := r.toLoadRect)
    (hl := hl) (k := k) (q := fullShare) (f := f) (S := m.view.set) (m.view.setOn_subset_set _)
  unfold has owns
  iintro ⟨%f, %hf, H⟩ Hk
  subst hf
  iapply (h f) $$ H
  iintro H
  iapply Hk
  iexists f
  isplitr
  · ipureintro; rfl
  · iexact H

theorem has_store (c : Dev nD) {cs : CoreSpace} {s : Shape} {e : EltTy} (m : Memref sig .tc cs s e) (X : s.Idx → Elt F e)
    (off : Fin s.rank → ℕ) (inb : ∀ a, off a + s.size a ≤ s.size a) (w : s.Idx → Elt F e)
    (hx : (m.access (Rect.unit off s.size inb)).Stores Finset.univ)
    (hm : (Finset.univ : Finset (Rect.unit off s.size inb).shape.Idx) = Finset.univ ∨ ∀ a, (Rect.unit off s.size inb).stride a = 1)
    (k : PUnit → KProg F) (K : PUnit → sProp 𝕄) :
    has c m X ⊢ iprop((has c m w -∗ goal c (k ⟨⟩) K) -∗
      goal c (.op (.store m (Rect.unit off s.size inb) w Finset.univ hx hm) k) K) := by
  have h (f) := wp_store (defs := defs₀ (F := F)) Variants.none (c : Thread nD τ) none (Γ := .empty) Set.univ (Q := K) (m := m)
    (r := Rect.unit off s.size inb) (w := w) (Mk := Finset.univ) (hx := hx) (hm := hm) (k := k) (f := f) (S := m.view.set)
    (((m.access _).setOn_subset_set _).trans (m.view.set_slice_subset _))
  unfold has owns
  iintro ⟨%f, %hf, H⟩ Hk
  subst hf
  iapply (h f) $$ H
  iintro H
  iapply Hk
  iexists _
  isplitr
  swap
  · iexact H
  · ipureintro
    funext y
    have e : (Rect.unit off s.size inb).emb y = y := funext fun a => Fin.ext (by
      show off a + 1 * (y a).val = (y a).val
      have := inb a; omega)
    have := View.read_slice_write_emb (v := m.view) (Rect.unit off s.size inb) f w (Finset.mem_univ y)
    rwa [e] at this

end Cert.KernelIdeal.Model

end
-- ==== Proof.KernelRun.lean ====
/- The body's run: what it leaves in its result's memory, as a function of what its arguments' memories hold. -/
module

public import proofs.«01_k».proof.Proof.KernelBody
public import proofs.«01_k».proof.Proof.KernelRules
public import Idealize.ShloMosaic.Lib.Pointwise

@[expose] public section

noncomputable section

namespace Cert.KernelIdeal.Model

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- A cloud's row at a position. -/
def rowAt128 (x : FVec F S1024x128 .f32) (w : Wd) : Vec F S1x128 .f32 := fun j => x (ix2 (Fin.ofNat 1024 w.toNat) (j 1))

def rowAt32 (x : FVec F S1024x32 .f32) (w : Wd) : Vec F S1x32 .f32 := fun j => x (ix2 (Fin.ofNat 1024 w.toNat) (j 1))

/-- The points that a cloud's sampling takes in `n` rounds from a state, behind those taken before; `d` the distances to a position. -/
def taken (d : Wd → FVec F S1024x1 .f32) : ℕ → Samp F → List Wd → List Wd
  | 0, a, p => p ++ [a.far]
  | n + 1, a, p => taken d n (a.next (d a.far)) (p ++ [a.far])

def taken128 (x : FVec F S1024x128 .f32) : List Wd :=
  taken (fun w => dist128 x (rowAt128 x w)) 15 (Samp.start (dist128 x (mean128 x))) []

def taken32 (x : FVec F S1024x32 .f32) : List Wd :=
  taken (fun w => dist32 x (rowAt32 x w)) 15 (Samp.start (dist32 x (mean32 x))) []

/-- A cloud's sampled rows. -/
def picked128 (x : FVec F S1024x128 .f32) : FVec F S16x128 .f32 := stack128 ((sorted16 (taken128 x)).map (rowAt128 x))

def picked32 (x : FVec F S1024x32 .f32) : FVec F S16x32 .f32 := stack32 ((sorted16 (taken32 x)).map (rowAt32 x))

/-- The kernel's result on one batch, from the local attention's result and the global attention's keys and values. -/
def resultOf (x : FVec F S1024x128 .f32) (y z : FVec F S1024x32 .f32) (gpe : Vec F S128x32 .f32) (gsa1 : Vec F S32x1 .f32)
    (gsa2 : Vec F S32x128 .f32) : FVec F S1x1024x128 .f32 :=
  outOf x (gRow (sgOf (picked128 x) (picked32 y) gpe gsa1) (sGlob x (picked128 x) (picked32 z) gpe) gsa2)

/-- The kernel's result on one batch. -/
def blockOut (x0 : Vec F S1x1024x4 .f32) (mlp1 : Vec F S4x128 .f32) (pe0 : Vec F S4x32 .f32) (lk lv : Vec F S128x32 .f32)
    (sa1 : Vec F S32x1 .f32) (sa2 : Vec F S32x128 .f32) (gk gv gpe : Vec F S128x32 .f32) (gsa1 : Vec F S32x1 .f32)
    (gsa2 : Vec F S32x128 .f32) : FVec F S1x1024x128 .f32 :=
  let x := lxOut x0 pe0 mlp1 lk lv sa1 sa2
  resultOf x (proj x gk) (proj x gv) gpe gsa1 gsa2

/-! ## Positions in bounds -/

/-- A position of a cloud's row. -/
abbrev InB (w : Wd) : Prop := w.toNat < 1024

theorem chk1_of {w : Wd} (h : InB w) : k0_chk1 w := by
  intro a
  match a with
  | ⟨0, _⟩ => show w.toNat + 1 ≤ 1024; exact h
  | ⟨1, _⟩ => show 0 + 128 ≤ 128; omega

theorem chk2_of {w : Wd} (h : InB w) : k0_chk2 w := by
  intro a
  match a with
  | ⟨0, _⟩ => show w.toNat + 1 ≤ 1024; exact h
  | ⟨1, _⟩ => show 0 + 32 ≤ 32; omega

theorem minsi_mem (a b : Wd) : Scalar.minsi a b = a ∨ Scalar.minsi a b = b := by
  unfold Scalar.minsi IntOp.minsi; split <;> simp

theorem maxsi_mem (a b : Wd) : Scalar.maxsi a b = a ∨ Scalar.maxsi a b = b := by
  unfold Scalar.maxsi IntOp.maxsi; split <;> simp

theorem pairs_all {P : Wd → Prop} (l : List Wd) (h : ∀ w ∈ l, P w) : ∀ w ∈ pairs l, P w := by
  induction l using pairs.induct with
  | case1 a b l ih =>
    rw [List.forall_mem_cons, List.forall_mem_cons] at h
    rw [pairs, List.forall_mem_cons, List.forall_mem_cons]
    refine ⟨?_, ?_, ih h.2.2⟩
    · rcases minsi_mem a b with e | e <;> rw [e] <;> simp [h]
    · rcases maxsi_mem a b with e | e <;> rw [e] <;> simp [h]
  | case2 l hl => rw [pairs]; exacts [h, hl]

theorem oddPairs_all {P : Wd → Prop} (l : List Wd) (h : ∀ w ∈ l, P w) : ∀ w ∈ oddPairs l, P w := by
  cases l with
  | nil => exact h
  | cons a l =>
    rw [List.forall_mem_cons] at h
    rw [oddPairs, List.forall_mem_cons]
    exact ⟨h.1, pairs_all l h.2⟩

theorem network_all {P : Wd → Prop} (n : ℕ) (l : List Wd) (h : ∀ w ∈ l, P w) : ∀ w ∈ network n l, P w := by
  induction n generalizing l with
  | zero => exact h
  | succ n ih => exact ih _ (oddPairs_all _ (pairs_all _ h))

theorem nth_all {P : Wd → Prop} (h0 : P 0) (l : List Wd) (h : ∀ w ∈ l, P w) (i : ℕ) : P (nth l i) := by
  unfold nth
  rcases lt_or_ge i l.length with hi | hi
  · rw [List.getD_eq_getElem?_getD, List.getElem?_eq_getElem hi]; exact h _ (List.getElem_mem hi)
  · rw [List.getD_eq_getElem?_getD, List.getElem?_eq_none hi]; exact h0

theorem sorted16_all {P : Wd → Prop} (h0 : P 0) (l : List Wd) (h : ∀ w ∈ l, P w) : ∀ w ∈ sorted16 l, P w := by
  refine network_all 8 _ fun w hw => ?_
  simp only [first16, List.mem_cons, List.not_mem_nil, or_false] at hw
  rcases hw with rfl | rfl | rfl | rfl | rfl | rfl | rfl | rfl | rfl | rfl | rfl | rfl | rfl | rfl | rfl | rfl <;>
    exact nth_all h0 l h _

theorem taken_all {P : Wd → Prop} (hf : ∀ d : FVec F S1024x1 .f32, P (farOf d)) (d : Wd → FVec F S1024x1 .f32) (n : ℕ) (a : Samp F)
    (ha : P a.far) (p : List Wd) (hp : ∀ w ∈ p, P w) : ∀ w ∈ taken d n a p, P w := by
  induction n generalizing a p with
  | zero => intro w hw; rcases List.mem_append.1 hw with h | h; exacts [hp w h, by rw [List.mem_singleton.1 h]; exact ha]
  | succ n ih =>
    refine ih _ (hf (minimumf a.dist (d a.far))) _ fun w hw => ?_
    rcases List.mem_append.1 hw with h | h; exacts [hp w h, by rw [List.mem_singleton.1 h]; exact ha]

/-! ## The run -/

theorem row128_eq (x : FVec F S1024x128 .f32) (w : Wd) (h : k0_chk1 w) (hw : InB w) :
    (fun j => x ((Rect.unit (s := S1024x128) (k0_off1 w) S1x128.size (k0_off1_inb w h)).emb j)) = rowAt128 x w := by
  funext j
  refine congrArg x (funext fun a => Fin.ext ?_)
  match a with
  | ⟨0, _⟩ =>
    show w.toNat + 1 * (j 0).val = w.toNat % 1024
    have : (j 0).val < 1 := (j 0).isLt
    rw [Nat.mod_eq_of_lt hw]; omega
  | ⟨1, _⟩ => show 0 + 1 * (j 1).val = (j 1).val; omega

theorem row32_eq (x : FVec F S1024x32 .f32) (w : Wd) (h : k0_chk2 w) (hw : InB w) :
    (fun j => x ((Rect.unit (s := S1024x32) (k0_off2 w) S1x32.size (k0_off2_inb w h)).emb j)) = rowAt32 x w := by
  funext j
  refine congrArg x (funext fun a => Fin.ext ?_)
  match a with
  | ⟨0, _⟩ =>
    show w.toNat + 1 * (j 0).val = w.toNat % 1024
    have : (j 0).val < 1 := (j 0).isLt
    rw [Nat.mod_eq_of_lt hw]; omega
  | ⟨1, _⟩ => show 0 + 1 * (j 1).val = (j 1).val; omega

theorem has_read128 (c : Dev nD) (m : Memref sig .tc .vmem S1024x128 .f32) (x : FVec F S1024x128 .f32) (w : Wd) (h : k0_chk1 w)
    (hw : InB w) (k : Vec F S1x128 .f32 → KProg F) (K : PUnit → sProp 𝕄) :
    has c m x ⊢ iprop((has c m x -∗ goal c (k (rowAt128 x w)) K) -∗ goal c (read128 m w h k) K) := by
  rw [← row128_eq x w h hw]
  exact has_load c m x (Rect.unit (s := S1024x128) (k0_off1 w) S1x128.size (k0_off1_inb w h)) (View.loadsAt_vmem h_S1x128) k K

theorem has_read32 (c : Dev nD) (m : Memref sig .tc .vmem S1024x32 .f32) (x : FVec F S1024x32 .f32) (w : Wd) (h : k0_chk2 w)
    (hw : InB w) (k : Vec F S1x32 .f32 → KProg F) (K : PUnit → sProp 𝕄) :
    has c m x ⊢ iprop((has c m x -∗ goal c (k (rowAt32 x w)) K) -∗ goal c (read32 m w h k) K) := by
  rw [← row32_eq x w h hw]
  exact has_load c m x (Rect.unit (s := S1024x32) (k0_off2 w) S1x32.size (k0_off2_inb w h)) (View.loadsAt_vmem h_S1x32) k K

theorem goal_assume (c : Dev nD) {P : Prop} {d : Decidable P} (h : P) (k : PLift P → KProg F) (K : PUnit → sProp 𝕄) :
    goal c (k ⟨h⟩) K ⊢ goal c (Prog.lift (TpuEff.assume P d) >>= k) K :=
  wp_assume (defs := defs₀ (F := F)) Variants.none (c : Thread nD τ) none (Γ := .empty) Set.univ (Q := K) h

/-- The three clouds in their memories. -/
def clouds (c : Dev nD) (a14 : Memref sig .tc .vmem S1024x128 .f32) (a15 a16 : Memref sig .tc .vmem S1024x32 .f32)
    (x : FVec F S1024x128 .f32) (y z : FVec F S1024x32 .f32) : sProp 𝕄 := iprop(has c a14 x ∗ has c a15 y ∗ has c a16 z)

theorem next_inB (hf : ∀ d : FVec F S1024x1 .f32, InB (farOf d)) (s : Samp F) (d : FVec F S1024x1 .f32) : InB (s.next d).far :=
  hf (minimumf s.dist d)

theorem run_rounds (hf : ∀ d : FVec F S1024x1 .f32, InB (farOf d)) (c : Dev nD) (a14 : Memref sig .tc .vmem S1024x128 .f32)
    (a15 a16 : Memref sig .tc .vmem S1024x32 .f32) (x : FVec F S1024x128 .f32) (y z : FVec F S1024x32 .f32)
    (k : List Wd → List Wd → List Wd → KProg F) (K : PUnit → sProp 𝕄) (n : ℕ) (a b e : Samp F) (p q r : List Wd)
    (ha : InB a.far) (hb : InB b.far) (he : InB e.far) :
    clouds c a14 a15 a16 x y z ⊢ iprop((clouds c a14 a15 a16 x y z -∗
        goal c (k (taken (fun w => dist128 x (rowAt128 x w)) n a p) (taken (fun w => dist32 y (rowAt32 y w)) n b q)
          (taken (fun w => dist32 z (rowAt32 z w)) n e r)) K)
      -∗ goal c (rounds a14 a15 a16 x y z n a b e p q r k) K) := by
  induction n generalizing a b e p q r with
  | zero =>
    iintro H Hk
    iapply Hk
    iexact H
  | succ n ih =>
    have ih' := ih (a.next (dist128 x (rowAt128 x a.far))) (b.next (dist32 y (rowAt32 y b.far))) (e.next (dist32 z (rowAt32 z e.far)))
      (p ++ [a.far]) (q ++ [b.far]) (r ++ [e.far]) (next_inB hf _ _) (next_inB hf _ _) (next_inB hf _ _)
    unfold clouds at ih' ⊢
    iintro ⟨H1, H2, H3⟩ Hk
    iapply (goal_assume c (chk1_of ha) _ K)
    iapply (goal_assume c (chk2_of hb) _ K)
    iapply (goal_assume c (chk2_of he) _ K)
    iapply (has_read128 c a14 x a.far (chk1_of ha) ha _ K) $$ H1
    iintro H1
    iapply (has_read32 c a15 y b.far (chk2_of hb) hb _ K) $$ H2
    iintro H2
    iapply (has_read32 c a16 z e.far (chk2_of he) he _ K) $$ H3
    iintro H3
    iapply ih' $$ [H1 H2 H3]
    · isplitl [H1]; · iexact H1
      isplitl [H2]; · iexact H2
      iexact H3
    · iexact Hk

theorem run_rows128 (c : Dev nD) (m : Memref sig .tc .vmem S1024x128 .f32) (x : FVec F S1024x128 .f32)
    (k : List (Vec F S1x128 .f32) → KProg F) (K : PUnit → sProp 𝕄) (l : List Wd) (h : ∀ w ∈ l, k0_chk1 w) (hl : ∀ w ∈ l, InB w)
    (acc : List (Vec F S1x128 .f32)) :
    has c m x ⊢ iprop((has c m x -∗ goal c (k (acc ++ l.map (rowAt128 x))) K) -∗ goal c (readRows128 m l h acc k) K) := by
  induction l generalizing acc with
  | nil =>
    rw [List.map_nil, List.append_nil]
    iintro H Hk
    iapply Hk
    iexact H
  | cons w l ih =>
    have ih' := ih (fun v hv => h v (List.mem_cons_of_mem _ hv)) (fun v hv => hl v (List.mem_cons_of_mem _ hv)) (acc ++ [rowAt128 x w])
    rw [List.append_assoc] at ih'
    iintro H Hk
    iapply (has_read128 c m x w (h w (List.mem_cons_self ..)) (hl w (List.mem_cons_self ..)) _ K) $$ H
    iintro H
    iapply ih' $$ H
    iexact Hk

theorem run_rows32 (c : Dev nD) (m : Memref sig .tc .vmem S1024x32 .f32) (x : FVec F S1024x32 .f32)
    (k : List (Vec F S1x32 .f32) → KProg F) (K : PUnit → sProp 𝕄) (l : List Wd) (h : ∀ w ∈ l, k0_chk2 w) (hl : ∀ w ∈ l, InB w)
    (acc : List (Vec F S1x32 .f32)) :
    has c m x ⊢ iprop((has c m x -∗ goal c (k (acc ++ l.map (rowAt32 x))) K) -∗ goal c (readRows32 m l h acc k) K) := by
  induction l generalizing acc with
  | nil =>
    rw [List.map_nil, List.append_nil]
    iintro H Hk
    iapply Hk
    iexact H
  | cons w l ih =>
    have ih' := ih (fun v hv => h v (List.mem_cons_of_mem _ hv)) (fun v hv => hl v (List.mem_cons_of_mem _ hv)) (acc ++ [rowAt32 x w])
    rw [List.append_assoc] at ih'
    iintro H Hk
    iapply (has_read32 c m x w (h w (List.mem_cons_self ..)) (hl w (List.mem_cons_self ..)) _ K) $$ H
    iintro H
    iapply ih' $$ H
    iexact Hk

theorem run_samples (c : Dev nD) (a14 : Memref sig .tc .vmem S1024x128 .f32)
    (a15 a16 : Memref sig .tc .vmem S1024x32 .f32) (x : FVec F S1024x128 .f32) (y z : FVec F S1024x32 .f32)
    (k : FVec F S16x128 .f32 → FVec F S16x32 .f32 → FVec F S16x32 .f32 → KProg F) (K : PUnit → sProp 𝕄) (p q r : List Wd)
    (hp : ∀ w ∈ p, InB w) (hq : ∀ w ∈ q, InB w) (hr : ∀ w ∈ r, InB w) :
    clouds c a14 a15 a16 x y z ⊢ iprop((clouds c a14 a15 a16 x y z -∗
        goal c (k (stack128 ((sorted16 p).map (rowAt128 x))) (stack32 ((sorted16 q).map (rowAt32 y)))
          (stack32 ((sorted16 r).map (rowAt32 z)))) K)
      -∗ goal c (samples a14 a15 a16 p q r k) K) := by
  have hp' := sorted16_all (P := InB) (by decide) p hp
  have hq' := sorted16_all (P := InB) (by decide) q hq
  have hr' := sorted16_all (P := InB) (by decide) r hr
  unfold clouds
  iintro ⟨H1, H2, H3⟩ Hk
  iapply (goal_assume c ((chkX_iff p).2 fun w hw => chk1_of (hp' w hw)) _ K)
  iapply (goal_assume c ((chkY_iff q).2 fun w hw => chk2_of (hq' w hw)) _ K)
  iapply (goal_assume c ((chkZ_iff r).2 fun w hw => chk2_of (hr' w hw)) _ K)
  iapply (run_rows128 c a14 x _ K (sorted16 p) _ hp' []) $$ H1
  iintro H1
  iapply (run_rows32 c a15 y _ K (sorted16 q) _ hq' []) $$ H2
  iintro H2
  iapply (run_rows32 c a16 z _ K (sorted16 r) _ hr' []) $$ H3
  iintro H3
  iapply Hk
  isplitl [H1]; · iexact H1
  isplitl [H2]; · iexact H2
  iexact H3

theorem has_store128 (c : Dev nD) (m : Memref sig .tc .vmem S1024x128 .f32) (x0 x : FVec F S1024x128 .f32) (k : KProg F)
    (K : PUnit → sProp 𝕄) :
    has c m x0 ⊢ iprop((has c m x -∗ goal c k K) -∗ goal c (store128 m x k) K) := by
  have e : shapeCast S1024x128 x shapeCasts_S1024x128_S1024x128 = x := by funext i; pointwise
  unfold store128
  rw [e]
  iintro H Hk
  iapply (has_load c m x0 (Rect.unit (s := S1024x128) ![0, 0] S1024x128.size inb_S1024x128_S1024x128_0_0)
    (View.loadsAt_vmem h_S1024x128) _ K) $$ H
  iintro H
  iapply (has_store c m x0 ![0, 0] inb_S1024x128_S1024x128_0_0 x (View.stores_vmem_bits_univ h_S1024x128 rfl) (.inl rfl) _ K) $$ H
  iexact Hk

theorem has_store32 (c : Dev nD) (m : Memref sig .tc .vmem S1024x32 .f32) (x0 x : FVec F S1024x32 .f32) (k : KProg F)
    (K : PUnit → sProp 𝕄) :
    has c m x0 ⊢ iprop((has c m x -∗ goal c k K) -∗ goal c (store32 m x k) K) := by
  have e : shapeCast S1024x32 x shapeCasts_S1024x32_S1024x32 = x := by funext i; pointwise
  unfold store32
  rw [e]
  iintro H Hk
  iapply (has_load c m x0 (Rect.unit (s := S1024x32) ![0, 0] S1024x32.size inb_S1024x32_S1024x32_0_0)
    (View.loadsAt_vmem h_S1024x32) _ K) $$ H
  iintro H
  iapply (has_store c m x0 ![0, 0] inb_S1024x32_S1024x32_0_0 x (View.stores_vmem_bits_univ h_S1024x32 rfl) (.inl rfl) _ K) $$ H
  iexact Hk

/-- A load of a whole memory. -/
theorem has_load_whole (c : Dev nD) {cs : CoreSpace} {s : Shape} {e : EltTy} (m : Memref sig .tc cs s e) (X : s.Idx → Elt F e)
    (off : Fin s.rank → ℕ) (inb : ∀ a, off a + s.size a ≤ s.size a) (hl : m.view.LoadsAt (Rect.unit off s.size inb).toLoadRect)
    (k : (s.Idx → Elt F e) → KProg F) (K : PUnit → sProp 𝕄) :
    has c m X ⊢ iprop((has c m X -∗ goal c (k X) K) -∗ goal c (.op (.load m (Rect.unit off s.size inb).toLoadRect hl) k) K) := by
  have e : (fun x : s.Idx => X ((Rect.unit off s.size inb).emb x)) = X := funext fun x => congrArg X (funext fun a => Fin.ext (by
    show off a + 1 * (x a).val = (x a).val
    have := inb a; omega))
  have h := has_load c m X (Rect.unit off s.size inb) hl k K
  have ek : k (fun x : s.Idx => X ((Rect.unit off s.size inb).emb x)) = k X := congrArg k e
  exact ek ▸ h

theorem goal_ret (c : Dev nD) (K : PUnit → sProp 𝕄) : K ⟨⟩ ⊢ goal (F := F) c (.ret ⟨⟩) K := by
  unfold goal
  iintro H
  rw [wp_ret]
  imodintro
  iexact H

/-- What the last part needs. -/
def tailMem (c : Dev nD) (a10 : Memref sig .tc .vmem S128x32 .f32) (a11 : Memref sig .tc .vmem S32x1 .f32)
    (a12 : Memref sig .tc .vmem S32x128 .f32) (gpe : Vec F S128x32 .f32) (gsa1 : Vec F S32x1 .f32) (gsa2 : Vec F S32x128 .f32) :
    sProp 𝕄 := iprop(has c a10 gpe ∗ has c a11 gsa1 ∗ has c a12 gsa2)

theorem run_finish (c : Dev nD) (a10 : Memref sig .tc .vmem S128x32 .f32) (a11 : Memref sig .tc .vmem S32x1 .f32)
    (a12 : Memref sig .tc .vmem S32x128 .f32) (a13 : Memref sig .tc .vmem S1x1024x128 .f32) (gpe : Vec F S128x32 .f32)
    (gsa1 : Vec F S32x1 .f32) (gsa2 : Vec F S32x128 .f32) (o : Vec F S1x1024x128 .f32) (x : FVec F S1024x128 .f32)
    (ef : FVec F S16x128 .f32) (km vm : FVec F S16x32 .f32) (K : PUnit → sProp 𝕄) :
    iprop(tailMem c a10 a11 a12 gpe gsa1 gsa2 ∗ has c a13 o) ⊢
      iprop((iprop(tailMem c a10 a11 a12 gpe gsa1 gsa2 ∗ has c a13 (outOf x (gRow (sgOf ef km gpe gsa1) (sGlob x ef vm gpe) gsa2)))
        -∗ K ⟨⟩) -∗ goal c (finish a10 a11 a12 a13 x ef km vm) K) := by
  unfold tailMem
  iintro ⟨⟨H10, H11, H12⟩, H13⟩ Hk
  iapply (has_load_whole c a10 gpe ![0, 0] inb_S128x32_S128x32_0_0 (View.loadsAt_vmem h_S128x32) _ K) $$ H10
  iintro H10
  iapply (has_load_whole c a11 gsa1 ![0, 0] inb_S32x1_S32x1_0_0 (View.loadsAt_vmem h_S32x1) _ K) $$ H11
  iintro H11
  iapply (has_load_whole c a10 gpe ![0, 0] inb_S128x32_S128x32_0_0 (View.loadsAt_vmem h_S128x32) _ K) $$ H10
  iintro H10
  iapply (has_load_whole c a12 gsa2 ![0, 0] inb_S32x128_S32x128_0_0 (View.loadsAt_vmem h_S32x128) _ K) $$ H12
  iintro H12
  iapply (has_load_whole c a13 o ![0, 0, 0] inb_S1x1024x128_S1x1024x128_0_0_0 (View.loadsAt_vmem h_S1x1024x128) _ K) $$ H13
  iintro H13
  iapply (has_store c a13 o ![0, 0, 0] inb_S1x1024x128_S1x1024x128_0_0_0 (outOf x (gRow (sgOf ef km gpe gsa1) (sGlob x ef vm gpe) gsa2))
    (View.stores_vmem_bits_univ h_S1x1024x128 rfl) (.inl rfl) (fun _ => .ret ⟨⟩) K) $$ H13
  iintro H13
  iapply (goal_ret c K)
  iapply Hk
  isplitl [H10 H11 H12]
  · isplitl [H10]; · iexact H10
    isplitl [H11]; · iexact H11
    iexact H12
  · iexact H13

end Cert.KernelIdeal.Model

end
-- ==== Proof.KernelWhole.lean ====
/- The body's run, put together. -/
module

public import proofs.«01_k».proof.Proof.KernelRun

@[expose] public section

noncomputable section

namespace Cert.KernelIdeal.Model

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] rounds taken samples finish store128 store32

theorem start_inB (hf : ∀ d : FVec F S1024x1 .f32, InB (farOf d)) (d : FVec F S1024x1 .f32) : InB (Samp.start d).far := hf d

theorem run_sampled (hf : ∀ d : FVec F S1024x1 .f32, InB (farOf d)) (c : Dev nD) (a10 : Memref sig .tc .vmem S128x32 .f32)
    (a11 : Memref sig .tc .vmem S32x1 .f32) (a12 : Memref sig .tc .vmem S32x128 .f32) (a13 : Memref sig .tc .vmem S1x1024x128 .f32)
    (a14 : Memref sig .tc .vmem S1024x128 .f32) (a15 a16 : Memref sig .tc .vmem S1024x32 .f32) (gpe : Vec F S128x32 .f32)
    (gsa1 : Vec F S32x1 .f32) (gsa2 : Vec F S32x128 .f32) (o : Vec F S1x1024x128 .f32) (x0 x : FVec F S1024x128 .f32)
    (y0 z0 y z : FVec F S1024x32 .f32) (K : PUnit → sProp 𝕄) :
    iprop(tailMem c a10 a11 a12 gpe gsa1 gsa2 ∗ has c a13 o ∗ clouds c a14 a15 a16 x0 y0 z0) ⊢
      iprop((iprop(tailMem c a10 a11 a12 gpe gsa1 gsa2 ∗ has c a13 (resultOf x y z gpe gsa1 gsa2) ∗ clouds c a14 a15 a16 x y z)
        -∗ K ⟨⟩) -∗ goal c (sampled a10 a11 a12 a13 a14 a15 a16 x y z) K) := by
  have hx := taken_all (P := InB) hf (fun w => dist128 x (rowAt128 x w)) 15 (Samp.start (dist128 x (mean128 x))) (start_inB hf _) [] (fun w h => absurd h List.not_mem_nil)
  have hy := taken_all (P := InB) hf (fun w => dist32 y (rowAt32 y w)) 15 (Samp.start (dist32 y (mean32 y))) (start_inB hf _) [] (fun w h => absurd h List.not_mem_nil)
  have hz := taken_all (P := InB) hf (fun w => dist32 z (rowAt32 z w)) 15 (Samp.start (dist32 z (mean32 z))) (start_inB hf _) [] (fun w h => absurd h List.not_mem_nil)
  unfold sampled clouds
  iintro ⟨HT, H13, H14, H15, H16⟩ Hk
  iapply (has_store128 c a14 x0 x _ K) $$ H14
  iintro H14
  iapply (has_store32 c a15 y0 y _ K) $$ H15
  iintro H15
  iapply (has_store32 c a16 z0 z _ K) $$ H16
  iintro H16
  iapply (run_rounds hf c a14 a15 a16 x y z _ K 15 _ _ _ [] [] [] (start_inB hf _) (start_inB hf _)
    (start_inB hf _)) $$ [H14 H15 H16]
  · unfold clouds
    isplitl [H14]; · iexact H14
    isplitl [H15]; · iexact H15
    iexact H16
  iintro HC
  iapply (run_samples c a14 a15 a16 x y z _ K _ _ _ hx hy hz) $$ HC
  iintro HC
  iapply (run_finish c a10 a11 a12 a13 gpe gsa1 gsa2 o x (picked128 x) (picked32 y) (picked32 z) K) $$ [HT H13]
  · isplitl [HT]; · iexact HT
    iexact H13
  iintro ⟨HT, H13⟩
  iapply Hk
  isplitl [HT]; · iexact HT
  isplitl [H13]; · iexact H13
  unfold clouds
  iexact HC

end Cert.KernelIdeal.Model

end
-- ==== Proof.KernelLaunch.lean ====
/- The body's run, at a grid point, and the run of the whole program. -/
module

public import proofs.«01_k».proof.Proof.KernelWhole

@[expose] public section

noncomputable section

namespace Cert.KernelIdeal.Model

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arguments' memories. -/
def args (c : Dev nD) (a1 : Memref sig .tc .vmem S1x1024x4 .f32) (a2 : Memref sig .tc .vmem S4x128 .f32) (a3 : Memref sig .tc .vmem S4x32 .f32) (a4 : Memref sig .tc .vmem S128x32 .f32) (a5 : Memref sig .tc .vmem S128x32 .f32) (a6 : Memref sig .tc .vmem S32x1 .f32) (a7 : Memref sig .tc .vmem S32x128 .f32) (a8 : Memref sig .tc .vmem S128x32 .f32) (a9 : Memref sig .tc .vmem S128x32 .f32) (a10 : Memref sig .tc .vmem S128x32 .f32) (a11 : Memref sig .tc .vmem S32x1 .f32) (a12 : Memref sig .tc .vmem S32x128 .f32)
    (x : Vec F S1x1024x4 .f32) (mlp1 : Vec F S4x128 .f32) (pe0 : Vec F S4x32 .f32) (lk : Vec F S128x32 .f32) (lv : Vec F S128x32 .f32) (sa1 : Vec F S32x1 .f32) (sa2 : Vec F S32x128 .f32) (gk : Vec F S128x32 .f32) (gv : Vec F S128x32 .f32) (gpe : Vec F S128x32 .f32) (gsa1 : Vec F S32x1 .f32) (gsa2 : Vec F S32x128 .f32) : sProp 𝕄 :=
  iprop(has c a1 x ∗ has c a2 mlp1 ∗ has c a3 pe0 ∗ has c a4 lk ∗ has c a5 lv ∗ has c a6 sa1 ∗ has c a7 sa2 ∗ has c a8 gk ∗ has c a9 gv ∗ has c a10 gpe ∗ has c a11 gsa1 ∗ has c a12 gsa2)

theorem run_body (hf : ∀ d : FVec F S1024x1 .f32, InB (farOf d)) (c : Dev nD) (a1 : Memref sig .tc .vmem S1x1024x4 .f32) (a2 : Memref sig .tc .vmem S4x128 .f32) (a3 : Memref sig .tc .vmem S4x32 .f32) (a4 : Memref sig .tc .vmem S128x32 .f32) (a5 : Memref sig .tc .vmem S128x32 .f32) (a6 : Memref sig .tc .vmem S32x1 .f32) (a7 : Memref sig .tc .vmem S32x128 .f32) (a8 : Memref sig .tc .vmem S128x32 .f32) (a9 : Memref sig .tc .vmem S128x32 .f32) (a10 : Memref sig .tc .vmem S128x32 .f32) (a11 : Memref sig .tc .vmem S32x1 .f32) (a12 : Memref sig .tc .vmem S32x128 .f32)
    (a13 : Memref sig .tc .vmem S1x1024x128 .f32)
    (a14 : Memref sig .tc .vmem S1024x128 .f32) (a15 a16 : Memref sig .tc .vmem S1024x32 .f32)
    (x : Vec F S1x1024x4 .f32) (mlp1 : Vec F S4x128 .f32) (pe0 : Vec F S4x32 .f32) (lk : Vec F S128x32 .f32) (lv : Vec F S128x32 .f32) (sa1 : Vec F S32x1 .f32) (sa2 : Vec F S32x128 .f32) (gk : Vec F S128x32 .f32) (gv : Vec F S128x32 .f32) (gpe : Vec F S128x32 .f32) (gsa1 : Vec F S32x1 .f32) (gsa2 : Vec F S32x128 .f32)
    (o : Vec F S1x1024x128 .f32) (x0 : FVec F S1024x128 .f32) (y0 z0 : FVec F S1024x32 .f32) (K : PUnit → sProp 𝕄) :
    iprop(args c a1 a2 a3 a4 a5 a6 a7 a8 a9 a10 a11 a12 x mlp1 pe0 lk lv sa1 sa2 gk gv gpe gsa1 gsa2 ∗ has c a13 o ∗ has c a14 x0 ∗ has c a15 y0 ∗ has c a16 z0) ⊢
      iprop((iprop(args c a1 a2 a3 a4 a5 a6 a7 a8 a9 a10 a11 a12 x mlp1 pe0 lk lv sa1 sa2 gk gv gpe gsa1 gsa2 ∗
          has c a13 (blockOut x mlp1 pe0 lk lv sa1 sa2 gk gv gpe gsa1 gsa2) ∗ (∃ x, has c a14 x) ∗ (∃ y, has c a15 y) ∗ ∃ z, has c a16 z) -∗ K ⟨⟩) -∗
        goal c (body a1 a2 a3 a4 a5 a6 a7 a8 a9 a10 a11 a12 a13 a14 a15 a16) K) := by
  unfold body args
  iintro ⟨⟨H1, H2, H3, H4, H5, H6, H7, H8, H9, H10, H11, H12⟩, H13, H14, H15, H16⟩ Hk
  iapply (has_load_whole c a1 x ![0, 0, 0] inb_S1x1024x4_S1x1024x4_0_0_0 (View.loadsAt_vmem h_S1x1024x4) _ K) $$ H1
  iintro H1
  iapply (has_load_whole c a3 pe0 ![0, 0] inb_S4x32_S4x32_0_0 (View.loadsAt_vmem h_S4x32) _ K) $$ H3
  iintro H3
  iapply (has_load_whole c a2 mlp1 ![0, 0] inb_S4x128_S4x128_0_0 (View.loadsAt_vmem h_S4x128) _ K) $$ H2
  iintro H2
  iapply (has_load_whole c a4 lk ![0, 0] inb_S128x32_S128x32_0_0 (View.loadsAt_vmem h_S128x32) _ K) $$ H4
  iintro H4
  iapply (has_load_whole c a5 lv ![0, 0] inb_S128x32_S128x32_0_0 (View.loadsAt_vmem h_S128x32) _ K) $$ H5
  iintro H5
  iapply (has_load_whole c a6 sa1 ![0, 0] inb_S32x1_S32x1_0_0 (View.loadsAt_vmem h_S32x1) _ K) $$ H6
  iintro H6
  iapply (has_load_whole c a7 sa2 ![0, 0] inb_S32x128_S32x128_0_0 (View.loadsAt_vmem h_S32x128) _ K) $$ H7
  iintro H7
  iapply (has_load_whole c a8 gk ![0, 0] inb_S128x32_S128x32_0_0 (View.loadsAt_vmem h_S128x32) _ K) $$ H8
  iintro H8
  iapply (has_load_whole c a9 gv ![0, 0] inb_S128x32_S128x32_0_0 (View.loadsAt_vmem h_S128x32) _ K) $$ H9
  iintro H9
  iapply (run_sampled hf c a10 a11 a12 a13 a14 a15 a16 gpe gsa1 gsa2 o x0 (lxOut x pe0 mlp1 lk lv sa1 sa2) y0 z0
    (proj (lxOut x pe0 mlp1 lk lv sa1 sa2) gk) (proj (lxOut x pe0 mlp1 lk lv sa1 sa2) gv) K) $$ [H10 H11 H12 H13 H14 H15 H16]
  · unfold tailMem clouds
    isplitl [H10 H11 H12]
    · isplitl [H10]; · iexact H10
      isplitl [H11]; · iexact H11
      iexact H12
    isplitl [H13]; · iexact H13
    isplitl [H14]; · iexact H14
    isplitl [H15]; · iexact H15
    iexact H16
  unfold tailMem clouds
  iintro ⟨⟨H10, H11, H12⟩, H13, H14, H15, H16⟩
  iapply Hk
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  isplitl [H14]; · iexists _; iexact H14
  isplitl [H15]; · iexists _; iexact H15
  iexists _; iexact H16

/-! ## The launch -/

variable (m : (ℓ : Loc nD τ sig) → Buf (Elt F) ℓ) (ρ : Dev nD → PrngReg)

/-- What a grid point leaves in the result's block. -/
def outBlk (c : Dev nD) (t : Fin cfg0.N) : FVec F S1x1024x128 .f32 :=
  blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlk m c t
    | ⟨_ + 13, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- A scratch buffer whole at some contents is a memory holding something, -/
theorem scratch_has (c : Dev nD) (b : Ref sig .tc) :
    iprop(∃ f : Buf (Elt F) ((c : Thread nD τ).loc b), ((c : Thread nD τ).loc b) ↦{fullShare} f)
      ⊢ iprop(∃ X, owns (c : Thread nD τ) (Memref.whole b) fullShare X : sProp 𝕄) := by
  unfold owns
  iintro ⟨%f, H⟩
  iexists f
  iexists f
  isplitr
  · ipureintro; rfl
  · rw [show (Memref.whole b).view.set = Finset.univ from View.set_whole b]
    iexact H

/-- and back. -/
theorem has_scratch (c : Dev nD) (b : Ref sig .tc) :
    iprop(∃ X, owns (c : Thread nD τ) (Memref.whole b) fullShare X)
      ⊢ iprop(∃ f : Buf (Elt F) ((c : Thread nD τ).loc b), ((c : Thread nD τ).loc b) ↦{fullShare} f : sProp 𝕄) := by
  unfold owns
  iintro ⟨%X, %f, -, H⟩
  iexists f
  rw [show (Memref.whole b).view.set = Finset.univ from View.set_whole b]
  iexact H

theorem sound_body (hf : ∀ d : FVec F S1024x1 .f32, InB (farOf d)) (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [kernel_eq]
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl]
  unfold Pipeline.ΦA
  rw [scopedRest0_eq]
  iintro ⟨⟨⟨S0, S1, S2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave S0 := (scratch_has c cc0_scratch0) $$ S0
  icases S0 with ⟨%x0, S0⟩
  ihave S1 := (scratch_has c cc0_scratch1) $$ S1
  icases S1 with ⟨%x1, S1⟩
  ihave S2 := (scratch_has c cc0_scratch2) $$ S2
  icases S2 with ⟨%x2, S2⟩
  iapply (run_body hf c _ _ _ _ _ _ _ _ _ _ _ _ (st0_12 t) (Memref.whole cc0_scratch0) (Memref.whole cc0_scratch1)
    (Memref.whole cc0_scratch2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ x0 x1 x2 _) $$ [H0 H1 H2 H3 H4 H5 H6 H7 H8 H9 H10 H11 H12 S0 S1 S2]
  · unfold args
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [S0]; · iexact S0
    isplitl [S1]; · iexact S1
    iexact S2
  unfold args
  iintro ⟨⟨H0, H1, H2, H3, H4, H5, H6, H7, H8, H9, H10, H11⟩, H12, S0, S1, S2⟩
  ihave S0 := (has_scratch c cc0_scratch0) $$ S0
  ihave S1 := (has_scratch c cc0_scratch1) $$ S1
  ihave S2 := (has_scratch c cc0_scratch2) $$ S2
  isplitl [S0 S1 S2 HP]
  · isplitl [S0 S1 S2]
    · isplitl [S0]; · iexact S0
      isplitl [S1]; · iexact S1
      iexact S2
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (hf : ∀ d : FVec F S1024x1 .f32, InB (farOf d)) (c : Dev nD) :
    BodyObligation (dats (F := F) m 0 c) (defs₀ (F := F)) Variants.none () Set.univ := fun t => by
  rw [bigSep_W0, bigSep_W0]
  exact sound_body m hf c t

set_option backward.isDefEq.respectTransparency.types false in
/-- The program's run: it ends, with every array as its grid points left it and every counter at zero. -/
theorem run_main (hf : ∀ d : FVec F S1024x1 .f32, InB (farOf d)) :
    θ_run defs (onTc (τ := τ) (main (F := F))) (s₀ m ρ)
      (fun r => Pipeline.FramePost cfgs (dats m) 0 (V m) r ∧ r.2.sem = fun _ => 0) :=
  Pipeline.θ_run_frame cfgs (dats m) (0 : Fin 1) launch0 defs₀ Variants.none m ρ main
    (hbody := fun c => (body_obligation m hf c).loose) (hshare := fun c => (dats m 0 c).share_full fun _ => rfl)
    (howed := fun _ _ => rfl) (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

end Cert.KernelIdeal.Model

end
-- ==== Proof.KernelValue.lean ====
/- The program's result array: batch by batch, the body's result on the batch's points. -/
module

public import proofs.«01_k».proof.Proof.KernelLaunch
public import Idealize.ShloMosaic.Lib.Pipeline.ValueKit
public import Idealize.ShloMosaic.Lib.Pointwise

@[expose] public section

noncomputable section

namespace Cert.KernelIdeal.Model

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The points of one batch. -/
def batch (x : FVec F S2x1024x4 .f32) (b : Fin 2) : FVec F S1x1024x4 .f32 := fun j => x (ix3 b (j 1) (j 2))

/-- The result array as a function of the arguments. -/
def wholeOut (x : FVec F S2x1024x4 .f32) (mlp1 : Vec F S4x128 .f32) (pe0 : Vec F S4x32 .f32) (lk lv : Vec F S128x32 .f32)
    (sa1 : Vec F S32x1 .f32) (sa2 : Vec F S32x128 .f32) (gk gv gpe : Vec F S128x32 .f32) (gsa1 : Vec F S32x1 .f32)
    (gsa2 : Vec F S32x128 .f32) : FVec F S2x1024x128 .f32 :=
  fun j => blockOut (batch x (j 0)) mlp1 pe0 lk lv sa1 sa2 gk gv gpe gsa1 gsa2 (ix3 0 (j 1) (j 2))

theorem idx : ∀ t : Fin cfg0.N, win0_0.index t = ![t.val, 0, 0] ∧ win0_12.index t = ![t.val, 0, 0] ∧
    win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] :=
  (by decide +kernel : ∀ t : Fin grid0.N, _)

theorem iblk_1 (c : Dev nD) (t : Fin cfg0.N) : iblk m c 1 t = m ((c : Thread nD τ).loc main_arg1) := by blk_ext! [iblk, V, idx t]
theorem iblk_2 (c : Dev nD) (t : Fin cfg0.N) : iblk m c 2 t = m ((c : Thread nD τ).loc main_arg2) := by blk_ext! [iblk, V, idx t]
theorem iblk_3 (c : Dev nD) (t : Fin cfg0.N) : iblk m c 3 t = m ((c : Thread nD τ).loc main_arg4) := by blk_ext! [iblk, V, idx t]
theorem iblk_4 (c : Dev nD) (t : Fin cfg0.N) : iblk m c 4 t = m ((c : Thread nD τ).loc main_arg5) := by blk_ext! [iblk, V, idx t]
theorem iblk_5 (c : Dev nD) (t : Fin cfg0.N) : iblk m c 5 t = m ((c : Thread nD τ).loc main_arg6) := by blk_ext! [iblk, V, idx t]
theorem iblk_6 (c : Dev nD) (t : Fin cfg0.N) : iblk m c 6 t = m ((c : Thread nD τ).loc main_arg7) := by blk_ext! [iblk, V, idx t]
theorem iblk_7 (c : Dev nD) (t : Fin cfg0.N) : iblk m c 7 t = m ((c : Thread nD τ).loc main_arg9) := by blk_ext! [iblk, V, idx t]
theorem iblk_8 (c : Dev nD) (t : Fin cfg0.N) : iblk m c 8 t = m ((c : Thread nD τ).loc main_arg10) := by blk_ext! [iblk, V, idx t]
theorem iblk_9 (c : Dev nD) (t : Fin cfg0.N) : iblk m c 9 t = m ((c : Thread nD τ).loc main_arg11) := by blk_ext! [iblk, V, idx t]
theorem iblk_10 (c : Dev nD) (t : Fin cfg0.N) : iblk m c 10 t = m ((c : Thread nD τ).loc main_arg12) := by blk_ext! [iblk, V, idx t]
theorem iblk_11 (c : Dev nD) (t : Fin cfg0.N) : iblk m c 11 t = m ((c : Thread nD τ).loc main_arg13) := by blk_ext! [iblk, V, idx t]

theorem iblk_0 (c : Dev nD) (t : Fin cfg0.N) (b : Fin 2) (hb : b.val = t.val) :
    iblk m c 0 t = batch (m ((c : Thread nD τ).loc main_arg0)) b := by
  unfold batch
  blk_ext! [iblk, V, idx t, hb]

theorem wholeOut_at (x : FVec F S2x1024x4 .f32) (mlp1 : Vec F S4x128 .f32) (pe0 : Vec F S4x32 .f32) (lk lv : Vec F S128x32 .f32)
    (sa1 : Vec F S32x1 .f32) (sa2 : Vec F S32x128 .f32) (gk gv gpe : Vec F S128x32 .f32) (gsa1 : Vec F S32x1 .f32)
    (gsa2 : Vec F S32x128 .f32) (i : S2x1024x128.Idx) (b : Fin 2) (y : S1x1024x128.Idx) (h0 : (i 0).val = b.val)
    (h1 : (i 1).val = (y 1).val) (h2 : (i 2).val = (y 2).val) :
    blockOut (batch x b) mlp1 pe0 lk lv sa1 sa2 gk gv gpe gsa1 gsa2 y
      = wholeOut x mlp1 pe0 lk lv sa1 sa2 gk gv gpe gsa1 gsa2 i := by
  unfold wholeOut
  have e0 : i 0 = b := Fin.ext h0
  have ey : y = ix3 0 (i 1) (i 2) := by
    funext a
    match a with
    | ⟨0, _⟩ => exact Subsingleton.elim (α := Fin 1) _ _
    | ⟨1, _⟩ => exact Fin.ext h1.symm
    | ⟨2, _⟩ => exact Fin.ext h2.symm
  rw [e0]
  exact congrArg (blockOut (batch x b) mlp1 pe0 lk lv sa1 sa2 gk gv gpe gsa1 gsa2) ey

theorem final (c : Dev nD) : (dats m 0 c).arrAt 12 cfg0.N
    = wholeOut (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7)) (m ((c : Thread nD τ).loc main_arg9)) (m ((c : Thread nD τ).loc main_arg10))
      (m ((c : Thread nD τ).loc main_arg11)) (m ((c : Thread nD τ).loc main_arg12)) (m ((c : Thread nD τ).loc main_arg13)) := by
  refine (dats m 0 c).arrAt_eq_of_covers 12 _ (by decide +kernel) fun t _ y => ?_
  obtain ⟨b, hb⟩ : ∃ b : Fin 2, b.val = t.val := ⟨⟨t.val, t.isLt.trans_eq (by decide)⟩, rfl⟩
  blk_simp
  rw [after0_12]
  unfold outBlk
  rw [iblk_1, iblk_2, iblk_3, iblk_4, iblk_5, iblk_6, iblk_7, iblk_8, iblk_9, iblk_10, iblk_11, iblk_0 m c t b hb]
  refine wholeOut_at _ _ _ _ _ _ _ _ _ _ _ _ _ b y ?_ ?_ ?_ <;> blk_simp [idx t, hb]

/-- Every argument unchanged, read off what the run leaves. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)

theorem args_kept (r : PUnit × MemSt nD τ sig (Elt F)) (h : Pipeline.FramePost cfgs (dats m) 0 (V m) r) (c : Dev nD) :
    ArgsKept m r c := by
  have hin : ∀ w : Fin cfg0.W, (cfg0.win w).isOut = false →
      r.2.mem ((cfg0.spec w).arr.view.loc (c.tc : Thread nD τ)) = V m c (Pipeline.arrRef spec0 w) :=
    fun w hw => ((h c).1 w).trans ((dats m 0 c).arrAt_in w hw _)
  have hrest : ∀ b ∈ Pipeline.restRefs sig (cfg0).spec, r.2.mem ((c.tc : Thread nD τ).loc b) = V m c b := (h c).2
  exact ⟨hin 0 rfl, hin 1 rfl, hin 2 rfl, hrest main_arg3 (Pipeline.mem_restRefs_of main_arg3 (by decide) (by decide)), hin 3 rfl, hin 4 rfl, hin 5 rfl, hin 6 rfl, hrest main_arg8 (Pipeline.mem_restRefs_of main_arg8 (by decide) (by decide)), hin 7 rfl, hin 8 rfl, hin 9 rfl, hin 10 rfl, hin 11 rfl⟩

/-- The program's run, its result array and arguments named. -/
theorem run_value (hf : ∀ d : FVec F S1024x1 .f32, InB (farOf d)) :
    θ_run defs (onTc (τ := τ) (main (F := F))) ⟨m, fun _ => 0, ρ⟩ (fun r => (∀ c : Dev nD,
      r.2.mem ((c.tc : Thread nD τ).loc main_v0)
        = wholeOut (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6))
          (m ((c : Thread nD τ).loc main_arg7)) (m ((c : Thread nD τ).loc main_arg9)) (m ((c : Thread nD τ).loc main_arg10))
          (m ((c : Thread nD τ).loc main_arg11)) (m ((c : Thread nD τ).loc main_arg12)) (m ((c : Thread nD τ).loc main_arg13))
      ∧ ArgsKept m r c) ∧ r.2.sem = fun _ => 0) :=
  (θ_run defs _ _).mono (fun r h => ⟨fun c => ⟨((h.1 c).1 12).trans (final m c), args_kept m r h.1 c⟩, h.2⟩) (run_main m ρ hf)

end Cert.KernelIdeal.Model

end
-- ==== Proof.Farthest.lean ====
module

public import proofs.«01_k».proof.Proof.KernelRun
public import Idealize.ShloMosaic.Lib.Pointwise

/-! The farthest row, on exact values: the row index the kernel picks by a maximum and a smallest
matching position, and the index the reference picks by a stable descending sort, are both the
first index at which the distances are largest. -/

@[expose] public section

set_option maxRecDepth 16384

noncomputable section

namespace Cert.Farthest

open Idealize.ShloMosaic

/-- Position `i` is the first at which `g` is largest. -/
def IsFirstMax {n : ℕ} (g : Fin n → EReal) (i : Fin n) : Prop :=
  (∀ k, g k ≤ g i) ∧ ∀ k, k < i → g k < g i

theorem IsFirstMax.unique {n : ℕ} {g : Fin n → EReal} {i j : Fin n} (hi : IsFirstMax g i) (hj : IsFirstMax g j) :
    i = j := by
  rcases lt_trichotomy i j with h | h | h
  · exact absurd (hj.2 i h) (not_lt.mpr (hi.1 j))
  · exact h
  · exact absurd (hi.2 j h) (not_lt.mpr (hj.1 i))

/-- The head of a stable descending sort of increasing positions is the first largest. -/
theorem stableSort_head {n : ℕ} (g : Fin n → EReal) (before : Fin n → Fin n → Bool)
    (hb : ∀ a b, before a b = decide (g b < g a)) (l : List (Fin n)) (hl : l.Pairwise (· < ·)) :
    ∀ h ∈ (stableSort before l).head?, h ∈ l ∧ (∀ k ∈ l, g k ≤ g h) ∧ ∀ k ∈ l, k < h → g k < g h := by
  induction l with
  | nil => intro h hh; simp [stableSort] at hh
  | cons a l ih =>
    obtain ⟨hal, hl⟩ := List.pairwise_cons.mp hl
    have ih := ih hl
    intro h hh
    rw [stableSort] at hh
    cases hs : stableSort before l with
    | nil =>
      have hln : l = [] := by
        have := length_stableSort before l
        rw [hs] at this
        exact List.length_eq_zero_iff.mp this.symm
      rw [hs] at hh
      simp only [insertBefore, List.head?_cons, Option.mem_def, Option.some.injEq] at hh
      subst hh; subst hln
      simp
    | cons b r =>
      obtain ⟨hb1, hb2, hb3⟩ := ih b (by rw [hs]; simp)
      rw [hs, insertBefore, hb] at hh
      by_cases hlt : g a < g b
      · simp only [hlt, decide_true, if_true, List.head?_cons, Option.mem_def, Option.some.injEq] at hh
        subst hh
        refine ⟨List.mem_cons_of_mem _ hb1, fun k hk => ?_, fun k hk hkb => ?_⟩
        · rcases List.mem_cons.mp hk with rfl | hk
          · exact hlt.le
          · exact hb2 k hk
        · rcases List.mem_cons.mp hk with rfl | hk
          · exact hlt
          · exact hb3 k hk hkb
      · simp only [hlt, decide_false, Bool.false_eq_true, if_false, List.head?_cons, Option.mem_def,
          Option.some.injEq] at hh
        subst hh
        refine ⟨List.mem_cons_self, fun k hk => ?_, fun k hk hka => ?_⟩
        · rcases List.mem_cons.mp hk with rfl | hk
          · exact le_rfl
          · exact (hb2 k hk).trans (not_lt.mp hlt)
        · rcases List.mem_cons.mp hk with rfl | hk
          · exact absurd hka (lt_irrefl _)
          · exact absurd hka (not_lt.mpr (hal k hk).le)

/-- The position a stable descending sort puts first is the first largest. -/
theorem sortedFrom_isFirstMax {n : ℕ} (g : Fin n → EReal) (before : Fin n → Fin n → Bool)
    (hb : ∀ a b, before a b = decide (g b < g a)) (z : Fin n) (hz : z.val = 0) :
    IsFirstMax g (sortedFrom before z) := by
  have hh := stableSort_head g before hb (List.finRange n) (List.pairwise_lt_finRange n)
    (sortedFrom before z) (by
      rw [Option.mem_def, List.head?_eq_getElem?, sortedFrom, List.get_eq_getElem]
      simp only [Fin.val_cast, hz]
      exact List.getElem?_eq_getElem (by rw [length_stableSort, List.length_finRange]; exact lt_of_le_of_lt (Nat.zero_le _) z.isLt))
  exact ⟨fun k => hh.2.1 k (List.mem_finRange k), fun k hk => hh.2.2 k (List.mem_finRange k) hk⟩

theorem exists_isFirstMax {n : ℕ} (g : Fin (n + 1) → EReal) : ∃ i, IsFirstMax g i :=
  ⟨_, sortedFrom_isFirstMax g (fun a b => decide (g b < g a)) (fun _ _ => rfl) 0 rfl⟩

/-! ### The kernel's pick -/

/-- A smallest-of fold whose every entry is absorbed by `v`, one entry being `v`, is `v`. -/
theorem fold_minsi_eq {ι : Type} [DecidableEq ι] (b v : BitVec 32) (f : ι → BitVec 32) (s : Finset ι) (i : ι)
    (hi : i ∈ s) (hv : f i = v) (hb : IntOp.minsi v b = v) (hf : ∀ j ∈ s, IntOp.minsi v (f j) = v) :
    s.fold IntOp.minsi b f = v := by
  have abs : ∀ t : Finset ι, (∀ j ∈ t, IntOp.minsi v (f j) = v) → IntOp.minsi v (t.fold IntOp.minsi b f) = v := by
    intro t
    induction t using Finset.induction_on with
    | empty => intro _; simpa using hb
    | insert a t ha ih =>
      intro ht
      rw [Finset.fold_insert ha, ← Std.Associative.assoc (op := IntOp.minsi), ht a (Finset.mem_insert_self a t)]
      exact ih fun j hj => ht j (Finset.mem_insert_of_mem hj)
  rw [← Finset.insert_erase hi, Finset.fold_insert (Finset.notMem_erase i s), hv]
  exact abs _ fun j hj => hf j (Finset.mem_of_mem_erase hj)

theorem minsi_word (i : ℕ) (w : BitVec 32) (hw : w.toNat < 2 ^ 31) (h : i ≤ w.toNat) :
    IntOp.minsi (BitVec.ofNat 32 i) w = BitVec.ofNat 32 i := by
  unfold IntOp.minsi
  split
  · rfl
  · rename_i hs
    have hi : (BitVec.ofNat 32 i).toNat = i := by rw [BitVec.toNat_ofNat]; exact Nat.mod_eq_of_lt (by omega)
    rw [BitVec.slt_iff_toInt_lt, BitVec.toInt_eq_toNat_of_lt (by omega), BitVec.toInt_eq_toNat_of_lt (by omega)] at hs
    apply BitVec.eq_of_toNat_eq
    omega

theorem neg_inf : Ideal.ofBits .f32 0xFF800000#32 = (⊥ : EReal) := by simp [Ideal.ofBits, Ideal.ieee]

end Cert.Farthest

namespace Cert.KernelIdeal.Model

open Cert.KernelIdeal Cert.KernelIdeal.Gen Cert.Farthest Idealize.ShloMosaic

/-- The kernel's pick is the word of the first row at which the distances are largest. -/
theorem farOf_eq (d : FVec Ideal S1024x1 .f32) (i : Fin 1024) (hi : IsFirstMax (fun k : Fin 1024 => d (ix2 k 0)) i) :
    farOf d = BitVec.ofNat 32 i.val := by
  pointwise [farOf]
  have hmax : (Finset.fold max (Ideal.ofBits FTy.f32 4286578688#32) (fun x : Fin 1024 × Fin 1 => d (ix2 x.1 0)) Finset.univ)
      = d (ix2 i 0) := by
    apply le_antisymm
    · exact Finset.fold_max_le _ |>.mpr ⟨by rw [neg_inf]; exact bot_le, fun x _ => hi.1 x.1⟩
    · exact Finset.le_fold_max _ |>.mpr (.inr ⟨(i, 0), Finset.mem_univ _, le_rfl⟩)
  refine fold_minsi_eq _ _ _ _ (i, 0) (Finset.mem_univ _) ?_ ?_ ?_
  · exact if_pos hmax.symm
  · exact minsi_word _ _ (by decide) (by have := i.isLt; simp; omega)
  · intro x _
    have := i.isLt
    have := x.1.isLt
    split
    · rename_i hx
      refine minsi_word _ _ (by rw [BitVec.toNat_ofNat]; omega) ?_
      rw [BitVec.toNat_ofNat, Nat.mod_eq_of_lt (by omega)]
      by_contra hlt
      have h1 := hi.2 x.1 (by rw [Fin.lt_def]; omega)
      have h2 : d (ix2 x.1 0) = d (ix2 i 0) := hx.trans hmax
      exact absurd h2 h1.ne
    · exact minsi_word _ _ (by decide) (show i.val ≤ 1024 by omega)

theorem farOf_lt (d : FVec Ideal S1024x1 .f32) : InB (farOf d) := by
  obtain ⟨i, hi⟩ := exists_isFirstMax (fun k : Fin 1024 => d (ix2 k 0))
  rw [farOf_eq d i hi]
  show (BitVec.ofNat 32 i.val).toNat < 1024
  rw [BitVec.toNat_ofNat, Nat.mod_eq_of_lt (by have := i.isLt; omega)]
  exact i.isLt

end Cert.KernelIdeal.Model
end
-- ==== Proof.Frames.lean ====
/- The frame claims: both programs end, leave their arguments unchanged, and every counter at zero. -/
module

public import proofs.«01_k».proof.Defs
public import proofs.«01_k».proof.Proof.KernelValue
public import proofs.«01_k».proof.Proof.Farthest
public import proofs.«01_k».proof.Proof.Gen.KernelIdeal
public import proofs.«01_k».proof.Proof.Gen.ReferenceIdeal
public import proofs.«01_k».proof.Proof.Gen.Pre_finite_arguments
public import proofs.«01_k».proof.Proof.Gen.ReferenceIdeal.StepRun
public import Idealize.ShloMosaic.Lib.Quiescent

@[expose] public section

noncomputable section

open Idealize.ShloMosaic Idealize.ShloMosaic.TcCoe Idealize.SL.Sem

namespace Cert.Proof

/-- The kernel's frame. -/
theorem frame_kernel : Cert.quiescent_KernelIdeal (hKernelIdeal := Cert.KernelIdeal.Gen.facts) := fun m ρ _ =>
  (θ_run _ _ _).mono (fun _ h => ⟨fun c => (h.1 c).2, h.2⟩)
    (Cert.KernelIdeal.Model.run_value (F := Ideal) m ρ Cert.KernelIdeal.Model.farOf_lt)

/-- The kernel's frame on finite arguments. -/
theorem frame_kernel_finite : Cert.quiescent_KernelIdeal_pre_finite_arguments (hKernelIdeal := Cert.KernelIdeal.Gen.facts)
    (hPre_finite_arguments := Cert.Pre_finite_arguments.Gen.facts) := fun m ρ _ =>
  (θ_run _ _ _).mono (fun _ h => ⟨fun c => (h.1 c).2, h.2⟩)
    (Cert.KernelIdeal.Model.run_value (F := Ideal) m ρ Cert.KernelIdeal.Model.farOf_lt)

/-- The reference's frame. -/
theorem frame_reference : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The reference's frame on finite arguments. -/
theorem frame_reference_finite : Cert.quiescent_ReferenceIdeal_pre_finite_arguments
    (hReferenceIdeal := Cert.ReferenceIdeal.Gen.facts) (hPre_finite_arguments := Cert.Pre_finite_arguments.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

end Cert.Proof

end
-- ==== Proof.Gathers.lean ====
module

public import proofs.«01_k».proof.Proof.Gen.ReferenceIdeal.Step
public import Idealize.ShloMosaic.Lib.Pointwise
public import Idealize.ShloMosaic.Lib.Pipeline.Regions

/-! The reference's gathers read at an index: the windows of a padded array, one row for every column, and
sixteen rows for every column. -/

@[expose] public section

set_option maxRecDepth 16384

noncomputable section

namespace Cert.ReferenceIdeal.Value

open Cert.ReferenceIdeal Cert.ReferenceIdeal.Gen Idealize.ShloMosaic

variable {α : Type}

theorem gather_win4 (x : S2x1039x4.Idx → α) (idx : IVec S1024x16x1 32) (b : Fin 2) (n : Fin 1024) (m : Fin 16) (c : Fin 4) :
    Host.gather gather_S2x1039x4_S1024x16x1_S2x1024x16x4_03_1_n_n_1_2_214 x idx (ix4 b n m c)
      = x (ix3 b ⟨min (idx (ix3 n m 0)).toInt.toNat 1038, by omega⟩ c) := by
  have hi : gather_S2x1039x4_S1024x16x1_S2x1024x16x4_03_1_n_n_1_2_214.siIdx (ix4 b n m c) ⟨0, by decide⟩ = ix3 n m 0 := by
    funext a; fin_cases a <;> rfl
  unfold Host.gather
  refine congrArg x ?_
  funext a
  apply Fin.ext
  fin_cases a
  · exact Nat.zero_add b.val
  · exact congrArg (fun q => min (idx q).toInt.toNat 1038) hi
  · exact Nat.zero_add c.val

theorem gather_win32 (x : S2x1039x32.Idx → α) (idx : IVec S1024x16x1 32) (b : Fin 2) (n : Fin 1024) (m : Fin 16) (c : Fin 32) :
    Host.gather gather_S2x1039x32_S1024x16x1_S2x1024x16x32_03_1_n_n_1_2_2132 x idx (ix4 b n m c)
      = x (ix3 b ⟨min (idx (ix3 n m 0)).toInt.toNat 1038, by omega⟩ c) := by
  have hi : gather_S2x1039x32_S1024x16x1_S2x1024x16x32_03_1_n_n_1_2_2132.siIdx (ix4 b n m c) ⟨0, by decide⟩ = ix3 n m 0 := by
    funext a; fin_cases a <;> rfl
  unfold Host.gather
  refine congrArg x ?_
  funext a
  apply Fin.ext
  fin_cases a
  · exact Nat.zero_add b.val
  · exact congrArg (fun q => min (idx q).toInt.toNat 1038) hi
  · exact Nat.zero_add c.val

theorem gather_row128 (x : S2x1024x128.Idx → α) (idx : IVec S2x1x128x1 32) (b : Fin 2) (c : Fin 128) :
    Host.gather gather_S2x1024x128_S2x1x128x1_S2x1x128_n_1_02_02_1_3_111 x idx (ix3 b 0 c)
      = x (ix3 b ⟨min (idx (ix4 b 0 c 0)).toInt.toNat 1023, by omega⟩ c) := by
  have hi : gather_S2x1024x128_S2x1x128x1_S2x1x128_n_1_02_02_1_3_111.siIdx (ix3 b 0 c) ⟨0, by decide⟩ = ix4 b 0 c 0 := by
    funext a; fin_cases a <;> rfl
  unfold Host.gather
  refine congrArg x ?_
  funext a
  apply Fin.ext
  fin_cases a
  · exact Nat.zero_add b.val
  · exact congrArg (fun q => min (idx q).toInt.toNat 1023) hi
  · exact Nat.zero_add c.val

theorem gather_row32 (x : S2x1024x32.Idx → α) (idx : IVec S2x1x32x1 32) (b : Fin 2) (c : Fin 32) :
    Host.gather gather_S2x1024x32_S2x1x32x1_S2x1x32_n_1_02_02_1_3_111 x idx (ix3 b 0 c)
      = x (ix3 b ⟨min (idx (ix4 b 0 c 0)).toInt.toNat 1023, by omega⟩ c) := by
  have hi : gather_S2x1024x32_S2x1x32x1_S2x1x32_n_1_02_02_1_3_111.siIdx (ix3 b 0 c) ⟨0, by decide⟩ = ix4 b 0 c 0 := by
    funext a; fin_cases a <;> rfl
  unfold Host.gather
  refine congrArg x ?_
  funext a
  apply Fin.ext
  fin_cases a
  · exact Nat.zero_add b.val
  · exact congrArg (fun q => min (idx q).toInt.toNat 1023) hi
  · exact Nat.zero_add c.val

theorem gather_rows128 (x : S2x1024x128.Idx → α) (idx : IVec S2x16x128x1 32) (b : Fin 2) (m : Fin 16) (c : Fin 128) :
    Host.gather gather_S2x1024x128_S2x16x128x1_S2x16x128_n_1_02_02_1_3_111 x idx (ix3 b m c)
      = x (ix3 b ⟨min (idx (ix4 b m c 0)).toInt.toNat 1023, by omega⟩ c) := by
  have hi : gather_S2x1024x128_S2x16x128x1_S2x16x128_n_1_02_02_1_3_111.siIdx (ix3 b m c) ⟨0, by decide⟩ = ix4 b m c 0 := by
    funext a; fin_cases a <;> rfl
  unfold Host.gather
  refine congrArg x ?_
  funext a
  apply Fin.ext
  fin_cases a
  · exact Nat.zero_add b.val
  · exact congrArg (fun q => min (idx q).toInt.toNat 1023) hi
  · exact Nat.zero_add c.val

theorem gather_rows32 (x : S2x1024x32.Idx → α) (idx : IVec S2x16x32x1 32) (b : Fin 2) (m : Fin 16) (c : Fin 32) :
    Host.gather gather_S2x1024x32_S2x16x32x1_S2x16x32_n_1_02_02_1_3_111 x idx (ix3 b m c)
      = x (ix3 b ⟨min (idx (ix4 b m c 0)).toInt.toNat 1023, by omega⟩ c) := by
  have hi : gather_S2x1024x32_S2x16x32x1_S2x16x32_n_1_02_02_1_3_111.siIdx (ix3 b m c) ⟨0, by decide⟩ = ix4 b m c 0 := by
    funext a; fin_cases a <;> rfl
  unfold Host.gather
  refine congrArg x ?_
  funext a
  apply Fin.ext
  fin_cases a
  · exact Nat.zero_add b.val
  · exact congrArg (fun q => min (idx q).toInt.toNat 1023) hi
  · exact Nat.zero_add c.val

/-! ### Index words -/

/-- A word below 1024 is not negative: the wrap leaves it, the clamp too. -/
theorem clamp_word (w : BitVec 32) (h : w.toNat < 1024) : min w.toInt.toNat 1023 = w.toNat := by
  rw [BitVec.toInt_eq_toNat_of_lt (by omega)]
  simp only [Int.toNat_natCast]
  omega

theorem wrap_word (w k : BitVec 32) (h : w.toNat < 2 ^ 31) :
    Scalar.select (IntOp.cmpi CmpIPredicate.slt w 0#32) (IntOp.addi w k) w = w := by
  have h0 : (IntOp.cmpi CmpIPredicate.slt w 0#32) = 0#1 := by
    show BitVec.ofBool (w.slt 0#32) = 0#1
    have : w.slt 0#32 = false := by
      simp only [BitVec.slt, BitVec.toInt_eq_toNat_of_lt (show 2 * w.toNat < 2 ^ 32 by omega)]
      simp
    rw [this]; rfl
  rw [h0]
  rfl

/-- The word of window entry `m` of row `n`. -/
theorem win_word (n : Fin 1024) (m : Fin 16) : (IntOp.addi (BitVec.ofNat 32 n.val) (BitVec.ofNat 32 m.val)).toNat = m.val + n.val := by
  show (BitVec.ofNat 32 n.val + BitVec.ofNat 32 m.val).toNat = _
  rw [BitVec.toNat_add, BitVec.toNat_ofNat, BitVec.toNat_ofNat]
  omega

end Cert.ReferenceIdeal.Value
end
-- ==== Proof.RealLift.lean ====
module

public import Idealize.ShloMosaic.Lib.Pointwise
public import Idealize.ShloMosaic.Lib.IdealHost

/-! Real arithmetic inside the extended reals: sums, maxima and the softmax of real numbers, and the
softmax's indifference to a common shift. -/

@[expose] public section

noncomputable section

namespace Cert.RealLift

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals. -/
def rmax {ι : Type} [Fintype ι] [Nonempty ι] (f : ι → ℝ) : ℝ := Finset.univ.sup' Finset.univ_nonempty f

theorem le_rmax {ι : Type} [Fintype ι] [Nonempty ι] (f : ι → ℝ) (i : ι) : f i ≤ rmax f :=
  Finset.le_sup' f (Finset.mem_univ i)

theorem rmax_mem {ι : Type} [Fintype ι] [Nonempty ι] (f : ι → ℝ) : ∃ i, rmax f = f i := by
  obtain ⟨i, _, hi⟩ := Finset.exists_mem_eq_sup' Finset.univ_nonempty f
  exact ⟨i, hi⟩

theorem rmax_shift {ι : Type} [Fintype ι] [Nonempty ι] (c : ℝ) (f : ι → ℝ) : rmax (fun i => c + f i) = c + rmax f := by
  obtain ⟨i, hi⟩ := rmax_mem f
  obtain ⟨j, hj⟩ := rmax_mem fun i => c + f i
  have h1 := le_rmax (fun i => c + f i) i
  have h2 := le_rmax f j
  rw [hj] at h1 ⊢
  rw [hi] at h2 ⊢
  linarith

theorem fold_max_coe {ι : Type} [Fintype ι] [Nonempty ι] (f : ι → ℝ) :
    Finset.univ.fold max (⊥ : EReal) (fun i => ((f i : ℝ) : EReal)) = ((rmax f : ℝ) : EReal) := by
  obtain ⟨i, hi⟩ := rmax_mem f
  apply le_antisymm
  · exact Finset.fold_max_le _ |>.mpr ⟨bot_le, fun j _ => EReal.coe_le_coe_iff.mpr (le_rmax f j)⟩
  · exact Finset.le_fold_max _ |>.mpr (.inr ⟨i, Finset.mem_univ _, by rw [hi]⟩)

/-- The softmax of finitely many reals. -/
def sm {ι : Type} [Fintype ι] [Nonempty ι] (f : ι → ℝ) (i : ι) : ℝ :=
  Real.exp (f i - rmax f) * (1 / ∑ j, Real.exp (f j - rmax f))

theorem sm_shift {ι : Type} [Fintype ι] [Nonempty ι] (c : ℝ) (f : ι → ℝ) (i : ι) : sm (fun i => c + f i) i = sm f i := by
  have h : ∀ j, c + f j - (c + rmax f) = f j - rmax f := fun j => by ring
  simp only [sm, rmax_shift, h]

theorem sum_exp_ne {ι : Type} [Fintype ι] [Nonempty ι] (f : ι → ℝ) : (∑ j, Real.exp (f j)) ≠ 0 :=
  (Finset.sum_pos (fun _ _ => Real.exp_pos _) Finset.univ_nonempty).ne'

/-- A quotient of real numbers. -/
theorem div_real {x y : ℝ} (h : y ≠ 0) : Ideal.div (x : EReal) (y : EReal) = ((x * (1 / y) : ℝ) : EReal) := by
  rw [Ideal.div_coe h, EReal.coe_mul]

theorem neg_inf : Ideal.ofBits .f32 0xFF800000#32 = (⊥ : EReal) := by simp [Ideal.ofBits, Ideal.ieee]

theorem w1024 : Ideal.ofBits .f32 0x44800000#32 = ((1024 : ℝ) : EReal) := by
  simp [Ideal.ofBits, Ideal.ieee]
  rw [← EReal.coe_mul]
  norm_num

/-- A softmax as the programs compute it, of real numbers. -/
theorem softmax_coe {ι : Type} [Fintype ι] [Nonempty ι] (f : ι → ℝ) (i : ι) :
    Ideal.div (Ideal.exp (((f i : ℝ) : EReal) - Finset.univ.fold max (⊥ : EReal) (fun i => ((f i : ℝ) : EReal))))
      (∑ j, Ideal.exp (((f j : ℝ) : EReal) - Finset.univ.fold max (⊥ : EReal) (fun i => ((f i : ℝ) : EReal))))
    = ((sm f i : ℝ) : EReal) := by
  simp only [fold_max_coe, ← EReal.coe_sub, Ideal.exp_coe, coe_sum]
  rw [div_real (sum_exp_ne _)]
  rfl

end Cert.RealLift
end
-- ==== Proof.Spec.lean ====
module

public import proofs.«01_k».proof.Proof.RealLift

/-! The local attention on real numbers: windows of sixteen rows around every row, their sums over all
rows from the total and the first or last rows, and the attention's result. -/

@[expose] public section

noncomputable section

namespace Cert.Spec

open Cert.RealLift

/-- A product of real matrices. -/
def mm {a b c : ℕ} (X : Fin a → Fin b → ℝ) (W : Fin b → Fin c → ℝ) (i : Fin a) (j : Fin c) : ℝ := ∑ k, X i k * W k j

/-- Entry `m` of the window around row `n`: row `n + m - 8`, zero beyond either end. -/
def win (X : Fin 1024 → ℝ) (n : Fin 1024) (m : Fin 16) : ℝ :=
  if h : m.val + n.val < 8 then 0 else if h' : m.val + n.val - 8 < 1024 then X ⟨m.val + n.val - 8, h'⟩ else 0

theorem win_add (X Y : Fin 1024 → ℝ) (n : Fin 1024) (m : Fin 16) : win (fun i => X i + Y i) n m = win X n m + win Y n m := by
  unfold win; split
  · simp
  · split <;> simp

theorem win_mul (X : Fin 1024 → ℝ) (c : ℝ) (n : Fin 1024) (m : Fin 16) : win (fun i => X i * c) n m = win X n m * c := by
  unfold win; split
  · simp
  · split <;> simp

theorem win_sum {ι : Type} (s : Finset ι) (X : ι → Fin 1024 → ℝ) (n : Fin 1024) (m : Fin 16) :
    win (fun i => ∑ k ∈ s, X k i) n m = ∑ k ∈ s, win (X k) n m := by
  unfold win; split
  · simp
  · split <;> simp

/-! ### The sums of the windows -/

/-- A column continued by zeros. -/
def ext (X : Fin 1024 → ℝ) (k : ℕ) : ℝ := if h : k < 1024 then X ⟨k, h⟩ else 0

theorem sum_ext (X : Fin 1024 → ℝ) : ∑ k ∈ Finset.range 1024, ext X k = ∑ n, X n := by
  rw [Finset.sum_range]
  exact Finset.sum_congr rfl fun n _ => by simp [ext]

/-- The first `p` rows' sum. -/
def prefR (X : Fin 1024 → ℝ) : ℕ → ℝ
  | 0 => 0
  | p + 1 => prefR X p + X (Fin.ofNat 1024 p)

/-- The last `p` rows' sum. -/
def sufR (X : Fin 1024 → ℝ) : ℕ → ℝ
  | 0 => 0
  | p + 1 => sufR X p + X (Fin.ofNat 1024 (1023 - p))

theorem ext_ofNat (X : Fin 1024 → ℝ) (p : ℕ) (hp : p < 1024) : X (Fin.ofNat 1024 p) = ext X p := by
  unfold ext
  rw [dif_pos hp]
  exact congrArg X (Fin.ext (Nat.mod_eq_of_lt hp))

theorem prefR_eq (X : Fin 1024 → ℝ) (p : ℕ) (hp : p ≤ 1024) : prefR X p = ∑ k ∈ Finset.range p, ext X k := by
  induction p with
  | zero => rfl
  | succ p ih => rw [prefR, ih (by omega), Finset.sum_range_succ, ext_ofNat X p (by omega)]

theorem sufR_eq (X : Fin 1024 → ℝ) (p : ℕ) (hp : p ≤ 1024) :
    sufR X p + ∑ k ∈ Finset.range (1024 - p), ext X k = ∑ k ∈ Finset.range 1024, ext X k := by
  induction p with
  | zero => simp [sufR]
  | succ p ih =>
    have e : 1024 - p = (1024 - (p + 1)) + 1 := by omega
    have e' : 1024 - (p + 1) = 1023 - p := by omega
    rw [← ih (by omega), e, Finset.sum_range_succ, sufR, ext_ofNat X _ (by omega), e']
    ring

theorem sum_win_low (X : Fin 1024 → ℝ) (m : Fin 16) (hm : m.val < 8) : ∑ n, win X n m = ∑ n, X n - sufR X (8 - m.val) := by
  have h := sufR_eq X (8 - m.val) (by omega)
  have e : ∑ n, win X n m = ∑ k ∈ Finset.range 1024, (if k < 8 - m.val then 0 else ext X (k - (8 - m.val))) := by
    rw [Finset.sum_range]
    refine Finset.sum_congr rfl fun n _ => ?_
    unfold win ext
    by_cases h1 : m.val + n.val < 8
    · rw [dif_pos h1, if_pos (by omega)]
    · have h2 : m.val + n.val - 8 = n.val - (8 - m.val) := by omega
      rw [dif_neg h1, if_neg (by omega)]
      simp only [h2]
  have e2 : (1024 : ℕ) = (8 - m.val) + (1024 - (8 - m.val)) := by omega
  have h0 : ∑ k ∈ Finset.range (8 - m.val), (if k < 8 - m.val then 0 else ext X (k - (8 - m.val))) = 0 :=
    Finset.sum_eq_zero fun k hk => if_pos (Finset.mem_range.mp hk)
  have h1 : ∑ k ∈ Finset.range (1024 - (8 - m.val)), (if 8 - m.val + k < 8 - m.val then 0 else ext X (8 - m.val + k - (8 - m.val)))
      = ∑ k ∈ Finset.range (1024 - (8 - m.val)), ext X k :=
    Finset.sum_congr rfl fun k _ => by rw [if_neg (by omega), Nat.add_sub_cancel_left]
  have h2 := Finset.sum_range_add (fun k => if k < 8 - m.val then 0 else ext X (k - (8 - m.val))) (8 - m.val) (1024 - (8 - m.val))
  rw [← e2, h0, h1] at h2
  rw [e, h2, ← sum_ext]
  linarith

theorem sum_win_high (X : Fin 1024 → ℝ) (m : Fin 16) (hm : ¬ m.val < 8) : ∑ n, win X n m = ∑ n, X n - prefR X (m.val - 8) := by
  have h := prefR_eq X (m.val - 8) (by omega)
  have e : ∑ n, win X n m = ∑ k ∈ Finset.range 1024, ext X (m.val - 8 + k) := by
    rw [Finset.sum_range]
    refine Finset.sum_congr rfl fun n _ => ?_
    unfold win ext
    have h2 : m.val + n.val - 8 = m.val - 8 + n.val := by omega
    rw [dif_neg (by omega)]
    simp only [h2]
  have h3 : ∑ k ∈ Finset.range (m.val - 8), ext X (1024 + k) = 0 :=
    Finset.sum_eq_zero fun k _ => by unfold ext; rw [dif_neg (by omega)]
  have h4 := Finset.sum_range_add (ext X) (m.val - 8) 1024
  have h5 := Finset.sum_range_add (ext X) 1024 (m.val - 8)
  rw [Nat.add_comm] at h5
  rw [e, h, ← sum_ext]
  linarith

/-! ### The attention -/

/-- A row's score. -/
def score (K PE : Fin 1024 → Fin 32 → ℝ) (sa1 : Fin 32 → Fin 1 → ℝ) (n : Fin 1024) : ℝ := ∑ c, (K n c + PE n c) * sa1 c 0

/-- The attention's weights. -/
def weights (K PE : Fin 1024 → Fin 32 → ℝ) (sa1 : Fin 32 → Fin 1 → ℝ) (n : Fin 1024) (m : Fin 16) : ℝ :=
  sm (fun m => -win (score K PE sa1) n m) m

/-- The values summed over all rows, entry of the window by entry. -/
def sums (V PE : Fin 1024 → Fin 32 → ℝ) (m : Fin 16) (c : Fin 32) : ℝ :=
  ∑ n, win (fun i => V i c) n m + ∑ n, PE n c - ∑ n, win (fun i => PE i c) n m

/-- The local attention's result. -/
def lxOut (X : Fin 1024 → Fin 4 → ℝ) (pe0 : Fin 4 → Fin 32 → ℝ) (mlp1 : Fin 4 → Fin 128 → ℝ) (lk lv : Fin 128 → Fin 32 → ℝ)
    (sa1 : Fin 32 → Fin 1 → ℝ) (sa2 : Fin 32 → Fin 128 → ℝ) (n : Fin 1024) (j : Fin 128) : ℝ :=
  mm X mlp1 n j + mm (mm (weights (mm (mm X mlp1) lk) (mm X pe0) sa1) (sums (mm (mm X mlp1) lv) (mm X pe0))) sa2 n j

end Cert.Spec
end
-- ==== Proof.LocalReference.lean ====
module

public import proofs.«01_k».proof.Proof.Gathers
public import proofs.«01_k».proof.Proof.Spec

/-! The reference's local attention, of real arguments, is the attention on real numbers. -/

@[expose] public section

set_option maxRecDepth 16384

noncomputable section

namespace Cert.ReferenceIdeal.Value

open Cert.ReferenceIdeal Cert.ReferenceIdeal.Gen Cert.ReferenceIdeal.Step Cert.RealLift Cert.Spec Idealize.ShloMosaic

/-- The index words of the windows: entry `m` of row `n` is row `m + n` of the padded array. -/
def winIdx : IVec S1024x16x1 32 := K_main_v16 (F := Ideal)

theorem winIdx_at (n : Fin 1024) (m : Fin 16) : min (winIdx (ix3 n m 0)).toInt.toNat 1038 = m.val + n.val := by
  have h : winIdx (ix3 n m 0) = IntOp.addi (BitVec.ofNat 32 n.val) (BitVec.ofNat 32 m.val) := by
    unfold winIdx
    pointwise [K_main_v16, K_main_v15, K_main_v12, K_main_v10, K_main_v11, K_main_v14, K_main_v8, K_main_v9, K_main_v5, K_main_v7,
      K_main_v4, K_main_v6, K_main_v13, K_main_c_0, K_main_c_1]
    exact wrap_word _ _ (by rw [win_word]; omega)
  rw [h, BitVec.toInt_eq_toNat_of_lt (by rw [win_word]; omega), Int.toNat_natCast, win_word]
  omega

theorem win_inside (X : Fin 1024 → ℝ) (n : Fin 1024) (m : Fin 16) (h : 8 ≤ m.val + n.val ∧ m.val + n.val - 8 < 1024) :
    win X n m = X ⟨m.val + n.val - 8, h.2⟩ := by
  unfold win
  rw [dif_neg (by omega), dif_pos h.2]

theorem win_outside (X : Fin 1024 → ℝ) (n : Fin 1024) (m : Fin 16) (h : ¬(8 ≤ m.val + n.val ∧ m.val + n.val - 8 < 1024)) :
    win X n m = 0 := by
  unfold win
  split
  · rfl
  · rw [dif_neg (by omega)]

theorem zero_word : (FloatOps.sitofp FTy.f32 (0#32 : BitVec 32) : Ideal FTy.f32) = (((0 : ℝ) : EReal) : Ideal FTy.f32) := by
  show (((0#32 : BitVec 32).toInt : ℝ) : EReal) = _
  simp

/-- The windows of a padded array of four columns. -/
def windows4 (x : FVec Ideal S2x1024x4 .f32) : FVec Ideal S2x1024x16x4 .f32 :=
  Host.gather gather_S2x1039x4_S1024x16x1_S2x1024x16x4_03_1_n_n_1_2_214
    (pad S2x1039x4 ![0, 8, 0] ![0, 7, 0] ![0, 0, 0] x (K_main_call0_v0 (F := Ideal)) pads_S2x1024x4_S2x1039x4_000_870_000 h_S_) winIdx

/-- The windows of a padded array of thirty-two columns. -/
def windows32 (x : FVec Ideal S2x1024x32 .f32) : FVec Ideal S2x1024x16x32 .f32 :=
  Host.gather gather_S2x1039x32_S1024x16x1_S2x1024x16x32_03_1_n_n_1_2_2132
    (pad S2x1039x32 ![0, 8, 0] ![0, 7, 0] ![0, 0, 0] x (K_main_call0_v0 (F := Ideal)) pads_S2x1024x32_S2x1039x32_000_870_000 h_S_) winIdx

theorem windows4_coe {x : FVec Ideal S2x1024x4 .f32} {X : Fin 2 → Fin 1024 → Fin 4 → ℝ}
    (hx : ∀ b n c, x (ix3 b n c) = ((X b n c : ℝ) : EReal)) (b : Fin 2) (n : Fin 1024) (m : Fin 16) (c : Fin 4) :
    windows4 x (ix4 b n m c) = ((win (fun i => X b i c) n m : ℝ) : EReal) := by
  unfold windows4
  rw [gather_win4]
  simp only [winIdx_at]
  pointwise [K_main_call0_v0, K_main_c]
  split
  · rename_i h
    rw [hx, win_inside _ _ _ h]
  · rename_i h
    rw [win_outside _ _ _ h]
    exact zero_word

theorem windows32_coe {x : FVec Ideal S2x1024x32 .f32} {X : Fin 2 → Fin 1024 → Fin 32 → ℝ}
    (hx : ∀ b n c, x (ix3 b n c) = ((X b n c : ℝ) : EReal)) (b : Fin 2) (n : Fin 1024) (m : Fin 16) (c : Fin 32) :
    windows32 x (ix4 b n m c) = ((win (fun i => X b i c) n m : ℝ) : EReal) := by
  unfold windows32
  rw [gather_win32]
  simp only [winIdx_at]
  pointwise [K_main_call0_v0, K_main_c]
  split
  · rename_i h
    rw [hx, win_inside _ _ _ h]
  · rename_i h
    rw [win_outside _ _ _ h]
    exact zero_word

/-! ### The attention's common part -/

/-- The weights: the softmax of the logits along the window. -/
def softmax (l : FVec Ideal S2x1024x16x1 .f32) : FVec Ideal S2x1x1024x16 .f32 :=
  let l' : FVec Ideal S2x1x1024x16 .f32 := shapeCast _ l shapeCasts_S2x1024x16x1_S2x1x1024x16
  let top := broadcastInDim S2x1x1024x16 ![0, 1, 2, 3] bcast_S2x1x1024x1_S2x1x1024x16_0_1_2_3
    (broadcastInDim S2x1x1024x1 ![0, 1, 2] bcast_S2x1x1024_S2x1x1024x1_0_1_2
      (maximumf (broadcastInDim S2x1x1024 ![] bcast_S_S2x1x1024 (constant S_ .f32 0xFF800000#32))
        (Host.reduce FloatOps.maximumf l' (constant S_ .f32 0xFF800000#32) reducesTo_S2x1x1024x16_S2x1x1024_d3 h_S_)))
  let e := Host.exp (subf l' top)
  Host.divf e (broadcastInDim S2x1x1024x16 ![0, 1, 2, 3] bcast_S2x1x1024x1_S2x1x1024x16_0_1_2_3
    (broadcastInDim S2x1x1024x1 ![0, 1, 2] bcast_S2x1x1024_S2x1x1024x1_0_1_2
      (Host.reduceAdd e (constant S_ .f32 0x00000000#32) reducesTo_S2x1x1024x16_S2x1x1024_d3 h_S_)))

theorem softmax_at {l : FVec Ideal S2x1024x16x1 .f32} {L : Fin 2 → Fin 1024 → Fin 16 → ℝ}
    (hl : ∀ b n m, l (ix4 b n m 0) = ((L b n m : ℝ) : EReal)) (b : Fin 2) (n : Fin 1024) (m : Fin 16) :
    softmax l (ix4 b 0 n m) = ((sm (L b n) m : ℝ) : EReal) := by
  pointwise [softmax]
  simp only [hl, RealLift.neg_inf, bot_le, max_eq_right]
  exact softmax_coe (L b n) m

/-- The values weighted and summed over every row and the window. -/
def weighted (l : FVec Ideal S2x1024x16x1 .f32) (v : FVec Ideal S2x1024x16x32 .f32) : FVec Ideal S2x1024x32 .f32 :=
  transpose S2x1024x32 [0, 2, 1] (Host.reduceAdd (transpose S2x32x1024x1024 [0, 2, 1, 3]
    (Host.dotGeneral dot_S2x1024x16_S2x32x16x1024_S2x1024x32x1024_2_2_1_13_0_0 none
      (shapeCast _ (softmax l) shapeCasts_S2x1x1024x16_S2x1024x16)
      (transpose S2x32x16x1024 [0, 3, 2, 1] v transposes_S2x1024x16x32_S2x32x16x1024_0_3_2_1))
    transposes_S2x1024x32x1024_S2x32x1024x1024_0_2_1_3) (constant S_ .f32 0x00000000#32) reducesTo_S2x32x1024x1024_S2x32x1024_d3 h_S_)
    transposes_S2x32x1024_S2x1024x32_0_2_1

theorem weighted_coe {l : FVec Ideal S2x1024x16x1 .f32} {v : FVec Ideal S2x1024x16x32 .f32} {L : Fin 2 → Fin 1024 → Fin 16 → ℝ}
    {V : Fin 2 → Fin 1024 → Fin 16 → Fin 32 → ℝ} (hl : ∀ b n m, l (ix4 b n m 0) = ((L b n m : ℝ) : EReal))
    (hv : ∀ b n m c, v (ix4 b n m c) = ((V b n m c : ℝ) : EReal)) (b : Fin 2) (n : Fin 1024) (c : Fin 32) :
    weighted l v (ix3 b n c) = ((∑ i, ∑ m, sm (L b n) m * V b i m c : ℝ) : EReal) := by
  pointwise [weighted]
  simp only [softmax_at hl, hv, ← EReal.coe_mul, coe_sum]

/-! ### The products -/

theorem dot4_128_coe {x : FVec Ideal S2x1024x4 .f32} {w : FVec Ideal S4x128 .f32} {X : Fin 2 → Fin 1024 → Fin 4 → ℝ}
    {W : Fin 4 → Fin 128 → ℝ} (hx : ∀ b n f, x (ix3 b n f) = ((X b n f : ℝ) : EReal)) (hw : ∀ i j, w (ix2 i j) = ((W i j : ℝ) : EReal))
    (b : Fin 2) (n : Fin 1024) (j : Fin 128) :
    Host.dotGeneral dot_S2x1024x4_S4x128_S2x1024x128_2_0_01_1_n_n none x w (ix3 b n j) = ((mm (X b) W n j : ℝ) : EReal) := by
  pointwise
  simp only [hx, hw, ← EReal.coe_mul, coe_sum]
  rfl

theorem dot128_32_coe {x : FVec Ideal S2x1024x128 .f32} {w : FVec Ideal S128x32 .f32} {X : Fin 2 → Fin 1024 → Fin 128 → ℝ}
    {W : Fin 128 → Fin 32 → ℝ} (hx : ∀ b n f, x (ix3 b n f) = ((X b n f : ℝ) : EReal)) (hw : ∀ i j, w (ix2 i j) = ((W i j : ℝ) : EReal))
    (b : Fin 2) (n : Fin 1024) (j : Fin 32) :
    Host.dotGeneral dot_S2x1024x128_S128x32_S2x1024x32_2_0_01_1_n_n none x w (ix3 b n j) = ((mm (X b) W n j : ℝ) : EReal) := by
  pointwise
  simp only [hx, hw, ← EReal.coe_mul, coe_sum]
  rfl

theorem dot32_128_coe {x : FVec Ideal S2x1024x32 .f32} {w : FVec Ideal S32x128 .f32} {X : Fin 2 → Fin 1024 → Fin 32 → ℝ}
    {W : Fin 32 → Fin 128 → ℝ} (hx : ∀ b n f, x (ix3 b n f) = ((X b n f : ℝ) : EReal)) (hw : ∀ i j, w (ix2 i j) = ((W i j : ℝ) : EReal))
    (b : Fin 2) (n : Fin 1024) (j : Fin 128) :
    Host.dotGeneral dot_S2x1024x32_S32x128_S2x1024x128_2_0_01_1_n_n none x w (ix3 b n j) = ((mm (X b) W n j : ℝ) : EReal) := by
  pointwise
  simp only [hx, hw, ← EReal.coe_mul, coe_sum]
  rfl

/-- The logits of queries, keys and offsets. -/
def logits (q : FVec Ideal S2x1024x32 .f32) (k : FVec Ideal S2x1024x16x32 .f32) (p : FVec Ideal S2x1024x16x32 .f32)
    (sa1 : FVec Ideal S32x1 .f32) : FVec Ideal S2x1024x16x1 .f32 :=
  Host.dotGeneral dot_S2x1024x16x32_S32x1_S2x1024x16x1_3_0_012_1_n_n none
    (addf (subf (broadcastInDim S2x1024x16x32 ![0, 1, 2, 3] bcast_S2x1024x1x32_S2x1024x16x32_0_1_2_3
      (broadcastInDim S2x1024x1x32 ![0, 1, 3] bcast_S2x1024x32_S2x1024x1x32_0_1_3 q)) k) p) sa1

theorem logits_coe {q : FVec Ideal S2x1024x32 .f32} {k p : FVec Ideal S2x1024x16x32 .f32} {sa1 : FVec Ideal S32x1 .f32}
    {Q : Fin 2 → Fin 1024 → Fin 32 → ℝ} {K P : Fin 2 → Fin 1024 → Fin 16 → Fin 32 → ℝ} {A : Fin 32 → Fin 1 → ℝ}
    (hq : ∀ b n c, q (ix3 b n c) = ((Q b n c : ℝ) : EReal)) (hk : ∀ b n m c, k (ix4 b n m c) = ((K b n m c : ℝ) : EReal))
    (hp : ∀ b n m c, p (ix4 b n m c) = ((P b n m c : ℝ) : EReal)) (ha : ∀ i j, sa1 (ix2 i j) = ((A i j : ℝ) : EReal))
    (b : Fin 2) (n : Fin 1024) (m : Fin 16) :
    logits q k p sa1 (ix4 b n m 0) = ((∑ c, (Q b n c - K b n m c + P b n m c) * A c 0 : ℝ) : EReal) := by
  pointwise [logits]
  simp only [hq, hk, hp, ha, ← EReal.coe_sub, ← EReal.coe_add, ← EReal.coe_mul, coe_sum]

/-- The offsets' positions: each row less its window, projected. -/
def offsets (x : FVec Ideal S2x1024x4 .f32) (w : FVec Ideal S4x32 .f32) : FVec Ideal S2x1024x16x32 .f32 :=
  Host.dotGeneral dot_S2x1024x16x4_S4x32_S2x1024x16x32_3_0_012_1_n_n none
    (subf (broadcastInDim S2x1024x16x4 ![0, 1, 2, 3] bcast_S2x1024x1x4_S2x1024x16x4_0_1_2_3
      (broadcastInDim S2x1024x1x4 ![0, 1, 3] bcast_S2x1024x4_S2x1024x1x4_0_1_3 x)) (windows4 x)) w

theorem offsets_coe {x : FVec Ideal S2x1024x4 .f32} {w : FVec Ideal S4x32 .f32} {X : Fin 2 → Fin 1024 → Fin 4 → ℝ}
    {W : Fin 4 → Fin 32 → ℝ} (hx : ∀ b n f, x (ix3 b n f) = ((X b n f : ℝ) : EReal)) (hw : ∀ i j, w (ix2 i j) = ((W i j : ℝ) : EReal))
    (b : Fin 2) (n : Fin 1024) (m : Fin 16) (c : Fin 32) :
    offsets x w (ix4 b n m c) = ((mm (X b) W n c - win (fun i => mm (X b) W i c) n m : ℝ) : EReal) := by
  pointwise [offsets]
  simp only [hx, hw, windows4_coe hx, ← EReal.coe_sub, ← EReal.coe_mul, coe_sum]
  unfold mm
  rw [win_sum, ← Finset.sum_sub_distrib]
  simp only [win_mul, sub_mul]

/-! ### The attention -/

section

variable (K V : Fin 1024 → Fin 32 → ℝ) (Q PE : Fin 1024 → Fin 32 → ℝ) (A : Fin 32 → Fin 1 → ℝ)

/-- The reference's weights are those of the keys alone: the query adds the same to a whole window. -/
theorem weights_eq (n : Fin 1024) (m : Fin 16) :
    sm (fun m => ∑ c, (Q n c - win (fun i => K i c) n m + (PE n c - win (fun i => PE i c) n m)) * A c 0) m = weights K PE A n m := by
  unfold weights
  rw [← sm_shift (∑ c, (Q n c + PE n c) * A c 0) (fun m => -win (score K PE A) n m)]
  refine congrArg (fun f => sm f m) (funext fun m => ?_)
  unfold score
  rw [win_sum, ← sub_eq_add_neg, ← Finset.sum_sub_distrib]
  refine Finset.sum_congr rfl fun c _ => ?_
  rw [win_mul, win_add]
  ring

/-- The values summed over the rows first. -/
theorem weighted_eq (s : Fin 16 → ℝ) (c : Fin 32) :
    ∑ i, ∑ m, s m * (win (fun k => V k c) i m + (PE i c - win (fun k => PE k c) i m)) = ∑ m, s m * sums V PE m c := by
  rw [Finset.sum_comm]
  refine Finset.sum_congr rfl fun m _ => ?_
  rw [← Finset.mul_sum]
  unfold sums
  rw [Finset.sum_add_distrib, Finset.sum_sub_distrib]
  ring

end

/-- The reference's local attention. -/
def lxOut (x : FVec Ideal S2x1024x4 .f32) (mlp1 : FVec Ideal S4x128 .f32) (pe0 : FVec Ideal S4x32 .f32)
    (lq lk lv : FVec Ideal S128x32 .f32) (sa1 : FVec Ideal S32x1 .f32) (sa2 : FVec Ideal S32x128 .f32) : FVec Ideal S2x1024x128 .f32 :=
  let lx := Host.dotGeneral dot_S2x1024x4_S4x128_S2x1024x128_2_0_01_1_n_n none x mlp1
  let proj := fun w : FVec Ideal S128x32 .f32 => Host.dotGeneral dot_S2x1024x128_S128x32_S2x1024x32_2_0_01_1_n_n none lx w
  addf lx (Host.dotGeneral dot_S2x1024x32_S32x128_S2x1024x128_2_0_01_1_n_n none
    (weighted (logits (proj lq) (windows32 (proj lk)) (offsets x pe0) sa1) (addf (windows32 (proj lv)) (offsets x pe0))) sa2)

theorem lxOut_coe {x : FVec Ideal S2x1024x4 .f32} {mlp1 : FVec Ideal S4x128 .f32} {pe0 : FVec Ideal S4x32 .f32}
    {lq lk lv : FVec Ideal S128x32 .f32} {sa1 : FVec Ideal S32x1 .f32} {sa2 : FVec Ideal S32x128 .f32}
    {X : Fin 2 → Fin 1024 → Fin 4 → ℝ} {M : Fin 4 → Fin 128 → ℝ} {P : Fin 4 → Fin 32 → ℝ} {Q K V : Fin 128 → Fin 32 → ℝ}
    {A : Fin 32 → Fin 1 → ℝ} {B : Fin 32 → Fin 128 → ℝ}
    (hx : ∀ b n f, x (ix3 b n f) = ((X b n f : ℝ) : EReal)) (hm : ∀ i j, mlp1 (ix2 i j) = ((M i j : ℝ) : EReal))
    (hp : ∀ i j, pe0 (ix2 i j) = ((P i j : ℝ) : EReal)) (hq : ∀ i j, lq (ix2 i j) = ((Q i j : ℝ) : EReal))
    (hk : ∀ i j, lk (ix2 i j) = ((K i j : ℝ) : EReal)) (hv : ∀ i j, lv (ix2 i j) = ((V i j : ℝ) : EReal))
    (ha : ∀ i j, sa1 (ix2 i j) = ((A i j : ℝ) : EReal)) (hb : ∀ i j, sa2 (ix2 i j) = ((B i j : ℝ) : EReal))
    (b : Fin 2) (n : Fin 1024) (j : Fin 128) :
    lxOut x mlp1 pe0 lq lk lv sa1 sa2 (ix3 b n j) = ((Spec.lxOut (X b) P M K V A B n j : ℝ) : EReal) := by
  have h1 := dot4_128_coe hx hm
  have ho := offsets_coe hx hp
  have hl := logits_coe (dot128_32_coe h1 hq) (windows32_coe (dot128_32_coe h1 hk)) ho ha
  have hval : ∀ b n m c, addf (windows32 (Host.dotGeneral dot_S2x1024x128_S128x32_S2x1024x32_2_0_01_1_n_n none
      (Host.dotGeneral dot_S2x1024x4_S4x128_S2x1024x128_2_0_01_1_n_n none x mlp1) lv)) (offsets x pe0) (ix4 b n m c) = _ :=
    fun b n m c => (congrArg₂ (· + ·) (windows32_coe (dot128_32_coe h1 hv) b n m c) (ho b n m c)).trans (EReal.coe_add _ _).symm
  have hw := weighted_coe hl hval
  simp only [weights_eq, weighted_eq] at hw
  have hd := dot32_128_coe (X := fun b => mm (weights (mm (mm (X b) M) K) (mm (X b) P) A) (sums (mm (mm (X b) M) V) (mm (X b) P))) hw hb b n j
  exact (congrArg₂ (· + ·) (h1 b n j) hd).trans (EReal.coe_add _ _).symm

/-- The program's value is this local attention. -/
theorem lxOut_is (a0 a1 a2 a3 a4 a5 a6 a7 a9 a10) : A_main_v78 (F := Ideal) a0 a1 a2 a3 a4 a5 a6 a7 a9 a10 = lxOut a0 a1 a2 a3 a4 a5 a6 a7 := by
  chain_rfl

end Cert.ReferenceIdeal.Value
end
-- ==== Proof.Ordering.lean ====
module

public import proofs.«01_k».proof.Proof.Gathers
public import proofs.«01_k».proof.Proof.Farthest
public import Idealize.ShloMosaic.Lib.SortFacts

/-! The reference's searches and sorts: its search for the farthest point finds the first position of the greatest distance,
its sort lists a row's words in order. -/

@[expose] public section

set_option maxRecDepth 16384

noncomputable section

namespace Cert.ReferenceIdeal.Value

open Cert.ReferenceIdeal Cert.ReferenceIdeal.Gen Cert.Farthest Idealize.ShloMosaic

/-- The search for the farthest point of each batch. -/
def topIdx (d : FVec Ideal S2x1024 .f32) : IVec S2x1 32 := (Host.topK S2x1 1 (FloatOps.cmpfTotal .gt) d sliceFits_S2x1024_S2x1).2

theorem along_row {n : ℕ} (b : Fin 2) (p k : Fin n) : (ix2 b p : (⟨2, ![2, n]⟩ : Shape).Idx).along 1 k = ix2 b k := by
  funext a
  fin_cases a <;> rfl

theorem gt_word (x y : EReal) : ((FloatOps.cmpfTotal (F := Ideal) (φ := .f32) .gt x y : BitVec 1) == 1#1) = decide (y < x) := by
  show (BitVec.ofBool (decide (y < x)) == 1#1) = _
  by_cases h : y < x <;> simp [h]

theorem topIdx_sorted (d : FVec Ideal S2x1024 .f32) (b : Fin 2) :
    topIdx d (ix2 b 0) = BitVec.ofNat 32 (sortedFrom (fun k k' : Fin 1024 => decide (d (ix2 b k') < d (ix2 b k))) 0).val := by
  have hj : (fun a => ⟨0 + ((ix2 b (0 : Fin 1) : S2x1.Idx) a).val, by
      fin_cases a
      · show 0 + b.val < 2; omega
      · show 0 + 0 < 1024; omega⟩ : S2x1024.Idx) = ix2 b 0 := by
    funext a
    fin_cases a
    · exact Fin.ext (Nat.zero_add b.val)
    · rfl
  unfold topIdx Host.topK Host.sort2
  simp only [show (1 : ℕ) < S2x1024.rank from by decide, ↓reduceDIte]
  unfold extractStridedSlice iotaInDim
  refine (congrArg (fun J : S2x1024.Idx => BitVec.ofNat 32 ((J.along 1 (sortedFrom (fun k k' =>
    FloatOps.cmpfTotal (F := Ideal) (φ := .f32) .gt (d (J.along 1 k)) (d (J.along 1 k')) == 1#1) (J 1))) 1).val) hj).trans ?_
  have e : (fun k k' : Fin 1024 => FloatOps.cmpfTotal (F := Ideal) (φ := .f32) .gt (d ((ix2 b (0 : Fin 1024) : S2x1024.Idx).along 1 k))
      (d ((ix2 b (0 : Fin 1024) : S2x1024.Idx).along 1 k')) == 1#1) = fun k k' => decide (d (ix2 b k') < d (ix2 b k)) := by
    funext k k'
    rw [along_row, along_row]
    exact gt_word _ _
  refine (congrArg (fun J : S2x1024.Idx => BitVec.ofNat 32 (J 1).val) (along_row b 0 _)).trans ?_
  exact congrArg (fun f : Fin 1024 → Fin 1024 → Bool => BitVec.ofNat 32 (sortedFrom f 0).val) e

/-- The search finds the first position of the greatest distance. -/
theorem topIdx_eq (d : FVec Ideal S2x1024 .f32) (b : Fin 2) (i : Fin 1024) (hi : IsFirstMax (fun k : Fin 1024 => d (ix2 b k)) i) :
    topIdx d (ix2 b 0) = BitVec.ofNat 32 i.val := by
  rw [topIdx_sorted]
  exact congrArg (fun p : Fin 1024 => BitVec.ofNat 32 p.val)
    ((sortedFrom_isFirstMax (fun k : Fin 1024 => d (ix2 b k)) _ (fun _ _ => rfl) 0 rfl).unique hi)

/-- One row's words as the sort lists them. -/
def sortedRow (x : IVec S2x16 32) (b : Fin 2) : List (BitVec 32) := List.ofFn fun p : Fin 16 => Host.sort S2x16 1 comparator_i32_d1 x (ix2 b p)

theorem sort_at (x : IVec S2x16 32) (b : Fin 2) (p : Fin 16) : Host.sort S2x16 1 comparator_i32_d1 x (ix2 b p)
    = x (ix2 b (sortedFrom (fun k k' : Fin 16 => comparator_i32_d1 (x (ix2 b k)) (x (ix2 b k')) == 1#1) p)) := by
  unfold Host.sort
  rw [dif_pos (show 1 < S2x16.rank from by decide)]
  have e : (fun k k' : Fin 16 => comparator_i32_d1 (x ((ix2 b p : S2x16.Idx).along 1 k)) (x ((ix2 b p : S2x16.Idx).along 1 k')) == 1#1)
      = fun k k' => comparator_i32_d1 (x (ix2 b k)) (x (ix2 b k')) == 1#1 := by
    funext k k'
    rw [along_row, along_row]
  refine (congrArg x (along_row b p _)).trans ?_
  exact congrArg (fun f : Fin 16 → Fin 16 → Bool => x (ix2 b (sortedFrom f p))) e

theorem less_word (x y : BitVec 32) : (comparator_i32_d1 x y == 1#1) = decide (x.toInt < y.toInt) := by
  show (BitVec.ofBool (x.slt y) == 1#1) = _
  unfold BitVec.slt
  by_cases h : x.toInt < y.toInt <;> simp [h]

theorem rearranged {n : ℕ} {α : Type} (R : Fin n → Fin n → Bool) (f : Fin n → α) :
    (List.ofFn fun p => f (sortedFrom R p)).Perm (List.ofFn f) :=
  Equiv.Perm.ofFn_comp_perm (Equiv.ofBijective (sortedFrom R) ⟨sortedFrom_injective R, sortedFrom_surjective R⟩) f

/-- The sort only rearranges. -/
theorem sortedRow_perm (x : IVec S2x16 32) (b : Fin 2) : (sortedRow x b).Perm (List.ofFn fun p : Fin 16 => x (ix2 b p)) := by
  unfold sortedRow
  simp only [sort_at]
  exact rearranged _ fun p => x (ix2 b p)

/-- The sort's words are in order. -/
theorem sortedRow_ordered (x : IVec S2x16 32) (b : Fin 2) : (sortedRow x b).Pairwise fun u v => u.toInt ≤ v.toInt := by
  unfold sortedRow
  rw [List.pairwise_ofFn]
  intro i j hij
  rw [sort_at, sort_at]
  have h := sortedFrom_noInversion (fun k k' : Fin 16 => comparator_i32_d1 (x (ix2 b k)) (x (ix2 b k')) == 1#1)
    (fun k k' : Fin 16 => comparator_i32_d1 (x (ix2 b k)) (x (ix2 b k')) == 1#1)
    (fun k k' h => by simp only [less_word, decide_eq_true_eq, decide_eq_false_iff_not] at h ⊢; omega) (fun _ _ h => h)
    (fun k k' l h h' => by simp only [less_word, decide_eq_false_iff_not] at h h' ⊢; omega) i j hij
  simp only [less_word, decide_eq_false_iff_not] at h ⊢
  omega

end Cert.ReferenceIdeal.Value
end
-- ==== Proof.NetworkCheck.lean ====
module

public import Idealize.ShloMosaic.Lib.Pointwise

/-! The odd-even network orders sixteen truth values: after the first comparisons each pair of neighbours is one of three,
so there are few enough cases to check one by one. -/

@[expose] public section

set_option maxRecDepth 16384

namespace Cert.Network

/-! ### The network on truth values -/

def pairsB : List Bool → List Bool
  | a :: b :: l => (a && b) :: (a || b) :: pairsB l
  | l => l

def oddPairsB : List Bool → List Bool
  | a :: l => a :: pairsB l
  | [] => []

def networkB : ℕ → List Bool → List Bool
  | 0, l => l
  | n + 1, l => networkB n (oddPairsB (pairsB l))

/-- No truth value before a false one is true. -/
def orderedB : List Bool → Bool
  | a :: b :: l => (!a || b) && orderedB (b :: l)
  | _ => true

/-- The three ordered pairs, spread out. -/
def spread : List (Fin 3) → List Bool
  | [] => []
  | a :: l => (a == 2) :: (a != 0) :: spread l

/-- A check of every list of a length over three letters. -/
def checkAll : ℕ → (List (Fin 3) → Bool) → Bool
  | 0, p => p []
  | n + 1, p => checkAll n (fun l => p (0 :: l)) && checkAll n (fun l => p (1 :: l)) && checkAll n (fun l => p (2 :: l))

theorem checkAll_spec (n : ℕ) (p : List (Fin 3) → Bool) (h : checkAll n p = true) (l : List (Fin 3)) (hl : l.length = n) : p l = true := by
  induction n generalizing p l with
  | zero => rw [List.length_eq_zero_iff.1 hl]; exact h
  | succ n ih =>
    simp only [checkAll, Bool.and_eq_true] at h
    match l, hl with
    | a :: l, hl =>
      have hl' : l.length = n := by simpa using hl
      match a with
      | 0 => exact ih _ h.1.1 l hl'
      | 1 => exact ih _ h.1.2 l hl'
      | 2 => exact ih _ h.2 l hl'

theorem pairsB_spread (l : List Bool) (n : ℕ) (hl : l.length = 2 * n) : ∃ t : List (Fin 3), t.length = n ∧ pairsB l = spread t := by
  induction n generalizing l with
  | zero => exact ⟨[], rfl, by rw [List.length_eq_zero_iff.1 hl]; rfl⟩
  | succ n ih =>
    match l, hl with
    | a :: b :: l, hl =>
      obtain ⟨t, ht, e⟩ := ih l (by simp only [List.length_cons] at hl; omega)
      refine ⟨(if a && b then 2 else if a || b then 1 else 0) :: t, by simp [ht], ?_⟩
      rw [pairsB, spread, e]
      cases a <;> cases b <;> rfl

theorem checked : checkAll 8 (fun t => orderedB (networkB 7 (oddPairsB (spread t)))) = true := by decide +kernel

theorem networkB_ordered (l : List Bool) (hl : l.length = 16) : orderedB (networkB 8 l) = true := by
  obtain ⟨t, ht, e⟩ := pairsB_spread l 8 hl
  rw [networkB, e]
  exact checkAll_spec 8 _ checked t ht

theorem orderedB_mem (l : List Bool) (h : orderedB l = true) (a : Bool) (t : List Bool) (e : l = a :: t) (ha : a = true) :
    ∀ b ∈ t, b = true := by
  induction t generalizing l a with
  | nil => intro b hb; simp at hb
  | cons b t ih =>
    subst e ha
    simp only [orderedB, Bool.not_true, Bool.false_or, Bool.and_eq_true] at h
    intro c hc
    rcases List.mem_cons.1 hc with rfl | hc
    · exact h.1
    · exact ih (b :: t) h.2 b rfl h.1 c hc

theorem orderedB_tail (a : Bool) (l : List Bool) (h : orderedB (a :: l) = true) : orderedB l = true := by
  match l with
  | [] => rfl
  | b :: l => simp only [orderedB, Bool.and_eq_true] at h; exact h.2

end Cert.Network
-- ==== Proof.Network.lean ====
module

public import proofs.«01_k».proof.Proof.KernelRun
public import proofs.«01_k».proof.Proof.NetworkCheck

/-! The kernel's sorting network orders sixteen words: comparing neighbours commutes with every threshold, so it is enough
that the network orders sixteen truth values. -/

@[expose] public section

set_option maxRecDepth 16384

namespace Cert.KernelIdeal.Model

open Idealize.ShloMosaic Cert.Network

/-! ### Thresholds -/

/-- Whether a word is at least another, both signed. -/
def atLeast (c w : Wd) : Bool := decide (c.toInt ≤ w.toInt)

theorem atLeast_min (c a b : Wd) : atLeast c (Scalar.minsi a b) = (atLeast c a && atLeast c b) := by
  unfold atLeast Scalar.minsi IntOp.minsi
  rw [← Bool.decide_and]
  refine decide_eq_decide.2 ?_
  split <;> rename_i h <;> simp only [BitVec.slt, BitVec.sle, decide_eq_true_eq] at h <;> omega

theorem atLeast_max (c a b : Wd) : atLeast c (Scalar.maxsi a b) = (atLeast c a || atLeast c b) := by
  unfold atLeast Scalar.maxsi IntOp.maxsi
  rw [← Bool.decide_or]
  refine decide_eq_decide.2 ?_
  split <;> rename_i h <;> simp only [BitVec.slt, BitVec.sle, decide_eq_true_eq] at h <;> omega

theorem pairs_map (c : Wd) (l : List Wd) : (pairs l).map (atLeast c) = pairsB (l.map (atLeast c)) := by
  induction l using pairs.induct with
  | case1 a b l ih => simp only [pairs, pairsB, List.map_cons, ih, atLeast_min, atLeast_max]
  | case2 l hl =>
    match l, hl with
    | [], _ => rfl
    | [a], _ => rfl
    | a :: b :: l, hl => exact absurd rfl (hl a b l)

theorem oddPairs_map (c : Wd) (l : List Wd) : (oddPairs l).map (atLeast c) = oddPairsB (l.map (atLeast c)) := by
  cases l with
  | nil => rfl
  | cons a l => simp only [oddPairs, oddPairsB, List.map_cons, pairs_map]

theorem network_map (c : Wd) (n : ℕ) (l : List Wd) : (network n l).map (atLeast c) = networkB n (l.map (atLeast c)) := by
  induction n generalizing l with
  | zero => rfl
  | succ n ih => rw [network, networkB, ih, oddPairs_map, pairs_map]

/-! ### The words in order -/

theorem pairwise_of (l : List Wd) (h : ∀ c, orderedB (l.map (atLeast c)) = true) : l.Pairwise fun a b => a.toInt ≤ b.toInt := by
  induction l with
  | nil => exact List.Pairwise.nil
  | cons a l ih =>
    refine List.Pairwise.cons (fun b hb => ?_) (ih fun c => orderedB_tail _ _ (h c))
    have := orderedB_mem _ (h a) _ _ rfl (decide_eq_true (le_refl a.toInt)) (atLeast a b) (List.mem_map_of_mem hb)
    exact of_decide_eq_true this

theorem pairs_perm (l : List Wd) : (pairs l).Perm l := by
  induction l using pairs.induct with
  | case1 a b l ih =>
    have h : (Scalar.minsi a b = a ∧ Scalar.maxsi a b = b) ∨ (Scalar.minsi a b = b ∧ Scalar.maxsi a b = a) := by
      unfold Scalar.minsi Scalar.maxsi IntOp.minsi IntOp.maxsi
      split <;> split <;> rename_i h1 h2 <;> simp only [BitVec.slt, BitVec.sle, decide_eq_true_eq] at h1 h2
      · first | exact Or.inl ⟨rfl, rfl⟩ | exact Or.inl ⟨rfl, BitVec.eq_of_toInt_eq (by omega)⟩
      · first | exact Or.inl ⟨rfl, rfl⟩ | exact Or.inl ⟨rfl, BitVec.eq_of_toInt_eq (by omega)⟩
      · first | exact Or.inr ⟨rfl, rfl⟩ | exact Or.inr ⟨rfl, BitVec.eq_of_toInt_eq (by omega)⟩
      · first | exact Or.inr ⟨rfl, rfl⟩ | exact Or.inr ⟨rfl, BitVec.eq_of_toInt_eq (by omega)⟩
    rw [pairs]
    rcases h with ⟨h1, h2⟩ | ⟨h1, h2⟩ <;> rw [h1, h2]
    · exact (ih.cons b).cons a
    · exact ((ih.cons a).cons b).trans (List.Perm.swap a b l)
  | case2 l hl => rw [pairs]; exact hl

theorem network_perm (n : ℕ) (l : List Wd) : (network n l).Perm l := by
  induction n generalizing l with
  | zero => exact List.Perm.refl l
  | succ n ih =>
    refine (ih _).trans (List.Perm.trans ?_ (pairs_perm l))
    cases pairs l with
    | nil => exact List.Perm.refl _
    | cons a t => exact (pairs_perm t).cons a

theorem first16_eq (l : List Wd) (hl : l.length = 16) : first16 l = l := by
  match l, hl with
  | [a, b, c, d, e, f, g, h, i, j, k, l, m, n, o, p], _ => rfl

/-- The network's words are the list's in order: any other arrangement in order is the same list. -/
theorem sorted16_unique (l s : List Wd) (hl : l.length = 16) (hp : s.Perm l) (hs : s.Pairwise fun a b => a.toInt ≤ b.toInt) :
    sorted16 l = s := by
  unfold sorted16 sorted
  rw [first16_eq l hl]
  refine List.Perm.eq_of_pairwise (le := fun a b : Wd => a.toInt ≤ b.toInt)
    (fun a b _ _ h1 h2 => BitVec.eq_of_toInt_eq (le_antisymm h1 h2)) (pairwise_of _ fun c => ?_) hs ((network_perm 8 l).trans hp.symm)
  rw [network_map]
  exact networkB_ordered _ (by rw [List.length_map, hl])

end Cert.KernelIdeal.Model
end
-- ==== Proof.Sampling.lean ====
module

public import proofs.«01_k».proof.Proof.Ordering
public import proofs.«01_k».proof.Proof.Network

/-! The sampling of one cloud: the kernel's rounds and the reference's trips take the same rows, on any arguments. -/

@[expose] public section

set_option maxRecDepth 16384

noncomputable section

namespace Cert.KernelIdeal.Model

open Cert.KernelIdeal Cert.KernelIdeal.Gen Idealize.ShloMosaic

/-- The sampling after `n` rounds. -/
def walk (d : Wd → FVec Ideal S1024x1 .f32) (a : Samp Ideal) : ℕ → Samp Ideal
  | 0 => a
  | n + 1 => (walk d a n).next (d (walk d a n).far)

theorem walk_next (d : Wd → FVec Ideal S1024x1 .f32) (a : Samp Ideal) (n : ℕ) : walk d (a.next (d a.far)) n = walk d a (n + 1) := by
  induction n with
  | zero => rfl
  | succ n ih => rw [walk, ih]; rfl

/-- The rows taken are the farthest ones of the successive rounds. -/
theorem taken_eq (d : Wd → FVec Ideal S1024x1 .f32) (n : ℕ) (a : Samp Ideal) (p : List Wd) :
    taken d n a p = p ++ List.ofFn fun i : Fin (n + 1) => (walk d a i).far := by
  induction n generalizing a p with
  | zero => simp [taken, walk]
  | succ n ih =>
    rw [taken, ih]
    simp only [walk_next]
    rw [List.append_assoc]
    conv_rhs => rw [List.ofFn_succ]
    rfl

theorem walk_inB (d : Wd → FVec Ideal S1024x1 .f32) (a : Samp Ideal) (ha : InB a.far) (n : ℕ) : InB (walk d a n).far := by
  cases n with
  | zero => exact ha
  | succ n => rw [walk]; exact next_inB farOf_lt _ _

theorem next_far (s : Samp Ideal) (d : FVec Ideal S1024x1 .f32) : (s.next d).far = farOf (s.next d).dist := by
  simp only [Samp.next]

end Cert.KernelIdeal.Model

namespace Cert.ReferenceIdeal.Value

open Cert.ReferenceIdeal Cert.ReferenceIdeal.Gen Cert.ReferenceIdeal.Step Cert.Farthest Idealize.ShloMosaic
open Cert.KernelIdeal.Model (walk Samp farOf InB Wd)

/-- Both searches find the same row. -/
theorem topIdx_farOf (d : FVec Ideal S2x1024 .f32) (d' : FVec Ideal Cert.KernelIdeal.S1024x1 .f32) (b : Fin 2)
    (h : ∀ k : Fin 1024, d (ix2 b k) = d' (ix2 k 0)) : topIdx d (ix2 b 0) = farOf d' := by
  obtain ⟨i, hi⟩ := exists_isFirstMax (fun k : Fin 1024 => d (ix2 b k))
  rw [topIdx_eq d b i hi, Cert.KernelIdeal.Model.farOf_eq d' i (by simpa only [← h] using hi)]

/-- Trip `j` writes the farthest row into column `j`. -/
def keep (j : ℕ) (far : IVec S2x1 32) (idx : IVec S2x16 32) : IVec S2x16 32 :=
  select (broadcastInDim S2x16 ![1] bcast_S16_S2x16_1
      (cmpi .eq (iotaInDim S16 32 0) (broadcastInDim S16 ![] bcast_S_S16 (id (constantI S_ 32 (BitVec.ofNat 32 j))))))
    (broadcastInDim S2x16 ![0, 1] bcast_S2x1_S2x16_0_1 far) idx

theorem same_word (p : Fin 16) (j : ℕ) (hj : j < 16) (x y : BitVec 32) :
    Scalar.select (IntOp.cmpi .eq (BitVec.ofNat 32 p.val) (BitVec.ofNat 32 j)) x y = if p.val = j then x else y := by
  have e : (BitVec.ofNat 32 p.val = BitVec.ofNat 32 j) ↔ p.val = j := by
    constructor
    · intro h
      have := congrArg BitVec.toNat h
      rwa [BitVec.toNat_ofNat, BitVec.toNat_ofNat, Nat.mod_eq_of_lt (by omega), Nat.mod_eq_of_lt (by omega)] at this
    · intro h; rw [h]
  have e' : IntOp.cmpi .eq (BitVec.ofNat 32 p.val) (BitVec.ofNat 32 j) = if p.val = j then 1#1 else 0#1 := by
    show BitVec.ofBool (BitVec.ofNat 32 p.val == BitVec.ofNat 32 j) = _
    by_cases h : p.val = j
    · rw [if_pos h, e.2 h]; simp
    · rw [if_neg h, beq_eq_false_iff_ne.2 (fun he => h (e.1 he))]; rfl
  rw [e']
  by_cases h : p.val = j
  · rw [if_pos h, if_pos h]; rfl
  · rw [if_neg h, if_neg h]; rfl

theorem keep_at (j : ℕ) (hj : j < 16) (far : IVec S2x1 32) (idx : IVec S2x16 32) (b : Fin 2) (p : Fin 16) :
    keep j far idx (ix2 b p) = if p.val = j then far (ix2 b 0) else idx (ix2 b p) := by
  pointwise [keep]
  exact same_word p j hj _ _

/-- The reference's sampling of a cloud after `n` trips, in batch `b`, is the kernel's after `n` rounds. -/
structure Follows (b : Fin 2) (d : Wd → FVec Ideal Cert.KernelIdeal.S1024x1 .f32) (a : Samp Ideal) (n : ℕ) (idx : IVec S2x16 32)
    (dist : FVec Ideal S2x1024 .f32) (far : IVec S2x1 32) : Prop where
  dist_eq : ∀ k : Fin 1024, dist (ix2 b k) = (walk d a n).dist (ix2 k 0)
  far_eq : far (ix2 b 0) = (walk d a n).far
  idx_eq : ∀ p : Fin 16, p.val < n → idx (ix2 b p) = (walk d a p).far

/-- A trip keeps the two together, if its distances to the row taken are the kernel's. -/
theorem Follows.next {b : Fin 2} {d : Wd → FVec Ideal Cert.KernelIdeal.S1024x1 .f32} {a : Samp Ideal} {n : ℕ} {idx : IVec S2x16 32}
    {dist : FVec Ideal S2x1024 .f32} {far : IVec S2x1 32} (h : Follows b d a n idx dist far) (hn : n < 16)
    (e : FVec Ideal S2x1024 .f32) (he : ∀ k : Fin 1024, e (ix2 b k) = d (walk d a n).far (ix2 k 0)) :
    Follows b d a (n + 1) (keep n far idx) (minimumf dist e) (topIdx (minimumf dist e)) := by
  have hd : ∀ k : Fin 1024, minimumf dist e (ix2 b k) = (walk d a (n + 1)).dist (ix2 k 0) := fun k => by
    show min (dist (ix2 b k)) (e (ix2 b k)) = min ((walk d a n).dist (ix2 k 0)) (d (walk d a n).far (ix2 k 0))
    rw [h.dist_eq, he]
  have hf : topIdx (minimumf dist e) (ix2 b 0) = (walk d a (n + 1)).far := by
    rw [topIdx_farOf (minimumf dist e) (walk d a (n + 1)).dist b hd, walk, Cert.KernelIdeal.Model.next_far]
  refine ⟨hd, hf, fun p hp => ?_⟩
  rw [keep_at n hn]
  by_cases hpn : p.val = n
  · rw [if_pos hpn, h.far_eq, hpn]
  · rw [if_neg hpn, h.idx_eq p (by omega)]

/-- Sixteen trips leave in the row of batch `b` the rows the kernel's sixteen rounds take; sorted, they are the kernel's sorted ones. -/
theorem Follows.sorted {b : Fin 2} {d : Wd → FVec Ideal Cert.KernelIdeal.S1024x1 .f32} {a : Samp Ideal} {idx : IVec S2x16 32}
    {dist : FVec Ideal S2x1024 .f32} {far : IVec S2x1 32} (h : Follows b d a 16 idx dist far) :
    Cert.KernelIdeal.Model.sorted16 (Cert.KernelIdeal.Model.taken d 15 a []) = sortedRow idx b := by
  rw [Cert.KernelIdeal.Model.taken_eq, List.nil_append]
  refine Cert.KernelIdeal.Model.sorted16_unique _ _ (List.length_ofFn) ?_ (sortedRow_ordered idx b)
  refine (sortedRow_perm idx b).trans (List.Perm.of_eq ?_)
  exact congrArg List.ofFn (funext fun p => h.idx_eq p p.isLt)

end Cert.ReferenceIdeal.Value
end
-- ==== Proof.Trips.lean ====
module

public import proofs.«01_k».proof.Proof.Sampling
public import Idealize.ShloMosaic.Lib.Pipeline.Regions

/-! The reference's sixteen trips over its three clouds follow the kernel's rounds. -/

@[expose] public section

set_option maxRecDepth 16384

noncomputable section

namespace Cert.ReferenceIdeal.Value

open Cert.ReferenceIdeal Cert.ReferenceIdeal.Gen Cert.ReferenceIdeal.Step Cert.Farthest Idealize.ShloMosaic
open Cert.KernelIdeal.Model (walk Samp farOf InB Wd dist128 dist32 mean128 mean32 rowAt128 rowAt32)

/-! ### Distances -/

/-- The squared distances of a cloud's rows to a row of each batch. -/
def away128 (x : FVec Ideal S2x1024x128 .f32) (r : FVec Ideal S2x1x128 .f32) : FVec Ideal S2x1024 .f32 :=
  Host.reduceAdd (mulf (subf x (broadcastInDim S2x1024x128 ![0, 1, 2] bcast_S2x1x128_S2x1024x128_0_1_2 r))
    (subf x (broadcastInDim S2x1024x128 ![0, 1, 2] bcast_S2x1x128_S2x1024x128_0_1_2 r))) (constant S_ .f32 0x00000000#32)
    reducesTo_S2x1024x128_S2x1024_d2 h_S_

def away32 (x : FVec Ideal S2x1024x32 .f32) (r : FVec Ideal S2x1x32 .f32) : FVec Ideal S2x1024 .f32 :=
  Host.reduceAdd (mulf (subf x (broadcastInDim S2x1024x32 ![0, 1, 2] bcast_S2x1x32_S2x1024x32_0_1_2 r))
    (subf x (broadcastInDim S2x1024x32 ![0, 1, 2] bcast_S2x1x32_S2x1024x32_0_1_2 r))) (constant S_ .f32 0x00000000#32)
    reducesTo_S2x1024x32_S2x1024_d2 h_S_

/-- The mean of a cloud's rows. -/
def centre128 (x : FVec Ideal S2x1024x128 .f32) : FVec Ideal S2x1x128 .f32 :=
  Host.divf (broadcastInDim S2x1x128 ![0, 2] bcast_S2x128_S2x1x128_0_2
    (Host.reduceAdd x (constant S_ .f32 0x00000000#32) reducesTo_S2x1024x128_S2x128_d1 h_S_))
    (broadcastInDim S2x1x128 ![] bcast_S_S2x1x128 (constant S_ .f32 0x44800000#32))

def centre32 (x : FVec Ideal S2x1024x32 .f32) : FVec Ideal S2x1x32 .f32 :=
  Host.divf (broadcastInDim S2x1x32 ![0, 2] bcast_S2x32_S2x1x32_0_2
    (Host.reduceAdd x (constant S_ .f32 0x00000000#32) reducesTo_S2x1024x32_S2x32_d1 h_S_))
    (broadcastInDim S2x1x32 ![] bcast_S_S2x1x32 (constant S_ .f32 0x44800000#32))

/-- The index words that read row `far`. -/
def words128 (far : IVec S2x1 32) : IVec S2x1x128x1 32 :=
  let w := broadcastInDim S2x1x128 ![0, 1, 2] bcast_S2x1x1_S2x1x128_0_1_2 (broadcastInDim S2x1x1 ![0, 1] bcast_S2x1_S2x1x1_0_1 far)
  shapeCast S2x1x128x1 (select (cmpi .slt w (broadcastInDim S2x1x128 ![] bcast_S_S2x1x128 (constantI S_ 32 0#32)))
    (addi w (broadcastInDim S2x1x128 ![] bcast_S_S2x1x128 (constantI S_ 32 1024#32))) w) shapeCasts_S2x1x128_S2x1x128x1

def words32 (far : IVec S2x1 32) : IVec S2x1x32x1 32 :=
  let w := broadcastInDim S2x1x32 ![0, 1, 2] bcast_S2x1x1_S2x1x32_0_1_2 (broadcastInDim S2x1x1 ![0, 1] bcast_S2x1_S2x1x1_0_1 far)
  shapeCast S2x1x32x1 (select (cmpi .slt w (broadcastInDim S2x1x32 ![] bcast_S_S2x1x32 (constantI S_ 32 0#32)))
    (addi w (broadcastInDim S2x1x32 ![] bcast_S_S2x1x32 (constantI S_ 32 1024#32))) w) shapeCasts_S2x1x32_S2x1x32x1

/-- The squared distances to row `far`. -/
def near128 (x : FVec Ideal S2x1024x128 .f32) (far : IVec S2x1 32) : FVec Ideal S2x1024 .f32 :=
  away128 x (Host.gather gather_S2x1024x128_S2x1x128x1_S2x1x128_n_1_02_02_1_3_111 x (words128 far))

def near32 (x : FVec Ideal S2x1024x32 .f32) (far : IVec S2x1 32) : FVec Ideal S2x1024 .f32 :=
  away32 x (Host.gather gather_S2x1024x32_S2x1x32x1_S2x1x32_n_1_02_02_1_3_111 x (words32 far))

section

variable {x : FVec Ideal S2x1024x128 .f32} {x' : FVec Ideal Cert.KernelIdeal.S1024x128 .f32} {b : Fin 2}

theorem away128_eq (hx : ∀ n c, x (ix3 b n c) = x' (ix2 n c)) {r : FVec Ideal S2x1x128 .f32} {r' : Vec Ideal Cert.KernelIdeal.S1x128 .f32}
    (hr : ∀ c, r (ix3 b 0 c) = r' (ix2 0 c)) (k : Fin 1024) : away128 x r (ix2 b k) = dist128 x' r' (ix2 k 0) := by
  pointwise [away128, dist128, Cert.KernelIdeal.Model.sq128]
  simp only [hx, hr]

theorem centre128_eq (hx : ∀ n c, x (ix3 b n c) = x' (ix2 n c)) (c : Fin 128) : centre128 x (ix3 b 0 c) = mean128 x' (ix2 0 c) := by
  pointwise [centre128, mean128]
  simp only [hx]

theorem words128_at (far : IVec S2x1 32) (hf : InB (far (ix2 b 0))) (c : Fin 128) : words128 far (ix4 b 0 c 0) = far (ix2 b 0) := by
  pointwise [words128]
  exact wrap_word _ _ (lt_trans hf (by norm_num))

theorem near128_eq (hx : ∀ n c, x (ix3 b n c) = x' (ix2 n c)) (far : IVec S2x1 32) {w : Wd} (hw : far (ix2 b 0) = w) (hf : InB w)
    (k : Fin 1024) : near128 x far (ix2 b k) = dist128 x' (rowAt128 x' w) (ix2 k 0) := by
  subst hw
  refine away128_eq hx (fun c => ?_) k
  rw [gather_row128, hx]
  refine congrArg (fun i : Fin 1024 => x' (ix2 i c)) (Fin.ext ?_)
  show min (words128 far (ix4 b 0 c 0)).toInt.toNat 1023 = (far (ix2 b 0)).toNat % 1024
  rw [words128_at far hf, clamp_word _ hf, Nat.mod_eq_of_lt hf]

end

section

variable {x : FVec Ideal S2x1024x32 .f32} {x' : FVec Ideal Cert.KernelIdeal.S1024x32 .f32} {b : Fin 2}

theorem away32_eq (hx : ∀ n c, x (ix3 b n c) = x' (ix2 n c)) {r : FVec Ideal S2x1x32 .f32} {r' : Vec Ideal Cert.KernelIdeal.S1x32 .f32}
    (hr : ∀ c, r (ix3 b 0 c) = r' (ix2 0 c)) (k : Fin 1024) : away32 x r (ix2 b k) = dist32 x' r' (ix2 k 0) := by
  pointwise [away32, dist32, Cert.KernelIdeal.Model.sq32]
  simp only [hx, hr]

theorem centre32_eq (hx : ∀ n c, x (ix3 b n c) = x' (ix2 n c)) (c : Fin 32) : centre32 x (ix3 b 0 c) = mean32 x' (ix2 0 c) := by
  pointwise [centre32, mean32]
  simp only [hx]

theorem words32_at (far : IVec S2x1 32) (hf : InB (far (ix2 b 0))) (c : Fin 32) : words32 far (ix4 b 0 c 0) = far (ix2 b 0) := by
  pointwise [words32]
  exact wrap_word _ _ (lt_trans hf (by norm_num))

theorem near32_eq (hx : ∀ n c, x (ix3 b n c) = x' (ix2 n c)) (far : IVec S2x1 32) {w : Wd} (hw : far (ix2 b 0) = w) (hf : InB w)
    (k : Fin 1024) : near32 x far (ix2 b k) = dist32 x' (rowAt32 x' w) (ix2 k 0) := by
  subst hw
  refine away32_eq hx (fun c => ?_) k
  rw [gather_row32, hx]
  refine congrArg (fun i : Fin 1024 => x' (ix2 i c)) (Fin.ext ?_)
  show min (words32 far (ix4 b 0 c 0)).toInt.toNat 1023 = (far (ix2 b 0)).toNat % 1024
  rw [words32_at far hf, clamp_word _ hf, Nat.mod_eq_of_lt hf]

end

/-! ### The trips -/

/-- Before the first trip. -/
theorem Follows.start {b : Fin 2} {d : Wd → FVec Ideal Cert.KernelIdeal.S1024x1 .f32} {e : FVec Ideal S2x1024 .f32}
    {e' : FVec Ideal Cert.KernelIdeal.S1024x1 .f32} (h : ∀ k : Fin 1024, e (ix2 b k) = e' (ix2 k 0)) (idx : IVec S2x16 32) :
    Follows b d (Samp.start e') 0 idx (broadcastInDim S2x1024 ![] bcast_S_S2x1024 (constant S_ .f32 0x501502F9#32)) (topIdx e) := by
  refine ⟨fun k => ?_, ?_, fun _ h => absurd h (Nat.not_lt_zero _)⟩
  · rw [walk]
    simp only [Samp.start]
    pointwise
  · rw [walk]
    simp only [Samp.start]
    exact topIdx_farOf e e' b h

/-- The state after `n` trips. -/
def trips (s : State Ideal) : ℕ → State Ideal
  | 0 => s
  | n + 1 => step n (trips s n)

theorem trips_kept (s : State Ideal) (n : ℕ) : (trips s n).main_v111_2 = s.main_v111_2 ∧ (trips s n).main_v111_6 = s.main_v111_6
    ∧ (trips s n).main_v111_10 = s.main_v111_10 := by
  induction n with
  | zero => exact ⟨rfl, rfl, rfl⟩
  | succ n ih => exact ih

theorem step_lx (n : ℕ) (s : State Ideal) : (step n s).main_v111_3 = keep n s.main_v111_5 s.main_v111_3
    ∧ (step n s).main_v111_4 = minimumf s.main_v111_4 (near128 s.main_v111_2 s.main_v111_5)
    ∧ (step n s).main_v111_5 = topIdx (minimumf s.main_v111_4 (near128 s.main_v111_2 s.main_v111_5)) := by
  refine ⟨?_, ?_, ?_⟩
  · rw [step_main_v111_3]; chain_rfl
  · rw [step_main_v111_4]; chain_rfl
  · rw [step_main_v111_5]; chain_rfl

theorem step_kg (n : ℕ) (s : State Ideal) : (step n s).main_v111_7 = keep n s.main_v111_9 s.main_v111_7
    ∧ (step n s).main_v111_8 = minimumf s.main_v111_8 (near32 s.main_v111_6 s.main_v111_9)
    ∧ (step n s).main_v111_9 = topIdx (minimumf s.main_v111_8 (near32 s.main_v111_6 s.main_v111_9)) := by
  refine ⟨?_, ?_, ?_⟩
  · rw [step_main_v111_7]; chain_rfl
  · rw [step_main_v111_8]; chain_rfl
  · rw [step_main_v111_9]; chain_rfl

theorem step_vg (n : ℕ) (s : State Ideal) : (step n s).main_v111_11 = keep n s.main_v111_13 s.main_v111_11
    ∧ (step n s).main_v111_12 = minimumf s.main_v111_12 (near32 s.main_v111_10 s.main_v111_13)
    ∧ (step n s).main_v111_13 = topIdx (minimumf s.main_v111_12 (near32 s.main_v111_10 s.main_v111_13)) := by
  refine ⟨?_, ?_, ?_⟩
  · rw [step_main_v111_11]; chain_rfl
  · rw [step_main_v111_12]; chain_rfl
  · rw [step_main_v111_13]; chain_rfl

theorem start_inB (d : FVec Ideal Cert.KernelIdeal.S1024x1 .f32) : InB (Samp.start d).far := by
  simp only [Samp.start]
  exact Cert.KernelIdeal.Model.farOf_lt d

/-- The cloud of 128 columns. -/
theorem follows_lx {b : Fin 2} {x' : FVec Ideal Cert.KernelIdeal.S1024x128 .f32} (s : State Ideal)
    (hx : ∀ n c, s.main_v111_2 (ix3 b n c) = x' (ix2 n c))
    (h0 : Follows b (fun w => dist128 x' (rowAt128 x' w)) (Samp.start (dist128 x' (mean128 x'))) 0 s.main_v111_3 s.main_v111_4 s.main_v111_5)
    (n : ℕ) (hn : n ≤ 16) : Follows b (fun w => dist128 x' (rowAt128 x' w)) (Samp.start (dist128 x' (mean128 x'))) n
      (trips s n).main_v111_3 (trips s n).main_v111_4 (trips s n).main_v111_5 := by
  induction n with
  | zero => exact h0
  | succ n ih =>
    have ih := ih (by omega)
    obtain ⟨e1, e2, e3⟩ := step_lx n (trips s n)
    rw [trips, e1, e2, e3, (trips_kept s n).1]
    exact ih.next (by omega) _ fun k => near128_eq hx _ ih.far_eq (Cert.KernelIdeal.Model.walk_inB _ _ (start_inB _) n) k

theorem follows_kg {b : Fin 2} {x' : FVec Ideal Cert.KernelIdeal.S1024x32 .f32} (s : State Ideal)
    (hx : ∀ n c, s.main_v111_6 (ix3 b n c) = x' (ix2 n c))
    (h0 : Follows b (fun w => dist32 x' (rowAt32 x' w)) (Samp.start (dist32 x' (mean32 x'))) 0 s.main_v111_7 s.main_v111_8 s.main_v111_9)
    (n : ℕ) (hn : n ≤ 16) : Follows b (fun w => dist32 x' (rowAt32 x' w)) (Samp.start (dist32 x' (mean32 x'))) n
      (trips s n).main_v111_7 (trips s n).main_v111_8 (trips s n).main_v111_9 := by
  induction n with
  | zero => exact h0
  | succ n ih =>
    have ih := ih (by omega)
    obtain ⟨e1, e2, e3⟩ := step_kg n (trips s n)
    rw [trips, e1, e2, e3, (trips_kept s n).2.1]
    exact ih.next (by omega) _ fun k => near32_eq hx _ ih.far_eq (Cert.KernelIdeal.Model.walk_inB _ _ (start_inB _) n) k

theorem follows_vg {b : Fin 2} {x' : FVec Ideal Cert.KernelIdeal.S1024x32 .f32} (s : State Ideal)
    (hx : ∀ n c, s.main_v111_10 (ix3 b n c) = x' (ix2 n c))
    (h0 : Follows b (fun w => dist32 x' (rowAt32 x' w)) (Samp.start (dist32 x' (mean32 x'))) 0 s.main_v111_11 s.main_v111_12 s.main_v111_13)
    (n : ℕ) (hn : n ≤ 16) : Follows b (fun w => dist32 x' (rowAt32 x' w)) (Samp.start (dist32 x' (mean32 x'))) n
      (trips s n).main_v111_11 (trips s n).main_v111_12 (trips s n).main_v111_13 := by
  induction n with
  | zero => exact h0
  | succ n ih =>
    have ih := ih (by omega)
    obtain ⟨e1, e2, e3⟩ := step_vg n (trips s n)
    rw [trips, e1, e2, e3, (trips_kept s n).2.2]
    exact ih.next (by omega) _ fun k => near32_eq hx _ ih.far_eq (Cert.KernelIdeal.Model.walk_inB _ _ (start_inB _) n) k

end Cert.ReferenceIdeal.Value
end
-- ==== Proof.LocalKernel.lean ====
module

public import proofs.«01_k».proof.Proof.KernelModel
public import proofs.«01_k».proof.Proof.Spec

/-! The kernel's local attention, of real arguments, is the attention on real numbers. -/

@[expose] public section

set_option maxRecDepth 16384

noncomputable section

namespace Cert.KernelIdeal.Model

open Cert.KernelIdeal Cert.KernelIdeal.Gen Cert.RealLift Cert.Spec Idealize.ShloMosaic

/-- Sixteen columns side by side, read at an index. -/
theorem concat_cols (f : Fin 16 → FVec Ideal S1024x1 .f32) (h) (n : Fin 1024) (m : Fin 16) :
    concatenate S1024x16 1 [⟨S1024x1, f 0⟩, ⟨S1024x1, f 1⟩, ⟨S1024x1, f 2⟩, ⟨S1024x1, f 3⟩, ⟨S1024x1, f 4⟩, ⟨S1024x1, f 5⟩,
      ⟨S1024x1, f 6⟩, ⟨S1024x1, f 7⟩, ⟨S1024x1, f 8⟩, ⟨S1024x1, f 9⟩, ⟨S1024x1, f 10⟩, ⟨S1024x1, f 11⟩, ⟨S1024x1, f 12⟩,
      ⟨S1024x1, f 13⟩, ⟨S1024x1, f 14⟩, ⟨S1024x1, f 15⟩] h (ix2 n m) = f m (ix2 n 0) := by
  refine (concatenate_ofFn_unit_apply' (s₁ := S1024x1) (t := S1024x16) 1 f h rfl (ix2 n m)).trans ?_
  refine congrArg (f m) ?_
  funext b
  fin_cases b <;> rfl

/-- Sixteen rows one under another, read at an index. -/
theorem concat_rows64 (f : Fin 16 → FVec Ideal S1x64 .f32) (h) (m : Fin 16) (l : Fin 64) :
    concatenate S16x64 0 [⟨S1x64, f 0⟩, ⟨S1x64, f 1⟩, ⟨S1x64, f 2⟩, ⟨S1x64, f 3⟩, ⟨S1x64, f 4⟩, ⟨S1x64, f 5⟩,
      ⟨S1x64, f 6⟩, ⟨S1x64, f 7⟩, ⟨S1x64, f 8⟩, ⟨S1x64, f 9⟩, ⟨S1x64, f 10⟩, ⟨S1x64, f 11⟩, ⟨S1x64, f 12⟩,
      ⟨S1x64, f 13⟩, ⟨S1x64, f 14⟩, ⟨S1x64, f 15⟩] h (ix2 m l) = f m (ix2 0 l) := by
  refine (concatenate_ofFn_unit_apply' (s₁ := S1x64) (t := S16x64) 0 f h rfl (ix2 m l)).trans ?_
  refine congrArg (f m) ?_
  funext b
  fin_cases b <;> rfl

theorem lxIn_coe {x : Vec Ideal S1x1024x4 .f32} {w : Vec Ideal S4x128 .f32} {X : Fin 1024 → Fin 4 → ℝ} {W : Fin 4 → Fin 128 → ℝ}
    (hx : ∀ n f, x (ix3 0 n f) = ((X n f : ℝ) : EReal)) (hw : ∀ i j, w (ix2 i j) = ((W i j : ℝ) : EReal)) (n : Fin 1024) (j : Fin 128) :
    lxIn (evOf x) w (ix2 n j) = ((mm X W n j : ℝ) : EReal) := by
  pointwise [lxIn, evOf]
  simp only [hx, hw, ← EReal.coe_mul, coe_sum]
  rfl

theorem peOf_coe {x : Vec Ideal S1x1024x4 .f32} {w : Vec Ideal S4x32 .f32} {X : Fin 1024 → Fin 4 → ℝ} {W : Fin 4 → Fin 32 → ℝ}
    (hx : ∀ n f, x (ix3 0 n f) = ((X n f : ℝ) : EReal)) (hw : ∀ i j, w (ix2 i j) = ((W i j : ℝ) : EReal)) (n : Fin 1024) (j : Fin 32) :
    peOf (evOf x) w (ix2 n j) = ((mm X W n j : ℝ) : EReal) := by
  pointwise [peOf, evOf]
  simp only [hx, hw, ← EReal.coe_mul, coe_sum]
  rfl

theorem proj_coe {x : FVec Ideal S1024x128 .f32} {w : Vec Ideal S128x32 .f32} {X : Fin 1024 → Fin 128 → ℝ} {W : Fin 128 → Fin 32 → ℝ}
    (hx : ∀ n f, x (ix2 n f) = ((X n f : ℝ) : EReal)) (hw : ∀ i j, w (ix2 i j) = ((W i j : ℝ) : EReal)) (n : Fin 1024) (j : Fin 32) :
    proj x w (ix2 n j) = ((mm X W n j : ℝ) : EReal) := by
  pointwise [proj]
  simp only [hx, hw, ← EReal.coe_mul, coe_sum]
  rfl

section

variable {k pe v : FVec Ideal S1024x32 .f32} {sa1 : Vec Ideal S32x1 .f32} {K PE V : Fin 1024 → Fin 32 → ℝ} {A : Fin 32 → Fin 1 → ℝ}

theorem wOf_coe (hk : ∀ n c, k (ix2 n c) = ((K n c : ℝ) : EReal)) (hpe : ∀ n c, pe (ix2 n c) = ((PE n c : ℝ) : EReal))
    (ha : ∀ i j, sa1 (ix2 i j) = ((A i j : ℝ) : EReal)) (n : Fin 1024) :
    wOf k pe sa1 (ix2 n 0) = ((score K PE A n : ℝ) : EReal) := by
  pointwise [wOf]
  simp only [hk, hpe, ha, ← EReal.coe_add, ← EReal.coe_mul, coe_sum]
  rfl

theorem shift_coe {w : FVec Ideal S1024x1 .f32} {W : Fin 1024 → ℝ} (hw : ∀ n, w (ix2 n 0) = ((W n : ℝ) : EReal)) (n : Fin 1024)
    (m : Fin 16) : shift (padded w) m (ix2 n 0) = ((win W n m : ℝ) : EReal) := by
  pointwise [shift, padded]
  unfold win
  split
  · simp
  · split
    · exact hw _
    · simp

theorem saOf_coe {w : FVec Ideal S1024x1 .f32} {W : Fin 1024 → ℝ} (hw : ∀ n, w (ix2 n 0) = ((W n : ℝ) : EReal)) (n : Fin 1024)
    (m : Fin 16) : saOf w (ix2 n m) = ((-win W n m : ℝ) : EReal) := by
  have h : saOf w (ix2 n m) = (Ideal.ofBits .f32 0x00000000#32 : EReal) - shift (padded w) m (ix2 n 0) :=
    congrArg (fun z : EReal => (Ideal.ofBits .f32 0x00000000#32 : EReal) - z) (concat_cols (fun m => shift (padded w) m) _ n m)
  rw [h, shift_coe hw]
  simp

theorem scores_coe {sa : FVec Ideal S1024x16 .f32} {S : Fin 1024 → Fin 16 → ℝ} (h : ∀ n m, sa (ix2 n m) = ((S n m : ℝ) : EReal))
    (n : Fin 1024) (m : Fin 16) : scores sa (ix2 n m) = ((sm (S n) m : ℝ) : EReal) := by
  pointwise [scores, expOf]
  simp only [h, RealLift.neg_inf]
  exact softmax_coe (S n) m

end

section

variable {x : FVec Ideal S1024x64 .f32} {X : Fin 1024 → Fin 64 → ℝ}

theorem pref_coe (hx : ∀ n l, x (ix2 n l) = ((X n l : ℝ) : EReal)) (p : ℕ) (l : Fin 64) :
    pref x p (ix2 0 l) = ((prefR (fun n => X n l) p : ℝ) : EReal) := by
  induction p with
  | zero => pointwise [pref]; simp [prefR]
  | succ p ih =>
    rw [pref, prefR, EReal.coe_add, ← ih, ← hx]
    pointwise [row64]

theorem suf_coe (hx : ∀ n l, x (ix2 n l) = ((X n l : ℝ) : EReal)) (p : ℕ) (l : Fin 64) :
    suf x p (ix2 0 l) = ((sufR (fun n => X n l) p : ℝ) : EReal) := by
  induction p with
  | zero => pointwise [suf]; simp [sufR]
  | succ p ih =>
    rw [suf, sufR, EReal.coe_add, ← ih, ← hx]
    pointwise [row64]

theorem total64_coe (hx : ∀ n l, x (ix2 n l) = ((X n l : ℝ) : EReal)) (l : Fin 64) :
    total64 x (ix2 0 l) = ((∑ n, X n l : ℝ) : EReal) := by
  pointwise [total64]
  simp only [hx, coe_sum]

/-- Row `m` of the window sums. -/
def winsRow (x : FVec Ideal S1024x64 .f32) (m : Fin 16) : FVec Ideal S1x64 .f32 :=
  subf (total64 x) (if m.val < 8 then suf x (8 - m.val) else pref x (m.val - 8))

theorem wins_coe (hx : ∀ n l, x (ix2 n l) = ((X n l : ℝ) : EReal)) (m : Fin 16) (l : Fin 64) :
    wins x (ix2 m l) = ((∑ n, win (fun i => X i l) n m : ℝ) : EReal) := by
  have h : wins x (ix2 m l) = winsRow x m (ix2 0 l) := concat_rows64 (winsRow x) _ m l
  rw [h]
  show total64 x (ix2 0 l) - (if m.val < 8 then suf x (8 - m.val) else pref x (m.val - 8)) (ix2 0 l) = _
  rw [total64_coe hx]
  by_cases hm : m.val < 8
  · rw [if_pos hm, suf_coe hx, sum_win_low _ _ hm, EReal.coe_sub]
  · rw [if_neg hm, pref_coe hx, sum_win_high _ _ hm, EReal.coe_sub]

end

/-- Two blocks of columns side by side. -/
def beside (V PE : Fin 1024 → Fin 32 → ℝ) (n : Fin 1024) (l : Fin 64) : ℝ :=
  if h : l.val < 32 then V n ⟨l.val, h⟩ else PE n ⟨l.val - 32, by omega⟩

theorem both_coe {v pe : FVec Ideal S1024x32 .f32} {V PE : Fin 1024 → Fin 32 → ℝ}
    (hv : ∀ n c, v (ix2 n c) = ((V n c : ℝ) : EReal)) (hpe : ∀ n c, pe (ix2 n c) = ((PE n c : ℝ) : EReal)) (n : Fin 1024)
    (l : Fin 64) : both v pe (ix2 n l) = ((beside V PE n l : ℝ) : EReal) := by
  unfold both beside
  pointwise
  split
  · exact hv _ _
  · exact hpe _ _

theorem slOf_coe {v pe : FVec Ideal S1024x32 .f32} {V PE : Fin 1024 → Fin 32 → ℝ}
    (hv : ∀ n c, v (ix2 n c) = ((V n c : ℝ) : EReal)) (hpe : ∀ n c, pe (ix2 n c) = ((PE n c : ℝ) : EReal)) (m : Fin 16)
    (c : Fin 32) : slOf v pe (ix2 m c) = ((sums V PE m c : ℝ) : EReal) := by
  unfold slOf
  pointwise
  have e1 : (fun i => beside V PE i ⟨c.val, by omega⟩) = fun i => V i c := by
    funext i; unfold beside; rw [dif_pos c.isLt]
  have e2 : (fun i => beside V PE i ⟨32 + c.val, by omega⟩) = fun i => PE i c := by
    funext i; unfold beside; rw [dif_neg (by simp)]; exact congrArg (PE i) (Fin.ext (by simp))
  rw [wins_coe (both_coe hv hpe), wins_coe (both_coe hv hpe), e1, e2]
  simp only [hpe, coe_sum, ← EReal.coe_add, ← EReal.coe_sub]
  rfl

/-- The kernel's local attention of real arguments. -/
theorem lxOut_coe {x : Vec Ideal S1x1024x4 .f32} {pe0 : Vec Ideal S4x32 .f32} {mlp1 : Vec Ideal S4x128 .f32}
    {lk lv : Vec Ideal S128x32 .f32} {sa1 : Vec Ideal S32x1 .f32} {sa2 : Vec Ideal S32x128 .f32}
    {X : Fin 1024 → Fin 4 → ℝ} {P : Fin 4 → Fin 32 → ℝ} {M : Fin 4 → Fin 128 → ℝ} {K V : Fin 128 → Fin 32 → ℝ}
    {A : Fin 32 → Fin 1 → ℝ} {B : Fin 32 → Fin 128 → ℝ}
    (hx : ∀ n f, x (ix3 0 n f) = ((X n f : ℝ) : EReal)) (hp : ∀ i j, pe0 (ix2 i j) = ((P i j : ℝ) : EReal))
    (hm : ∀ i j, mlp1 (ix2 i j) = ((M i j : ℝ) : EReal)) (hk : ∀ i j, lk (ix2 i j) = ((K i j : ℝ) : EReal))
    (hv : ∀ i j, lv (ix2 i j) = ((V i j : ℝ) : EReal)) (ha : ∀ i j, sa1 (ix2 i j) = ((A i j : ℝ) : EReal))
    (hb : ∀ i j, sa2 (ix2 i j) = ((B i j : ℝ) : EReal)) (n : Fin 1024) (j : Fin 128) :
    lxOut x pe0 mlp1 lk lv sa1 sa2 (ix2 n j) = ((Spec.lxOut X P M K V A B n j : ℝ) : EReal) := by
  have h1 := lxIn_coe hx hm
  have h2 := peOf_coe hx hp
  have h3 := scores_coe (saOf_coe (wOf_coe (proj_coe h1 hk) h2 ha))
  have h4 := slOf_coe (proj_coe h1 hv) h2
  unfold lxOut
  pointwise
  simp only [h1, h3, h4, hb, ← EReal.coe_mul, coe_sum, ← EReal.coe_add]
  rfl

end Cert.KernelIdeal.Model
end
-- ==== Proof.GlobalKernel.lean ====
module

public import proofs.«01_k».proof.Proof.LocalKernel
public import proofs.«01_k».proof.Proof.KernelRun

/-! The global attention on real numbers, and the kernel's. -/

@[expose] public section

set_option maxRecDepth 16384

noncomputable section

namespace Cert.Spec

open Cert.RealLift

/-! ### The global attention on real numbers -/

section

variable (X : Fin 1024 → Fin 128 → ℝ) (EF : Fin 16 → Fin 128 → ℝ) (KM VM : Fin 16 → Fin 32 → ℝ) (G : Fin 128 → Fin 32 → ℝ)
  (A : Fin 32 → Fin 1 → ℝ)

/-- The weights of the sixteen rows taken: the same for every query. -/
def gWeights (m : Fin 16) : ℝ := sm (fun m => -∑ c, (KM m c + mm EF G m c) * A c 0) m

/-- The values summed over the queries. -/
def gSums (m : Fin 16) (c : Fin 32) : ℝ := 1024 * VM m c + ∑ f, (∑ n, X n f - 1024 * EF m f) * G f c

/-- The attention's row. -/
def gRow (c : Fin 32) : ℝ := ∑ m, gWeights EF KM G A m * gSums X EF VM G m c

/-- A query's offset to a row taken, projected. -/
def gOff (n : Fin 1024) (m : Fin 16) (c : Fin 32) : ℝ := ∑ f, (X n f - EF m f) * G f c

/-- A query and its position add the same to every logit. -/
theorem gWeights_eq (Q : Fin 1024 → Fin 32 → ℝ) (n : Fin 1024) (m : Fin 16) :
    sm (fun m => ∑ c, (Q n c - KM m c + gOff X EF G n m c) * A c 0) m = gWeights EF KM G A m := by
  unfold gWeights
  rw [← sm_shift (∑ c, (Q n c + mm X G n c) * A c 0) (fun m => -∑ c, (KM m c + mm EF G m c) * A c 0)]
  refine congrArg (fun f => sm f m) (funext fun m => ?_)
  rw [← sub_eq_add_neg, ← Finset.sum_sub_distrib]
  refine Finset.sum_congr rfl fun c _ => ?_
  have e : gOff X EF G n m c = mm X G n c - mm EF G m c := by
    unfold gOff mm
    rw [← Finset.sum_sub_distrib]
    exact Finset.sum_congr rfl fun f _ => by ring
  rw [e]
  ring

/-- The values summed over the queries first. -/
theorem gRow_eq (s : Fin 16 → ℝ) (c : Fin 32) :
    ∑ i, ∑ m, s m * (VM m c + gOff X EF G i m c) = ∑ m, s m * gSums X EF VM G m c := by
  rw [Finset.sum_comm]
  refine Finset.sum_congr rfl fun m _ => ?_
  rw [← Finset.mul_sum]
  refine congrArg (s m * ·) ?_
  unfold gSums gOff
  rw [Finset.sum_add_distrib, Finset.sum_comm, Finset.sum_const, Finset.card_univ, Fintype.card_fin, nsmul_eq_mul]
  refine congrArg₂ (· + ·) (by norm_num) (Finset.sum_congr rfl fun f _ => ?_)
  rw [← Finset.sum_mul, Finset.sum_sub_distrib, Finset.sum_const, Finset.card_univ, Fintype.card_fin, nsmul_eq_mul]
  norm_num

end

end Cert.Spec

namespace Cert.KernelIdeal.Model

open Cert.KernelIdeal Cert.KernelIdeal.Gen Cert.RealLift Cert.Spec Idealize.ShloMosaic

/-! ### The rows taken -/

theorem concat_rows128 (f : Fin 16 → FVec Ideal S1x128 .f32) (h) (m : Fin 16) (l : Fin 128) :
    concatenate S16x128 0 [⟨S1x128, f 0⟩, ⟨S1x128, f 1⟩, ⟨S1x128, f 2⟩, ⟨S1x128, f 3⟩, ⟨S1x128, f 4⟩, ⟨S1x128, f 5⟩,
      ⟨S1x128, f 6⟩, ⟨S1x128, f 7⟩, ⟨S1x128, f 8⟩, ⟨S1x128, f 9⟩, ⟨S1x128, f 10⟩, ⟨S1x128, f 11⟩, ⟨S1x128, f 12⟩,
      ⟨S1x128, f 13⟩, ⟨S1x128, f 14⟩, ⟨S1x128, f 15⟩] h (ix2 m l) = f m (ix2 0 l) := by
  refine (concatenate_ofFn_unit_apply' (s₁ := S1x128) (t := S16x128) 0 f h rfl (ix2 m l)).trans ?_
  refine congrArg (f m) ?_
  funext b
  fin_cases b <;> rfl

theorem concat_rows32 (f : Fin 16 → FVec Ideal S1x32 .f32) (h) (m : Fin 16) (l : Fin 32) :
    concatenate S16x32 0 [⟨S1x32, f 0⟩, ⟨S1x32, f 1⟩, ⟨S1x32, f 2⟩, ⟨S1x32, f 3⟩, ⟨S1x32, f 4⟩, ⟨S1x32, f 5⟩,
      ⟨S1x32, f 6⟩, ⟨S1x32, f 7⟩, ⟨S1x32, f 8⟩, ⟨S1x32, f 9⟩, ⟨S1x32, f 10⟩, ⟨S1x32, f 11⟩, ⟨S1x32, f 12⟩,
      ⟨S1x32, f 13⟩, ⟨S1x32, f 14⟩, ⟨S1x32, f 15⟩] h (ix2 m l) = f m (ix2 0 l) := by
  refine (concatenate_ofFn_unit_apply' (s₁ := S1x32) (t := S16x32) 0 f h rfl (ix2 m l)).trans ?_
  refine congrArg (f m) ?_
  funext b
  fin_cases b <;> rfl

theorem getD_map {α β : Type} (f : α → β) (l : List α) (i : ℕ) (hi : i < l.length) (d : β) (d' : α) :
    (l.map f).getD i d = f (l.getD i d') := by
  simp [List.getD_eq_getElem?_getD, List.getElem?_map, List.getElem?_eq_getElem hi]

theorem stack128_at (l : List (Vec Ideal S1x128 .f32)) (m : Fin 16) (c : Fin 128) :
    stack128 l (ix2 m c) = l.getD m (broadcast S1x128 (Scalar.ofBits (F := Ideal) .f32 0x00000000#32)) (ix2 0 c) :=
  concat_rows128 (fun i => l.getD i (broadcast S1x128 (Scalar.ofBits (F := Ideal) .f32 0x00000000#32)))
    concatenates_S1x128_S1x128_S1x128_S1x128_S1x128_S1x128_S1x128_S1x128_S1x128_S1x128_S1x128_S1x128_S1x128_S1x128_S1x128_S1x128_S16x128_d0 m c

theorem stack32_at (l : List (Vec Ideal S1x32 .f32)) (m : Fin 16) (c : Fin 32) :
    stack32 l (ix2 m c) = l.getD m (broadcast S1x32 (Scalar.ofBits (F := Ideal) .f32 0x00000000#32)) (ix2 0 c) :=
  concat_rows32 (fun i => l.getD i (broadcast S1x32 (Scalar.ofBits (F := Ideal) .f32 0x00000000#32)))
    concatenates_S1x32_S1x32_S1x32_S1x32_S1x32_S1x32_S1x32_S1x32_S1x32_S1x32_S1x32_S1x32_S1x32_S1x32_S1x32_S1x32_S16x32_d0 m c

/-- Row `m` of the rows taken. -/
theorem picked128_at (x : FVec Ideal S1024x128 .f32) (m : Fin 16) (c : Fin 128) :
    picked128 x (ix2 m c) = x (ix2 (Fin.ofNat 1024 (nth (sorted16 (taken128 x)) m).toNat) c) := by
  unfold picked128
  rw [stack128_at, getD_map (rowAt128 x) _ m.val (by rw [sorted16_length]; exact m.isLt) _ 0]
  rfl

theorem picked32_at (x : FVec Ideal S1024x32 .f32) (m : Fin 16) (c : Fin 32) :
    picked32 x (ix2 m c) = x (ix2 (Fin.ofNat 1024 (nth (sorted16 (taken32 x)) m).toNat) c) := by
  unfold picked32
  rw [stack32_at, getD_map (rowAt32 x) _ m.val (by rw [sorted16_length]; exact m.isLt) _ 0]
  rfl

/-! ### The attention -/

section

variable {x : FVec Ideal S1024x128 .f32} {ef : FVec Ideal S16x128 .f32} {km vm : FVec Ideal S16x32 .f32} {gpe : Vec Ideal S128x32 .f32}
  {gsa1 : Vec Ideal S32x1 .f32} {X : Fin 1024 → Fin 128 → ℝ} {EF : Fin 16 → Fin 128 → ℝ} {KM VM : Fin 16 → Fin 32 → ℝ}
  {G : Fin 128 → Fin 32 → ℝ} {A : Fin 32 → Fin 1 → ℝ}

/-- A second coordinate of one value changes no softmax. -/
theorem sm_pair (B : Fin 16 → ℝ) (m : Fin 16) : sm (fun i : Fin 16 × Fin 1 => B i.1) (m, 0) = sm B m := by
  have e : rmax (fun i : Fin 16 × Fin 1 => B i.1) = rmax B := by
    obtain ⟨i, hi⟩ := rmax_mem B
    obtain ⟨j, hj⟩ := rmax_mem fun i : Fin 16 × Fin 1 => B i.1
    refine le_antisymm ?_ ?_
    · rw [hj]; exact le_rmax B j.1
    · rw [hi]; exact le_rmax (fun i : Fin 16 × Fin 1 => B i.1) (i, 0)
  simp only [sm, e, Fintype.sum_prod_type, Finset.univ_unique, Finset.sum_singleton]

theorem softmax16_coe {b : FVec Ideal S16x1 .f32} {B : Fin 16 → ℝ} (hb : ∀ m, b (ix2 m 0) = ((B m : ℝ) : EReal)) (m : Fin 16) :
    softmax16 b (ix2 m 0) = ((sm B m : ℝ) : EReal) := by
  pointwise [softmax16, lessMax]
  simp only [hb, RealLift.neg_inf]
  have h := softmax_coe (fun i : Fin 16 × Fin 1 => B i.1) (m, 0)
  rw [sm_pair, Fintype.sum_prod_type] at h
  exact h

theorem sgOf_coe (hef : ∀ m f, ef (ix2 m f) = ((EF m f : ℝ) : EReal)) (hkm : ∀ m c, km (ix2 m c) = ((KM m c : ℝ) : EReal))
    (hg : ∀ f c, gpe (ix2 f c) = ((G f c : ℝ) : EReal)) (ha : ∀ i j, gsa1 (ix2 i j) = ((A i j : ℝ) : EReal)) (m : Fin 16) :
    sgOf ef km gpe gsa1 (ix2 m 0) = ((gWeights EF KM G A m : ℝ) : EReal) := by
  unfold sgOf gWeights
  refine softmax16_coe (fun m => ?_) m
  pointwise
  simp only [hef, hkm, hg, ha, ← EReal.coe_mul, coe_sum, ← EReal.coe_add]
  simp [mm]

theorem sGlob_coe (hx : ∀ n f, x (ix2 n f) = ((X n f : ℝ) : EReal)) (hef : ∀ m f, ef (ix2 m f) = ((EF m f : ℝ) : EReal))
    (hvm : ∀ m c, vm (ix2 m c) = ((VM m c : ℝ) : EReal)) (hg : ∀ f c, gpe (ix2 f c) = ((G f c : ℝ) : EReal)) (m : Fin 16) (c : Fin 32) :
    sGlob x ef vm gpe (ix2 m c) = ((gSums X EF VM G m c : ℝ) : EReal) := by
  pointwise [sGlob]
  simp only [hx, hef, hvm, hg, w1024, ← EReal.coe_mul, coe_sum, ← EReal.coe_sub, ← EReal.coe_add]
  rfl

theorem gRow_at (hx : ∀ n f, x (ix2 n f) = ((X n f : ℝ) : EReal)) (hef : ∀ m f, ef (ix2 m f) = ((EF m f : ℝ) : EReal))
    (hkm : ∀ m c, km (ix2 m c) = ((KM m c : ℝ) : EReal)) (hvm : ∀ m c, vm (ix2 m c) = ((VM m c : ℝ) : EReal))
    (hg : ∀ f c, gpe (ix2 f c) = ((G f c : ℝ) : EReal)) (ha : ∀ i j, gsa1 (ix2 i j) = ((A i j : ℝ) : EReal))
    (gsa2 : Vec Ideal S32x128 .f32) (j : Fin 128) :
    gRow (sgOf ef km gpe gsa1) (sGlob x ef vm gpe) gsa2 (ix2 0 j) = ∑ c, ((Spec.gRow X EF KM VM G A c : ℝ) : EReal) * gsa2 (ix2 c j) := by
  pointwise [gRow]
  simp only [sgOf_coe hef hkm hg ha, sGlob_coe hx hef hvm hg, ← EReal.coe_mul, coe_sum]
  rfl

end

end Cert.KernelIdeal.Model
end
-- ==== Proof.GlobalReference.lean ====
module

public import proofs.«01_k».proof.Proof.LocalReference
public import proofs.«01_k».proof.Proof.Trips
public import proofs.«01_k».proof.Proof.GlobalKernel

/-! The reference's global attention, of real clouds and the rows its trips take. -/

@[expose] public section

set_option maxRecDepth 16384

noncomputable section

namespace Cert.ReferenceIdeal.Value

open Cert.ReferenceIdeal Cert.ReferenceIdeal.Gen Cert.ReferenceIdeal.Step Cert.RealLift Cert.Spec Idealize.ShloMosaic
open Cert.KernelIdeal.Model (InB)

/-- The index words that read the rows listed. -/
def rowWords128 (idx : IVec S2x16 32) : IVec S2x16x128x1 32 :=
  let w := broadcastInDim S2x16x128 ![0, 1, 2] bcast_S2x16x1_S2x16x128_0_1_2
    (broadcastInDim S2x16x1 ![0, 1] bcast_S2x16_S2x16x1_0_1 (Host.sort S2x16 1 comparator_i32_d1 idx))
  shapeCast S2x16x128x1 (select (cmpi .slt w (broadcastInDim S2x16x128 ![] bcast_S_S2x16x128 (constantI S_ 32 0#32)))
    (addi w (broadcastInDim S2x16x128 ![] bcast_S_S2x16x128 (constantI S_ 32 1024#32))) w) shapeCasts_S2x16x128_S2x16x128x1

def rowWords32 (idx : IVec S2x16 32) : IVec S2x16x32x1 32 :=
  let w := broadcastInDim S2x16x32 ![0, 1, 2] bcast_S2x16x1_S2x16x32_0_1_2
    (broadcastInDim S2x16x1 ![0, 1] bcast_S2x16_S2x16x1_0_1 (Host.sort S2x16 1 comparator_i32_d1 idx))
  shapeCast S2x16x32x1 (select (cmpi .slt w (broadcastInDim S2x16x32 ![] bcast_S_S2x16x32 (constantI S_ 32 0#32)))
    (addi w (broadcastInDim S2x16x32 ![] bcast_S_S2x16x32 (constantI S_ 32 1024#32))) w) shapeCasts_S2x16x32_S2x16x32x1

theorem rowWords128_at (idx : IVec S2x16 32) (b : Fin 2) (m : Fin 16) (c : Fin 128)
    (h : InB (Host.sort S2x16 1 comparator_i32_d1 idx (ix2 b m))) :
    rowWords128 idx (ix4 b m c 0) = Host.sort S2x16 1 comparator_i32_d1 idx (ix2 b m) := by
  unfold rowWords128
  generalize Host.sort S2x16 1 comparator_i32_d1 idx = s at h ⊢
  pointwise
  exact wrap_word _ _ (lt_trans h (by norm_num))

theorem rowWords32_at (idx : IVec S2x16 32) (b : Fin 2) (m : Fin 16) (c : Fin 32)
    (h : InB (Host.sort S2x16 1 comparator_i32_d1 idx (ix2 b m))) :
    rowWords32 idx (ix4 b m c 0) = Host.sort S2x16 1 comparator_i32_d1 idx (ix2 b m) := by
  unfold rowWords32
  generalize Host.sort S2x16 1 comparator_i32_d1 idx = s at h ⊢
  pointwise
  exact wrap_word _ _ (lt_trans h (by norm_num))

/-- The rows listed, in order. -/
def rows128 (x : FVec Ideal S2x1024x128 .f32) (idx : IVec S2x16 32) : FVec Ideal S2x16x128 .f32 :=
  Host.gather gather_S2x1024x128_S2x16x128x1_S2x16x128_n_1_02_02_1_3_111 x (rowWords128 idx)

def rows32 (x : FVec Ideal S2x1024x32 .f32) (idx : IVec S2x16 32) : FVec Ideal S2x16x32 .f32 :=
  Host.gather gather_S2x1024x32_S2x16x32x1_S2x16x32_n_1_02_02_1_3_111 x (rowWords32 idx)

theorem rows128_at (x : FVec Ideal S2x1024x128 .f32) (idx : IVec S2x16 32) (b : Fin 2) (m : Fin 16) (c : Fin 128)
    (h : InB (Host.sort S2x16 1 comparator_i32_d1 idx (ix2 b m))) :
    rows128 x idx (ix3 b m c) = x (ix3 b (Fin.ofNat 1024 (Host.sort S2x16 1 comparator_i32_d1 idx (ix2 b m)).toNat) c) := by
  unfold rows128
  rw [gather_rows128]
  refine congrArg (fun i : Fin 1024 => x (ix3 b i c)) (Fin.ext ?_)
  show min (rowWords128 idx (ix4 b m c 0)).toInt.toNat 1023 = (Host.sort S2x16 1 comparator_i32_d1 idx (ix2 b m)).toNat % 1024
  rw [rowWords128_at idx b m c h, clamp_word _ h, Nat.mod_eq_of_lt h]

theorem rows32_at (x : FVec Ideal S2x1024x32 .f32) (idx : IVec S2x16 32) (b : Fin 2) (m : Fin 16) (c : Fin 32)
    (h : InB (Host.sort S2x16 1 comparator_i32_d1 idx (ix2 b m))) :
    rows32 x idx (ix3 b m c) = x (ix3 b (Fin.ofNat 1024 (Host.sort S2x16 1 comparator_i32_d1 idx (ix2 b m)).toNat) c) := by
  unfold rows32
  rw [gather_rows32]
  refine congrArg (fun i : Fin 1024 => x (ix3 b i c)) (Fin.ext ?_)
  show min (rowWords32 idx (ix4 b m c 0)).toInt.toNat 1023 = (Host.sort S2x16 1 comparator_i32_d1 idx (ix2 b m)).toNat % 1024
  rw [rowWords32_at idx b m c h, clamp_word _ h, Nat.mod_eq_of_lt h]

/-! ### The attention -/

/-- Sixteen rows before every query. -/
def every (v : FVec Ideal S2x16x32 .f32) : FVec Ideal S2x1024x16x32 .f32 :=
  broadcastInDim S2x1024x16x32 ![0, 1, 2, 3] bcast_S2x1x16x32_S2x1024x16x32_0_1_2_3
    (broadcastInDim S2x1x16x32 ![0, 2, 3] bcast_S2x16x32_S2x1x16x32_0_2_3 v)

/-- Each query less each row taken, projected. -/
def gOffsets (x : FVec Ideal S2x1024x128 .f32) (ef : FVec Ideal S2x16x128 .f32) (w : FVec Ideal S128x32 .f32) :
    FVec Ideal S2x1024x16x32 .f32 :=
  Host.dotGeneral dot_S2x1024x16x128_S128x32_S2x1024x16x32_3_0_012_1_n_n none
    (subf (broadcastInDim S2x1024x16x128 ![0, 1, 2, 3] bcast_S2x1024x1x128_S2x1024x16x128_0_1_2_3
        (broadcastInDim S2x1024x1x128 ![0, 1, 3] bcast_S2x1024x128_S2x1024x1x128_0_1_3 x))
      (broadcastInDim S2x1024x16x128 ![0, 1, 2, 3] bcast_S2x1x16x128_S2x1024x16x128_0_1_2_3
        (broadcastInDim S2x1x16x128 ![0, 2, 3] bcast_S2x16x128_S2x1x16x128_0_2_3 ef))) w

/-- The reference's result, of a cloud and the rows taken of its three clouds. -/
def outOf (x : FVec Ideal S2x1024x128 .f32) (ef : FVec Ideal S2x16x128 .f32) (km vm : FVec Ideal S2x16x32 .f32)
    (gq gpe : FVec Ideal S128x32 .f32) (gsa1 : FVec Ideal S32x1 .f32) (gsa2 : FVec Ideal S32x128 .f32) : FVec Ideal S2x1024x128 .f32 :=
  addf x (Host.dotGeneral dot_S2x1024x32_S32x128_S2x1024x128_2_0_01_1_n_n none
    (weighted (logits (Host.dotGeneral dot_S2x1024x128_S128x32_S2x1024x32_2_0_01_1_n_n none x gq) (every km) (gOffsets x ef gpe) gsa1)
      (addf (every vm) (gOffsets x ef gpe))) gsa2)

/-- The program's value is this. -/
theorem result_is (s : State Ideal) (a8 a11 a12 a13) : R_main_v160 s a8 a11 a12 a13
    = outOf s.main_v111_2 (rows128 s.main_v111_2 s.main_v111_3) (rows32 s.main_v111_6 s.main_v111_7)
      (rows32 s.main_v111_10 s.main_v111_11) a8 a11 a12 a13 := by
  chain_rfl

section

variable {x : FVec Ideal S2x1024x128 .f32} {ef : FVec Ideal S2x16x128 .f32} {km vm : FVec Ideal S2x16x32 .f32}
  {gq gpe : FVec Ideal S128x32 .f32} {gsa1 : FVec Ideal S32x1 .f32} {X : Fin 2 → Fin 1024 → Fin 128 → ℝ}
  {EF : Fin 2 → Fin 16 → Fin 128 → ℝ} {KM VM : Fin 2 → Fin 16 → Fin 32 → ℝ} {Q G : Fin 128 → Fin 32 → ℝ} {A : Fin 32 → Fin 1 → ℝ}

theorem every_at (v : FVec Ideal S2x16x32 .f32) (b : Fin 2) (n : Fin 1024) (m : Fin 16) (c : Fin 32) :
    every v (ix4 b n m c) = v (ix3 b m c) := by
  pointwise [every]

theorem gOffsets_coe (hx : ∀ b n f, x (ix3 b n f) = ((X b n f : ℝ) : EReal)) (hef : ∀ b m f, ef (ix3 b m f) = ((EF b m f : ℝ) : EReal))
    (hg : ∀ f c, gpe (ix2 f c) = ((G f c : ℝ) : EReal)) (b : Fin 2) (n : Fin 1024) (m : Fin 16) (c : Fin 32) :
    gOffsets x ef gpe (ix4 b n m c) = ((gOff (X b) (EF b) G n m c : ℝ) : EReal) := by
  pointwise [gOffsets]
  simp only [hx, hef, hg, ← EReal.coe_sub, ← EReal.coe_mul, coe_sum]
  rfl

/-- The reference's result at an entry: the attention's row after the last product, added to the cloud. -/
theorem outOf_at (hx : ∀ b n f, x (ix3 b n f) = ((X b n f : ℝ) : EReal)) (hef : ∀ b m f, ef (ix3 b m f) = ((EF b m f : ℝ) : EReal))
    (hkm : ∀ b m c, km (ix3 b m c) = ((KM b m c : ℝ) : EReal)) (hvm : ∀ b m c, vm (ix3 b m c) = ((VM b m c : ℝ) : EReal))
    (hq : ∀ f c, gq (ix2 f c) = ((Q f c : ℝ) : EReal)) (hg : ∀ f c, gpe (ix2 f c) = ((G f c : ℝ) : EReal))
    (ha : ∀ i j, gsa1 (ix2 i j) = ((A i j : ℝ) : EReal)) (gsa2 : FVec Ideal S32x128 .f32) (b : Fin 2) (n : Fin 1024) (j : Fin 128) :
    outOf x ef km vm gq gpe gsa1 gsa2 (ix3 b n j)
      = x (ix3 b n j) + ∑ c, ((Spec.gRow (X b) (EF b) (KM b) (VM b) G A c : ℝ) : EReal) * gsa2 (ix2 c j) := by
  have ho := gOffsets_coe hx hef hg
  have hl := logits_coe (dot128_32_coe hx hq) (fun b n m c => (every_at km b n m c).trans (hkm b m c)) ho ha
  have hval : ∀ b n m c, addf (every vm) (gOffsets x ef gpe) (ix4 b n m c) = _ :=
    fun b n m c => (congrArg₂ (· + ·) ((every_at vm b n m c).trans (hvm b m c)) (ho b n m c)).trans (EReal.coe_add _ _).symm
  have hw := weighted_coe hl hval
  simp only [gWeights_eq, gRow_eq] at hw
  unfold outOf
  generalize weighted _ _ = w at hw ⊢
  pointwise
  simp only [hw]
  rfl

end

end Cert.ReferenceIdeal.Value
end
-- ==== Proof.Agree.lean ====
module

public import proofs.«01_k».proof.Proof.GlobalReference
public import proofs.«01_k».proof.Proof.KernelValue

/-! On real arguments the kernel's result and the reference's are equal. -/

@[expose] public section

set_option maxRecDepth 16384

noncomputable section

namespace Cert.ReferenceIdeal.Value

open Cert.ReferenceIdeal Cert.ReferenceIdeal.Gen Cert.ReferenceIdeal.Step Cert.RealLift Cert.Spec Idealize.ShloMosaic
open Cert.KernelIdeal.Model (InB Samp Wd walk taken taken128 taken32 sorted16 nth picked128 picked32 dist128 dist32 mean128 mean32
  rowAt128 rowAt32 batch wholeOut proj)

/-! ### The rows taken -/

theorem sortedRow_nth (idx : IVec S2x16 32) (b : Fin 2) (m : Fin 16) :
    nth (sortedRow idx b) m = Host.sort S2x16 1 comparator_i32_d1 idx (ix2 b m) := by
  unfold sortedRow
  generalize Host.sort S2x16 1 comparator_i32_d1 idx = s
  simp only [nth, List.getD_eq_getElem?_getD, List.getElem?_ofFn, m.isLt, ↓reduceDIte, Option.getD_some]

/-- After sixteen trips the reference's sorted words are the kernel's, all below 1024. -/
theorem Follows.words {b : Fin 2} {d : Wd → FVec Ideal Cert.KernelIdeal.S1024x1 .f32} {e : FVec Ideal Cert.KernelIdeal.S1024x1 .f32}
    {idx : IVec S2x16 32} {dist : FVec Ideal S2x1024 .f32} {far : IVec S2x1 32} (h : Follows b d (Samp.start e) 16 idx dist far)
    (m : Fin 16) : nth (sorted16 (taken d 15 (Samp.start e) [])) m = Host.sort S2x16 1 comparator_i32_d1 idx (ix2 b m)
      ∧ InB (Host.sort S2x16 1 comparator_i32_d1 idx (ix2 b m)) := by
  have e1 : nth (sorted16 (taken d 15 (Samp.start e) [])) m = Host.sort S2x16 1 comparator_i32_d1 idx (ix2 b m) := by
    rw [h.sorted, sortedRow_nth]
  refine ⟨e1, ?_⟩
  rw [← e1]
  have h0 : InB 0 := by unfold InB; decide
  exact Cert.KernelIdeal.Model.nth_all h0 _ (Cert.KernelIdeal.Model.sorted16_all h0 _
    (Cert.KernelIdeal.Model.taken_all (P := InB) Cert.KernelIdeal.Model.farOf_lt d 15 (Samp.start e) (start_inB e) []
      (fun w h => absurd h List.not_mem_nil))) _

/-- Both programs take the same rows of a cloud of 128 columns. -/
theorem rows128_eq {b : Fin 2} {x : FVec Ideal S2x1024x128 .f32} {x' : FVec Ideal Cert.KernelIdeal.S1024x128 .f32} {idx : IVec S2x16 32}
    {dist : FVec Ideal S2x1024 .f32} {far : IVec S2x1 32} (hx : ∀ n c, x (ix3 b n c) = x' (ix2 n c))
    (h : Follows b (fun w => dist128 x' (rowAt128 x' w)) (Samp.start (dist128 x' (mean128 x'))) 16 idx dist far) (m : Fin 16) (c : Fin 128) :
    rows128 x idx (ix3 b m c) = picked128 x' (ix2 m c) := by
  obtain ⟨h1, h2⟩ := h.words m
  rw [rows128_at x idx b m c h2, hx, Cert.KernelIdeal.Model.picked128_at]
  unfold taken128
  rw [h1]

theorem rows32_eq {b : Fin 2} {x : FVec Ideal S2x1024x32 .f32} {x' : FVec Ideal Cert.KernelIdeal.S1024x32 .f32} {idx : IVec S2x16 32}
    {dist : FVec Ideal S2x1024 .f32} {far : IVec S2x1 32} (hx : ∀ n c, x (ix3 b n c) = x' (ix2 n c))
    (h : Follows b (fun w => dist32 x' (rowAt32 x' w)) (Samp.start (dist32 x' (mean32 x'))) 16 idx dist far) (m : Fin 16) (c : Fin 32) :
    rows32 x idx (ix3 b m c) = picked32 x' (ix2 m c) := by
  obtain ⟨h1, h2⟩ := h.words m
  rw [rows32_at x idx b m c h2, hx, Cert.KernelIdeal.Model.picked32_at]
  unfold taken32
  rw [h1]

/-- The reference's result of its three clouds: those, and the rows its sixteen trips take of them. -/
theorem result_trips (s : State Ideal) (a8 a11 a12 a13) : R_main_v160 (trips s 16) a8 a11 a12 a13
    = outOf s.main_v111_2 (rows128 s.main_v111_2 (trips s 16).main_v111_3) (rows32 s.main_v111_6 (trips s 16).main_v111_7)
      (rows32 s.main_v111_10 (trips s 16).main_v111_11) a8 a11 a12 a13 := by
  obtain ⟨h1, h2, h3⟩ := trips_kept s 16
  rw [result_is, h1, h2, h3]

/-- A real array's entry picked is real. -/
theorem picked128_coe {x : FVec Ideal Cert.KernelIdeal.S1024x128 .f32} {X : Fin 1024 → Fin 128 → ℝ}
    (hx : ∀ n c, x (ix2 n c) = ((X n c : ℝ) : EReal)) (m : Fin 16) (c : Fin 128) :
    picked128 x (ix2 m c) = ((X (Fin.ofNat 1024 (nth (sorted16 (taken128 x)) m).toNat) c : ℝ) : EReal) := by
  rw [Cert.KernelIdeal.Model.picked128_at, hx]

theorem picked32_coe {x : FVec Ideal Cert.KernelIdeal.S1024x32 .f32} {X : Fin 1024 → Fin 32 → ℝ}
    (hx : ∀ n c, x (ix2 n c) = ((X n c : ℝ) : EReal)) (m : Fin 16) (c : Fin 32) :
    picked32 x (ix2 m c) = ((X (Fin.ofNat 1024 (nth (sorted16 (taken32 x)) m).toNat) c : ℝ) : EReal) := by
  rw [Cert.KernelIdeal.Model.picked32_at, hx]

/-! ### The state before the trips -/

section

variable (a0 : FVec Ideal S2x1024x4 .f32) (a1 : FVec Ideal S4x128 .f32) (a2 : FVec Ideal S4x32 .f32)
  (a3 a4 a5 : FVec Ideal S128x32 .f32) (a6 : FVec Ideal S32x1 .f32) (a7 : FVec Ideal S32x128 .f32) (a9 a10 : FVec Ideal S128x32 .f32)

/-- The projection of a cloud. -/
def projected (x : FVec Ideal S2x1024x128 .f32) (w : FVec Ideal S128x32 .f32) : FVec Ideal S2x1024x32 .f32 :=
  Host.dotGeneral dot_S2x1024x128_S128x32_S2x1024x32_2_0_01_1_n_n none x w

theorem init_lx : (init (F := Ideal) a0 a1 a2 a3 a4 a5 a6 a7 a9 a10).main_v111_2 = lxOut a0 a1 a2 a3 a4 a5 a6 a7 := by
  unfold init
  exact lxOut_is a0 a1 a2 a3 a4 a5 a6 a7 a9 a10

theorem init_kg : (init (F := Ideal) a0 a1 a2 a3 a4 a5 a6 a7 a9 a10).main_v111_6
    = projected (init (F := Ideal) a0 a1 a2 a3 a4 a5 a6 a7 a9 a10).main_v111_2 a9 := by chain_rfl

theorem init_vg : (init (F := Ideal) a0 a1 a2 a3 a4 a5 a6 a7 a9 a10).main_v111_10
    = projected (init (F := Ideal) a0 a1 a2 a3 a4 a5 a6 a7 a9 a10).main_v111_2 a10 := by chain_rfl

/-- The distances before the first trip. -/
def dist0 : FVec Ideal S2x1024 .f32 := broadcastInDim S2x1024 ![] bcast_S_S2x1024 (constant S_ .f32 0x501502F9#32)

theorem init_lx_state (s) (hs : s = init (F := Ideal) a0 a1 a2 a3 a4 a5 a6 a7 a9 a10) :
    s.main_v111_4 = dist0 ∧ s.main_v111_5 = topIdx (away128 s.main_v111_2 (centre128 s.main_v111_2)) := by
  subst hs; constructor <;> chain_rfl

theorem init_kg_state (s) (hs : s = init (F := Ideal) a0 a1 a2 a3 a4 a5 a6 a7 a9 a10) :
    s.main_v111_8 = dist0 ∧ s.main_v111_9 = topIdx (away32 s.main_v111_6 (centre32 s.main_v111_6)) := by
  subst hs; constructor <;> chain_rfl

theorem init_vg_state (s) (hs : s = init (F := Ideal) a0 a1 a2 a3 a4 a5 a6 a7 a9 a10) :
    s.main_v111_12 = dist0 ∧ s.main_v111_13 = topIdx (away32 s.main_v111_10 (centre32 s.main_v111_10)) := by
  subst hs; constructor <;> chain_rfl

end

/-! ### The results -/

theorem kernel_at (x : FVec Ideal Cert.KernelIdeal.S1024x128 .f32) (g : FVec Ideal Cert.KernelIdeal.S1x128 .f32) (n : Fin 1024) (j : Fin 128) :
    Cert.KernelIdeal.Model.outOf x g (ix3 0 n j) = x (ix2 n j) + g (ix2 0 j) := by
  pointwise [Cert.KernelIdeal.Model.outOf]

section

variable {a0 : FVec Ideal S2x1024x4 .f32} {a1 : FVec Ideal S4x128 .f32} {a2 : FVec Ideal S4x32 .f32}
  {a3 a4 a5 : FVec Ideal S128x32 .f32} {a6 : FVec Ideal S32x1 .f32} {a7 : FVec Ideal S32x128 .f32}
  {a8 a9 a10 a11 : FVec Ideal S128x32 .f32} {a12 : FVec Ideal S32x1 .f32}
  {X : Fin 2 → Fin 1024 → Fin 4 → ℝ} {M : Fin 4 → Fin 128 → ℝ} {P : Fin 4 → Fin 32 → ℝ} {Q K V : Fin 128 → Fin 32 → ℝ}
  {A : Fin 32 → Fin 1 → ℝ} {B : Fin 32 → Fin 128 → ℝ} {GQ GK GV G : Fin 128 → Fin 32 → ℝ} {GA : Fin 32 → Fin 1 → ℝ}

/-- On real arguments, the last one arbitrary, the two results are equal. -/
theorem agree (h0 : ∀ b n f, a0 (ix3 b n f) = ((X b n f : ℝ) : EReal)) (h1 : ∀ i j, a1 (ix2 i j) = ((M i j : ℝ) : EReal))
    (h2 : ∀ i j, a2 (ix2 i j) = ((P i j : ℝ) : EReal)) (h3 : ∀ i j, a3 (ix2 i j) = ((Q i j : ℝ) : EReal))
    (h4 : ∀ i j, a4 (ix2 i j) = ((K i j : ℝ) : EReal)) (h5 : ∀ i j, a5 (ix2 i j) = ((V i j : ℝ) : EReal))
    (h6 : ∀ i j, a6 (ix2 i j) = ((A i j : ℝ) : EReal)) (h7 : ∀ i j, a7 (ix2 i j) = ((B i j : ℝ) : EReal))
    (h8 : ∀ i j, a8 (ix2 i j) = ((GQ i j : ℝ) : EReal)) (h9 : ∀ i j, a9 (ix2 i j) = ((GK i j : ℝ) : EReal))
    (h10 : ∀ i j, a10 (ix2 i j) = ((GV i j : ℝ) : EReal)) (h11 : ∀ i j, a11 (ix2 i j) = ((G i j : ℝ) : EReal))
    (h12 : ∀ i j, a12 (ix2 i j) = ((GA i j : ℝ) : EReal)) (a13 : FVec Ideal S32x128 .f32) :
    wholeOut a0 a1 a2 a4 a5 a6 a7 a9 a10 a11 a12 a13
      = R_main_v160 (trips (init a0 a1 a2 a3 a4 a5 a6 a7 a9 a10) 16) a8 a11 a12 a13 := by
  obtain ⟨s, hs⟩ : ∃ s, s = init (F := Ideal) a0 a1 a2 a3 a4 a5 a6 a7 a9 a10 := ⟨_, rfl⟩
  -- the local attention
  have hlx : ∀ b n j, s.main_v111_2 (ix3 b n j) = ((Spec.lxOut (X b) P M K V A B n j : ℝ) : EReal) := by
    rw [hs, init_lx]; exact lxOut_coe h0 h1 h2 h3 h4 h5 h6 h7
  obtain ⟨x', hx'⟩ : ∃ x' : Fin 2 → FVec Ideal Cert.KernelIdeal.S1024x128 .f32,
    ∀ b, x' b = Cert.KernelIdeal.Model.lxOut (batch a0 b) a2 a1 a4 a5 a6 a7 := ⟨_, fun _ => rfl⟩
  have hlx' : ∀ b n j, x' b (ix2 n j) = ((Spec.lxOut (X b) P M K V A B n j : ℝ) : EReal) := by
    intro b; rw [hx']
    exact Cert.KernelIdeal.Model.lxOut_coe (fun n f => h0 b n f) h2 h1 h4 h5 h6 h7
  have hx : ∀ b n c, s.main_v111_2 (ix3 b n c) = x' b (ix2 n c) := fun b n c => (hlx b n c).trans (hlx' b n c).symm
  -- the keys and values
  have hkg : ∀ b n c, s.main_v111_6 (ix3 b n c) = ((mm (Spec.lxOut (X b) P M K V A B) GK n c : ℝ) : EReal) := by
    rw [hs, init_kg, ← hs]; exact dot128_32_coe hlx h9
  have hvg : ∀ b n c, s.main_v111_10 (ix3 b n c) = ((mm (Spec.lxOut (X b) P M K V A B) GV n c : ℝ) : EReal) := by
    rw [hs, init_vg, ← hs]; exact dot128_32_coe hlx h10
  have hkg' : ∀ b n c, proj (x' b) a9 (ix2 n c) = ((mm (Spec.lxOut (X b) P M K V A B) GK n c : ℝ) : EReal) := fun b =>
    Cert.KernelIdeal.Model.proj_coe (hlx' b) h9
  have hvg' : ∀ b n c, proj (x' b) a10 (ix2 n c) = ((mm (Spec.lxOut (X b) P M K V A B) GV n c : ℝ) : EReal) := fun b =>
    Cert.KernelIdeal.Model.proj_coe (hlx' b) h10
  have hy : ∀ b n c, s.main_v111_6 (ix3 b n c) = proj (x' b) a9 (ix2 n c) := fun b n c => (hkg b n c).trans (hkg' b n c).symm
  have hz : ∀ b n c, s.main_v111_10 (ix3 b n c) = proj (x' b) a10 (ix2 n c) := fun b n c => (hvg b n c).trans (hvg' b n c).symm
  -- the rows taken
  have hef : ∀ b m c, rows128 s.main_v111_2 (trips s 16).main_v111_3 (ix3 b m c) = picked128 (x' b) (ix2 m c) := fun b => by
    obtain ⟨e1, e2⟩ := init_lx_state _ _ _ _ _ _ _ _ _ _ s hs
    refine rows128_eq (hx b) (follows_lx s (hx b) ?_ 16 le_rfl)
    rw [e1, e2]
    exact Follows.start (away128_eq (hx b) (centre128_eq (hx b))) _
  have hkm : ∀ b m c, rows32 s.main_v111_6 (trips s 16).main_v111_7 (ix3 b m c) = picked32 (proj (x' b) a9) (ix2 m c) := fun b => by
    obtain ⟨e1, e2⟩ := init_kg_state _ _ _ _ _ _ _ _ _ _ s hs
    refine rows32_eq (hy b) (follows_kg s (hy b) ?_ 16 le_rfl)
    rw [e1, e2]
    exact Follows.start (away32_eq (hy b) (centre32_eq (hy b))) _
  have hvm : ∀ b m c, rows32 s.main_v111_10 (trips s 16).main_v111_11 (ix3 b m c) = picked32 (proj (x' b) a10) (ix2 m c) := fun b => by
    obtain ⟨e1, e2⟩ := init_vg_state _ _ _ _ _ _ _ _ _ _ s hs
    refine rows32_eq (hz b) (follows_vg s (hz b) ?_ 16 le_rfl)
    rw [e1, e2]
    exact Follows.start (away32_eq (hz b) (centre32_eq (hz b))) _
  -- the global attention
  have pef := fun b => picked128_coe (hlx' b)
  have pkm := fun b => picked32_coe (hkg' b)
  have pvm := fun b => picked32_coe (hvg' b)
  rw [← hs, result_trips]
  funext i
  obtain ⟨b, n, j, rfl⟩ : ∃ b n j, i = ix3 b n j := ⟨i 0, i 1, i 2, eq_ix3 i⟩
  rw [outOf_at hlx (fun b m c => (hef b m c).trans (pef b m c)) (fun b m c => (hkm b m c).trans (pkm b m c))
    (fun b m c => (hvm b m c).trans (pvm b m c)) h8 h11 h12 a13 b n j, hx b n j,
    ← Cert.KernelIdeal.Model.gRow_at (hlx' b) (pef b) (pkm b) (pvm b) h11 h12 a13 j, ← kernel_at, hx']
  rfl

end

end Cert.ReferenceIdeal.Value
end
-- ==== Proof.Finite.lean ====
module

public import proofs.«01_k».proof.Defs
public import proofs.«01_k».proof.Proof.Gen.Pre_finite_arguments
public import Idealize.ShloMosaic.Lib.Pointwise

/-! An entry whose absolute value is below plus infinity is a real number. -/

@[expose] public section

noncomputable section

namespace Cert.Finite

open Idealize.ShloMosaic

theorem top_bits : Ideal.ofBits .f32 0x7F800000#32 = (⊤ : EReal) := by simp [Ideal.ofBits, Ideal.ieee]

theorem real_of {s : Shape} {h : (⟨0, ![]⟩ : Shape).BroadcastsInDim s (![] : Fin 0 → Fin s.rank)} (x : FVec Ideal s .f32)
    (hx : cmpf .olt (Host.absf x) (broadcastInDim s ![] h (constant (⟨0, ![]⟩ : Shape) .f32 0x7F800000#32)) = fun _ => 1#1) (i : s.Idx) :
    x i = (((x i : EReal).toReal : ℝ) : EReal) := by
  have h1 : BitVec.ofBool (decide (max (x i : EReal) (-(x i : EReal)) < Ideal.ofBits .f32 0x7F800000#32)) = 1#1 := congrFun hx i
  have h2 : max (x i : EReal) (-(x i : EReal)) < ⊤ := by
    rw [top_bits] at h1
    by_contra hc
    rw [decide_eq_false hc] at h1
    exact absurd h1 (by decide)
  refine (EReal.coe_toReal ?_ ?_).symm
  · intro e
    have e : (x i : EReal) = ⊤ := e
    rw [e] at h2; simp at h2
  · intro e
    have e : (x i : EReal) = ⊥ := e
    rw [e] at h2; simp at h2

end Cert.Finite
end
-- ==== Proof.Algebraic.lean ====
module

public import proofs.«01_k».proof.Proof.Frames
public import proofs.«01_k».proof.Proof.Agree
public import proofs.«01_k».proof.Proof.Finite

/-! The value claim: on finite arguments the kernel's result and the reference's are equal, entry by entry. -/

@[expose] public section

set_option maxRecDepth 16384

noncomputable section

open Idealize.ShloMosaic Idealize.ShloMosaic.TcCoe Idealize.SL.Sem

namespace Cert.Proof

/-- The value claim. -/
theorem algebraic : Cert.algebraic_KernelIdeal_ReferenceIdeal_pre_finite_arguments (hKernelIdeal := Cert.KernelIdeal.Gen.facts)
    (hReferenceIdeal := Cert.ReferenceIdeal.Gen.facts) (hPre_finite_arguments := Cert.Pre_finite_arguments.Gen.facts) := by
  intro m g m' g' hpre hargs
  refine ⟨fun c => _, (θ_run _ _ _).mono (fun _ h => h.1)
    (Cert.KernelIdeal.Model.run_value (F := Ideal) m g Cert.KernelIdeal.Model.farOf_lt), ?_⟩
  refine (θ_run _ _ _).mono (fun r h c => ⟨(h c).1.trans ?_, (h c).2⟩)
    (Cert.ReferenceIdeal.StepRun.run_iter (F := Ideal) m' g' (fun c => Cert.ReferenceIdeal.Value.trips (Cert.ReferenceIdeal.StepRun.initState m' c)) (fun _ => rfl) (fun _ _ => rfl))
  obtain ⟨e0, e1, e2, e3, e4, e5, e6, e7, e8, e9, e10, e11, e12, e13⟩ := hargs c
  obtain ⟨p0, p1, p2, p3, p4, p5, p6, p7, p8, p9, p10, p11, p12⟩ := hpre c
  rw [e8, e11, e12, e13]
  unfold Cert.ReferenceIdeal.StepRun.initState
  rw [e0, e1, e2, e3, e4, e5, e6, e7, e9, e10]
  exact (Cert.ReferenceIdeal.Value.agree (fun b n f => Cert.Finite.real_of (m ((c.tc : Thread Cert.KernelIdeal.nD Cert.KernelIdeal.τ).loc Cert.KernelIdeal.main_arg0)) p0 (ix3 b n f))
    (fun i j => Cert.Finite.real_of (m ((c.tc : Thread Cert.KernelIdeal.nD Cert.KernelIdeal.τ).loc Cert.KernelIdeal.main_arg1)) p1 (ix2 i j))
    (fun i j => Cert.Finite.real_of (m ((c.tc : Thread Cert.KernelIdeal.nD Cert.KernelIdeal.τ).loc Cert.KernelIdeal.main_arg2)) p2 (ix2 i j))
    (fun i j => Cert.Finite.real_of (m ((c.tc : Thread Cert.KernelIdeal.nD Cert.KernelIdeal.τ).loc Cert.KernelIdeal.main_arg3)) p3 (ix2 i j))
    (fun i j => Cert.Finite.real_of (m ((c.tc : Thread Cert.KernelIdeal.nD Cert.KernelIdeal.τ).loc Cert.KernelIdeal.main_arg4)) p4 (ix2 i j))
    (fun i j => Cert.Finite.real_of (m ((c.tc : Thread Cert.KernelIdeal.nD Cert.KernelIdeal.τ).loc Cert.KernelIdeal.main_arg5)) p5 (ix2 i j))
    (fun i j => Cert.Finite.real_of (m ((c.tc : Thread Cert.KernelIdeal.nD Cert.KernelIdeal.τ).loc Cert.KernelIdeal.main_arg6)) p6 (ix2 i j))
    (fun i j => Cert.Finite.real_of (m ((c.tc : Thread Cert.KernelIdeal.nD Cert.KernelIdeal.τ).loc Cert.KernelIdeal.main_arg7)) p7 (ix2 i j))
    (fun i j => Cert.Finite.real_of (m ((c.tc : Thread Cert.KernelIdeal.nD Cert.KernelIdeal.τ).loc Cert.KernelIdeal.main_arg8)) p8 (ix2 i j))
    (fun i j => Cert.Finite.real_of (m ((c.tc : Thread Cert.KernelIdeal.nD Cert.KernelIdeal.τ).loc Cert.KernelIdeal.main_arg9)) p9 (ix2 i j))
    (fun i j => Cert.Finite.real_of (m ((c.tc : Thread Cert.KernelIdeal.nD Cert.KernelIdeal.τ).loc Cert.KernelIdeal.main_arg10)) p10 (ix2 i j))
    (fun i j => Cert.Finite.real_of (m ((c.tc : Thread Cert.KernelIdeal.nD Cert.KernelIdeal.τ).loc Cert.KernelIdeal.main_arg11)) p11 (ix2 i j))
    (fun i j => Cert.Finite.real_of (m ((c.tc : Thread Cert.KernelIdeal.nD Cert.KernelIdeal.τ).loc Cert.KernelIdeal.main_arg12)) p12 (ix2 i j))
    _).symm

end Cert.Proof

end
-- ==== Proof.lean ====
module

public import proofs.«01_k».proof.Proof.Frames
public import proofs.«01_k».proof.Proof.Algebraic

@[expose] public section

noncomputable section

namespace Cert.Proof

theorem claim : Cert.Claim :=
  ⟨Cert.KernelIdeal.Gen.facts, Cert.ReferenceIdeal.Gen.facts, Cert.Pre_finite_arguments.Gen.facts, frame_kernel, frame_kernel_finite,
    frame_reference, frame_reference_finite, algebraic⟩

end Cert.Proof

end
